-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 1024]⟩ ⟨3, ![4, 4096, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![4096, 1024]⟩ (Layout.meshBlock [2, 4, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x1024 : Shape := ⟨3, ![1, 4096, 1024]⟩
abbrev S1024 : Shape := ⟨1, ![1024]⟩
abbrev S1024x1024 : Shape := ⟨2, ![1024, 1024]⟩
abbrev S3x1024x128 : Shape := ⟨3, ![3, 1024, 128]⟩
abbrev S2x3 : Shape := ⟨2, ![2, 3]⟩
abbrev S2x4 : Shape := ⟨2, ![2, 4]⟩
abbrev S_ : Shape := ⟨0, ![]⟩
abbrev S1x1 : Shape := ⟨2, ![1, 1]⟩
abbrev S1x512x128 : Shape := ⟨3, ![1, 512, 128]⟩
abbrev S512x128 : Shape := ⟨2, ![512, 128]⟩
abbrev S1024x128 : Shape := ⟨2, ![1024, 128]⟩
abbrev S1024x1 : Shape := ⟨2, ![1024, 1]⟩
abbrev S512x1 : Shape := ⟨2, ![512, 1]⟩
abbrev S512 : Shape := ⟨1, ![512]⟩
abbrev S512x1024 : Shape := ⟨2, ![512, 1024]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x1024, .f32⟩
  | .local _ .vmem, ⟨0, _⟩ => ⟨S1x4096x1024, .f32⟩
  | .local _ .vmem, ⟨1, _⟩ => ⟨S1024, .f32⟩
  | .local _ .vmem, ⟨2, _⟩ => ⟨S1024x1024, .f32⟩
  | .local _ .vmem, ⟨3, _⟩ => ⟨S3x1024x128, .f32⟩
  | .local _ .vmem, ⟨4, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 2 47 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32_51 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_50 : BitVec 32 := 16#32
  let v99 : BitVec 32 := Scalar.muli v2 c16_i32_50
  let v100 : BitVec 32 := Scalar.addi c0_i32_51 v99
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_52 : BitVec 32 := 4#32
  let v101 : BitVec 32 := Scalar.muli v5 c4_i32_52
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_53 : BitVec 32 := 1#32
  let v103 : BitVec 32 := Scalar.muli v20 c1_i32_53
  let v104 : BitVec 32 := Scalar.addi v102 v103
  v104.toNat
def k0_dev2 (d0 : Dev nD) : Nat :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_55 : BitVec 32 := 16#32
  let v105 : BitVec 32 := Scalar.muli v2 c16_i32_55
  let v106 : BitVec 32 := Scalar.addi c0_i32_56 v105
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_57 : BitVec 32 := 4#32
  let v107 : BitVec 32 := Scalar.muli v5 c4_i32_57
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_58 : BitVec 32 := 1#32
  let v109 : BitVec 32 := Scalar.muli v31 c1_i32_58
  let v110 : BitVec 32 := Scalar.addi v108 v109
  v110.toNat
def k0_dev3 (d0 : Dev nD) : Nat :=
  let c0_i32_62 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c16_i32_61 : BitVec 32 := 16#32
  let v111 : BitVec 32 := Scalar.muli v62 c16_i32_61
  let v112 : BitVec 32 := Scalar.addi c0_i32_62 v111
  let c4_i32_30 : BitVec 32 := 4#32
  let v63 : BitVec 1 := Scalar.cmpi .slt v45 c4_i32_30
  let c7_i32_31 : BitVec 32 := 7#32
  let v64 : BitVec 32 := Scalar.subi c7_i32_31 v45
  let v65 : BitVec 32 := Scalar.select v63 v45 v64
  let c4_i32_63 : BitVec 32 := 4#32
  let v113 : BitVec 32 := Scalar.muli v65 c4_i32_63
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v115 : BitVec 32 := Scalar.muli v8 c1_i32_64
  let v116 : BitVec 32 := Scalar.addi v114 v115
  v116.toNat
def k0_dev4 (d0 : Dev nD) : Nat :=
  let c0_i32_67 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let c16_i32_66 : BitVec 32 := 16#32
  let v117 : BitVec 32 := Scalar.muli v94 c16_i32_66
  let v118 : BitVec 32 := Scalar.addi c0_i32_67 v117
  let c4_i32_47 : BitVec 32 := 4#32
  let v95 : BitVec 1 := Scalar.cmpi .slt v77 c4_i32_47
  let c7_i32_48 : BitVec 32 := 7#32
  let v96 : BitVec 32 := Scalar.subi c7_i32_48 v77
  let v97 : BitVec 32 := Scalar.select v95 v77 v96
  let c4_i32_68 : BitVec 32 := 4#32
  let v119 : BitVec 32 := Scalar.muli v97 c4_i32_68
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v121 : BitVec 32 := Scalar.muli v8 c1_i32_69
  let v122 : BitVec 32 := Scalar.addi v120 v121
  v122.toNat
def k0_off1 (d0 : Dev nD) (c0_i32_70 : BitVec 32) : Fin 3 → Nat :=
  let c0_i32_71 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1024_i32 : BitVec 32 := 1024#32
  let v124 : BitVec 32 := Scalar.muli v20 c1024_i32
  let v125 : BitVec 32 := Scalar.addi v124 c0_i32_70
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c128_i32 : BitVec 32 := 128#32
  let v123 : BitVec 32 := Scalar.muli v34 c128_i32
  ![0, v125.toNat, v123.toNat]
def k0_dev5 (d0 : Dev nD) : Nat :=
  let c0_i32_78 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_77 : BitVec 32 := 16#32
  let v126 : BitVec 32 := Scalar.muli v2 c16_i32_77
  let v127 : BitVec 32 := Scalar.addi c0_i32_78 v126
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_79 : BitVec 32 := 4#32
  let v128 : BitVec 32 := Scalar.muli v5 c4_i32_79
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_80 : BitVec 32 := 1#32
  let v130 : BitVec 32 := Scalar.muli v31 c1_i32_80
  let v131 : BitVec 32 := Scalar.addi v129 v130
  v131.toNat
def k0_dev6 (d0 : Dev nD) : Nat :=
  let c0_i32_91 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_90 : BitVec 32 := 16#32
  let v142 : BitVec 32 := Scalar.muli v2 c16_i32_90
  let v143 : BitVec 32 := Scalar.addi c0_i32_91 v142
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_92 : BitVec 32 := 4#32
  let v144 : BitVec 32 := Scalar.muli v5 c4_i32_92
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_93 : BitVec 32 := 1#32
  let v146 : BitVec 32 := Scalar.muli v31 c1_i32_93
  let v147 : BitVec 32 := Scalar.addi v145 v146
  v147.toNat
def k0_off2 (d0 : Dev nD) (c0_i32_97 : BitVec 32) (c0_i32_118 : BitVec 32) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8_i32_96 : BitVec 32 := 8#32
  let v156 : BitVec 32 := Scalar.addi v8 c8_i32_96
  let v157 : BitVec 32 := Scalar.subi v156 c0_i32_97
  let c2_i32_98 : BitVec 32 := 2#32
  let v158 : BitVec 32 := Scalar.subi v157 c2_i32_98
  let c4_i32_99 : BitVec 32 := 4#32
  let c0_i32_100 : BitVec 32 := 0#32
  let v159 : BitVec 1 := Scalar.cmpi .eq c4_i32_99 c0_i32_100
  let c1_i32_101 : BitVec 32 := 1#32
  let v160 : BitVec 32 := Scalar.select v159 c1_i32_101 c4_i32_99
  let v161 : BitVec 32 := Scalar.remsi v158 v160
  let c0_i32_103 : BitVec 32 := 0#32
  let v163 : BitVec 1 := Scalar.cmpi .slt v161 c0_i32_103
  let c0_i32_104 : BitVec 32 := 0#32
  let v164 : BitVec 1 := Scalar.cmpi .slt v160 c0_i32_104
  let v165 : BitVec 1 := Scalar.xori v163 v164
  let c0_i32_102 : BitVec 32 := 0#32
  let v162 : BitVec 1 := Scalar.cmpi .ne v161 c0_i32_102
  let v166 : BitVec 1 := Scalar.andi v165 v162
  let v167 : BitVec 32 := Scalar.addi v161 v160
  let v168 : BitVec 32 := Scalar.select v166 v167 v161
  let c1024_i32_117 : BitVec 32 := 1024#32
  let v181 : BitVec 32 := Scalar.muli v168 c1024_i32_117
  let v182 : BitVec 32 := Scalar.addi v181 c0_i32_118
  let v183 : Index := Scalar.indexCast v182
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c128_i32 : BitVec 32 := 128#32
  let v123 : BitVec 32 := Scalar.muli v34 c128_i32
  let v184 : Index := Scalar.indexCast v123
  ![0, v183.toNat, v184.toNat]
def k0_dev7 (d0 : Dev nD) : Nat :=
  let c0_i32_132 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_131 : BitVec 32 := 16#32
  let v193 : BitVec 32 := Scalar.muli v2 c16_i32_131
  let v194 : BitVec 32 := Scalar.addi c0_i32_132 v193
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_133 : BitVec 32 := 4#32
  let v195 : BitVec 32 := Scalar.muli v5 c4_i32_133
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_134 : BitVec 32 := 1#32
  let v197 : BitVec 32 := Scalar.muli v31 c1_i32_134
  let v198 : BitVec 32 := Scalar.addi v196 v197
  v198.toNat
def k0_dev8 (d0 : Dev nD) : Nat :=
  let c0_i32_166 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_165 : BitVec 32 := 16#32
  let v231 : BitVec 32 := Scalar.muli v2 c16_i32_165
  let v232 : BitVec 32 := Scalar.addi c0_i32_166 v231
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_167 : BitVec 32 := 4#32
  let v233 : BitVec 32 := Scalar.muli v5 c4_i32_167
  let v234 : BitVec 32 := Scalar.addi v232 v233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_168 : BitVec 32 := 1#32
  let v235 : BitVec 32 := Scalar.muli v31 c1_i32_168
  let v236 : BitVec 32 := Scalar.addi v234 v235
  v236.toNat
def k0_dev9 (d0 : Dev nD) : Nat :=
  let c0_i32_211 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_210 : BitVec 32 := 16#32
  let v282 : BitVec 32 := Scalar.muli v2 c16_i32_210
  let v283 : BitVec 32 := Scalar.addi c0_i32_211 v282
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_212 : BitVec 32 := 4#32
  let v284 : BitVec 32 := Scalar.muli v5 c4_i32_212
  let v285 : BitVec 32 := Scalar.addi v283 v284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_213 : BitVec 32 := 1#32
  let v286 : BitVec 32 := Scalar.muli v31 c1_i32_213
  let v287 : BitVec 32 := Scalar.addi v285 v286
  v287.toNat
def k0_dev10 (d0 : Dev nD) : Nat :=
  let c0_i32_248 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_247 : BitVec 32 := 16#32
  let v320 : BitVec 32 := Scalar.muli v2 c16_i32_247
  let v321 : BitVec 32 := Scalar.addi c0_i32_248 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_249 : BitVec 32 := 4#32
  let v322 : BitVec 32 := Scalar.muli v5 c4_i32_249
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_250 : BitVec 32 := 1#32
  let v324 : BitVec 32 := Scalar.muli v31 c1_i32_250
  let v325 : BitVec 32 := Scalar.addi v323 v324
  v325.toNat
def k0_off3 (d0 : Dev nD) (c0_i32_272 : BitVec 32) : Fin 3 → Nat :=
  let c0_273 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_271 : BitVec 32 := 1024#32
  let v346 : BitVec 32 := Scalar.muli v8 c1024_i32_271
  let v347 : BitVec 32 := Scalar.addi v346 c0_i32_272
  let v348 : Index := Scalar.indexCast v347
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c128_i32 : BitVec 32 := 128#32
  let v123 : BitVec 32 := Scalar.muli v34 c128_i32
  let v349 : Index := Scalar.indexCast v123
  ![0, v348.toNat, v349.toNat]
def k0_off4 (d0 : Dev nD) : Fin 2 → Nat :=
  let c0_276 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c128_i32 : BitVec 32 := 128#32
  let v123 : BitVec 32 := Scalar.muli v34 c128_i32
  let v355 : Index := Scalar.indexCast v123
  ![0, v355.toNat]
def k0_off5 (d0 : Dev nD) (c0_i32_277 : BitVec 32) : Fin 2 → Nat :=
  let c0_i32_300 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let v359 : BitVec 32 := Scalar.subi v34 c0_i32_277
  let c8_i32_285 : BitVec 32 := 8#32
  let c0_i32_286 : BitVec 32 := 0#32
  let v371 : BitVec 1 := Scalar.cmpi .eq c8_i32_285 c0_i32_286
  let c1_i32_287 : BitVec 32 := 1#32
  let v372 : BitVec 32 := Scalar.select v371 c1_i32_287 c8_i32_285
  let v373 : BitVec 32 := Scalar.remsi v359 v372
  let c0_i32_289 : BitVec 32 := 0#32
  let v375 : BitVec 1 := Scalar.cmpi .slt v373 c0_i32_289
  let c0_i32_290 : BitVec 32 := 0#32
  let v376 : BitVec 1 := Scalar.cmpi .slt v372 c0_i32_290
  let v377 : BitVec 1 := Scalar.xori v375 v376
  let c0_i32_288 : BitVec 32 := 0#32
  let v374 : BitVec 1 := Scalar.cmpi .ne v373 c0_i32_288
  let v378 : BitVec 1 := Scalar.andi v377 v374
  let v379 : BitVec 32 := Scalar.addi v373 v372
  let v380 : BitVec 32 := Scalar.select v378 v379 v373
  let c128_i32_291 : BitVec 32 := 128#32
  let v381 : BitVec 32 := Scalar.muli v380 c128_i32_291
  ![0, v381.toNat]
def k0_dev11 (d0 : Dev nD) : Nat :=
  let c0_i32_297 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c16_i32_296 : BitVec 32 := 16#32
  let v382 : BitVec 32 := Scalar.muli v62 c16_i32_296
  let v383 : BitVec 32 := Scalar.addi c0_i32_297 v382
  let c4_i32_30 : BitVec 32 := 4#32
  let v63 : BitVec 1 := Scalar.cmpi .slt v45 c4_i32_30
  let c7_i32_31 : BitVec 32 := 7#32
  let v64 : BitVec 32 := Scalar.subi c7_i32_31 v45
  let v65 : BitVec 32 := Scalar.select v63 v45 v64
  let c4_i32_298 : BitVec 32 := 4#32
  let v384 : BitVec 32 := Scalar.muli v65 c4_i32_298
  let v385 : BitVec 32 := Scalar.addi v383 v384
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_299 : BitVec 32 := 1#32
  let v386 : BitVec 32 := Scalar.muli v8 c1_i32_299
  let v387 : BitVec 32 := Scalar.addi v385 v386
  v387.toNat
def k0_off6 (d0 : Dev nD) (c0_i32_302 : BitVec 32) : Fin 2 → Nat :=
  let c0_i32_325 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let v394 : BitVec 32 := Scalar.addi v34 c0_i32_302
  let c8_i32_310 : BitVec 32 := 8#32
  let c0_i32_311 : BitVec 32 := 0#32
  let v406 : BitVec 1 := Scalar.cmpi .eq c8_i32_310 c0_i32_311
  let c1_i32_312 : BitVec 32 := 1#32
  let v407 : BitVec 32 := Scalar.select v406 c1_i32_312 c8_i32_310
  let v408 : BitVec 32 := Scalar.remsi v394 v407
  let c0_i32_314 : BitVec 32 := 0#32
  let v410 : BitVec 1 := Scalar.cmpi .slt v408 c0_i32_314
  let c0_i32_315 : BitVec 32 := 0#32
  let v411 : BitVec 1 := Scalar.cmpi .slt v407 c0_i32_315
  let v412 : BitVec 1 := Scalar.xori v410 v411
  let c0_i32_313 : BitVec 32 := 0#32
  let v409 : BitVec 1 := Scalar.cmpi .ne v408 c0_i32_313
  let v413 : BitVec 1 := Scalar.andi v412 v409
  let v414 : BitVec 32 := Scalar.addi v408 v407
  let v415 : BitVec 32 := Scalar.select v413 v414 v408
  let c128_i32_316 : BitVec 32 := 128#32
  let v416 : BitVec 32 := Scalar.muli v415 c128_i32_316
  ![0, v416.toNat]
def k0_dev12 (d0 : Dev nD) : Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let c16_i32_321 : BitVec 32 := 16#32
  let v417 : BitVec 32 := Scalar.muli v94 c16_i32_321
  let v418 : BitVec 32 := Scalar.addi c0_i32_322 v417
  let c4_i32_47 : BitVec 32 := 4#32
  let v95 : BitVec 1 := Scalar.cmpi .slt v77 c4_i32_47
  let c7_i32_48 : BitVec 32 := 7#32
  let v96 : BitVec 32 := Scalar.subi c7_i32_48 v77
  let v97 : BitVec 32 := Scalar.select v95 v77 v96
  let c4_i32_323 : BitVec 32 := 4#32
  let v419 : BitVec 32 := Scalar.muli v97 c4_i32_323
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v421 : BitVec 32 := Scalar.muli v8 c1_i32_324
  let v422 : BitVec 32 := Scalar.addi v420 v421
  v422.toNat
def k0_off7 (d0 : Dev nD) : Fin 2 → Nat :=
  let c512_347 : Index := 512#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c128_i32 : BitVec 32 := 128#32
  let v123 : BitVec 32 := Scalar.muli v34 c128_i32
  let v450 : Index := Scalar.indexCast v123
  ![512, v450.toNat]
def k0_off8 (d0 : Dev nD) (c0_i32_348 : BitVec 32) : Fin 2 → Nat :=
  let c512_i32_371 : BitVec 32 := 512#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let v454 : BitVec 32 := Scalar.addi v34 c0_i32_348
  let c8_i32_356 : BitVec 32 := 8#32
  let c0_i32_357 : BitVec 32 := 0#32
  let v466 : BitVec 1 := Scalar.cmpi .eq c8_i32_356 c0_i32_357
  let c1_i32_358 : BitVec 32 := 1#32
  let v467 : BitVec 32 := Scalar.select v466 c1_i32_358 c8_i32_356
  let v468 : BitVec 32 := Scalar.remsi v454 v467
  let c0_i32_360 : BitVec 32 := 0#32
  let v470 : BitVec 1 := Scalar.cmpi .slt v468 c0_i32_360
  let c0_i32_361 : BitVec 32 := 0#32
  let v471 : BitVec 1 := Scalar.cmpi .slt v467 c0_i32_361
  let v472 : BitVec 1 := Scalar.xori v470 v471
  let c0_i32_359 : BitVec 32 := 0#32
  let v469 : BitVec 1 := Scalar.cmpi .ne v468 c0_i32_359
  let v473 : BitVec 1 := Scalar.andi v472 v469
  let v474 : BitVec 32 := Scalar.addi v468 v467
  let v475 : BitVec 32 := Scalar.select v473 v474 v468
  let c128_i32_362 : BitVec 32 := 128#32
  let v476 : BitVec 32 := Scalar.muli v475 c128_i32_362
  ![512, v476.toNat]
def k0_dev13 (d0 : Dev nD) : Nat :=
  let c0_i32_368 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let c16_i32_367 : BitVec 32 := 16#32
  let v477 : BitVec 32 := Scalar.muli v94 c16_i32_367
  let v478 : BitVec 32 := Scalar.addi c0_i32_368 v477
  let c4_i32_47 : BitVec 32 := 4#32
  let v95 : BitVec 1 := Scalar.cmpi .slt v77 c4_i32_47
  let c7_i32_48 : BitVec 32 := 7#32
  let v96 : BitVec 32 := Scalar.subi c7_i32_48 v77
  let v97 : BitVec 32 := Scalar.select v95 v77 v96
  let c4_i32_369 : BitVec 32 := 4#32
  let v479 : BitVec 32 := Scalar.muli v97 c4_i32_369
  let v480 : BitVec 32 := Scalar.addi v478 v479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_370 : BitVec 32 := 1#32
  let v481 : BitVec 32 := Scalar.muli v8 c1_i32_370
  let v482 : BitVec 32 := Scalar.addi v480 v481
  v482.toNat
def k0_off9 (d0 : Dev nD) (c0_i32_373 : BitVec 32) : Fin 2 → Nat :=
  let c512_i32_396 : BitVec 32 := 512#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let v489 : BitVec 32 := Scalar.subi v34 c0_i32_373
  let c8_i32_381 : BitVec 32 := 8#32
  let c0_i32_382 : BitVec 32 := 0#32
  let v501 : BitVec 1 := Scalar.cmpi .eq c8_i32_381 c0_i32_382
  let c1_i32_383 : BitVec 32 := 1#32
  let v502 : BitVec 32 := Scalar.select v501 c1_i32_383 c8_i32_381
  let v503 : BitVec 32 := Scalar.remsi v489 v502
  let c0_i32_385 : BitVec 32 := 0#32
  let v505 : BitVec 1 := Scalar.cmpi .slt v503 c0_i32_385
  let c0_i32_386 : BitVec 32 := 0#32
  let v506 : BitVec 1 := Scalar.cmpi .slt v502 c0_i32_386
  let v507 : BitVec 1 := Scalar.xori v505 v506
  let c0_i32_384 : BitVec 32 := 0#32
  let v504 : BitVec 1 := Scalar.cmpi .ne v503 c0_i32_384
  let v508 : BitVec 1 := Scalar.andi v507 v504
  let v509 : BitVec 32 := Scalar.addi v503 v502
  let v510 : BitVec 32 := Scalar.select v508 v509 v503
  let c128_i32_387 : BitVec 32 := 128#32
  let v511 : BitVec 32 := Scalar.muli v510 c128_i32_387
  ![512, v511.toNat]
def k0_dev14 (d0 : Dev nD) : Nat :=
  let c0_i32_393 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c16_i32_392 : BitVec 32 := 16#32
  let v512 : BitVec 32 := Scalar.muli v62 c16_i32_392
  let v513 : BitVec 32 := Scalar.addi c0_i32_393 v512
  let c4_i32_30 : BitVec 32 := 4#32
  let v63 : BitVec 1 := Scalar.cmpi .slt v45 c4_i32_30
  let c7_i32_31 : BitVec 32 := 7#32
  let v64 : BitVec 32 := Scalar.subi c7_i32_31 v45
  let v65 : BitVec 32 := Scalar.select v63 v45 v64
  let c4_i32_394 : BitVec 32 := 4#32
  let v514 : BitVec 32 := Scalar.muli v65 c4_i32_394
  let v515 : BitVec 32 := Scalar.addi v513 v514
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_395 : BitVec 32 := 1#32
  let v516 : BitVec 32 := Scalar.muli v8 c1_i32_395
  let v517 : BitVec 32 := Scalar.addi v515 v516
  v517.toNat
def k0_dev15 (d0 : Dev nD) : Nat :=
  let c0_i32_428 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c16_i32_427 : BitVec 32 := 16#32
  let v557 : BitVec 32 := Scalar.muli v62 c16_i32_427
  let v558 : BitVec 32 := Scalar.addi c0_i32_428 v557
  let c4_i32_30 : BitVec 32 := 4#32
  let v63 : BitVec 1 := Scalar.cmpi .slt v45 c4_i32_30
  let c7_i32_31 : BitVec 32 := 7#32
  let v64 : BitVec 32 := Scalar.subi c7_i32_31 v45
  let v65 : BitVec 32 := Scalar.select v63 v45 v64
  let c4_i32_429 : BitVec 32 := 4#32
  let v559 : BitVec 32 := Scalar.muli v65 c4_i32_429
  let v560 : BitVec 32 := Scalar.addi v558 v559
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_430 : BitVec 32 := 1#32
  let v561 : BitVec 32 := Scalar.muli v8 c1_i32_430
  let v562 : BitVec 32 := Scalar.addi v560 v561
  v562.toNat
def k0_dev16 (d0 : Dev nD) : Nat :=
  let c0_i32_463 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let c16_i32_462 : BitVec 32 := 16#32
  let v602 : BitVec 32 := Scalar.muli v94 c16_i32_462
  let v603 : BitVec 32 := Scalar.addi c0_i32_463 v602
  let c4_i32_47 : BitVec 32 := 4#32
  let v95 : BitVec 1 := Scalar.cmpi .slt v77 c4_i32_47
  let c7_i32_48 : BitVec 32 := 7#32
  let v96 : BitVec 32 := Scalar.subi c7_i32_48 v77
  let v97 : BitVec 32 := Scalar.select v95 v77 v96
  let c4_i32_464 : BitVec 32 := 4#32
  let v604 : BitVec 32 := Scalar.muli v97 c4_i32_464
  let v605 : BitVec 32 := Scalar.addi v603 v604
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_465 : BitVec 32 := 1#32
  let v606 : BitVec 32 := Scalar.muli v8 c1_i32_465
  let v607 : BitVec 32 := Scalar.addi v605 v606
  v607.toNat
def k0_dev17 (d0 : Dev nD) : Nat :=
  let c0_i32_498 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c16_i32_497 : BitVec 32 := 16#32
  let v647 : BitVec 32 := Scalar.muli v62 c16_i32_497
  let v648 : BitVec 32 := Scalar.addi c0_i32_498 v647
  let c4_i32_30 : BitVec 32 := 4#32
  let v63 : BitVec 1 := Scalar.cmpi .slt v45 c4_i32_30
  let c7_i32_31 : BitVec 32 := 7#32
  let v64 : BitVec 32 := Scalar.subi c7_i32_31 v45
  let v65 : BitVec 32 := Scalar.select v63 v45 v64
  let c4_i32_499 : BitVec 32 := 4#32
  let v649 : BitVec 32 := Scalar.muli v65 c4_i32_499
  let v650 : BitVec 32 := Scalar.addi v648 v649
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_500 : BitVec 32 := 1#32
  let v651 : BitVec 32 := Scalar.muli v8 c1_i32_500
  let v652 : BitVec 32 := Scalar.addi v650 v651
  v652.toNat
def k0_dev18 (d0 : Dev nD) : Nat :=
  let c0_i32_533 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let c16_i32_532 : BitVec 32 := 16#32
  let v692 : BitVec 32 := Scalar.muli v94 c16_i32_532
  let v693 : BitVec 32 := Scalar.addi c0_i32_533 v692
  let c4_i32_47 : BitVec 32 := 4#32
  let v95 : BitVec 1 := Scalar.cmpi .slt v77 c4_i32_47
  let c7_i32_48 : BitVec 32 := 7#32
  let v96 : BitVec 32 := Scalar.subi c7_i32_48 v77
  let v97 : BitVec 32 := Scalar.select v95 v77 v96
  let c4_i32_534 : BitVec 32 := 4#32
  let v694 : BitVec 32 := Scalar.muli v97 c4_i32_534
  let v695 : BitVec 32 := Scalar.addi v693 v694
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_535 : BitVec 32 := 1#32
  let v696 : BitVec 32 := Scalar.muli v8 c1_i32_535
  let v697 : BitVec 32 := Scalar.addi v695 v696
  v697.toNat
def k0_off10 (d0 : Dev nD) : Fin 2 → Nat :=
  let c0_545 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c8_i32_538 : BitVec 32 := 8#32
  let c0_i32_539 : BitVec 32 := 0#32
  let v704 : BitVec 1 := Scalar.cmpi .eq c8_i32_538 c0_i32_539
  let c1_i32_540 : BitVec 32 := 1#32
  let v705 : BitVec 32 := Scalar.select v704 c1_i32_540 c8_i32_538
  let v706 : BitVec 32 := Scalar.remsi v34 v705
  let c0_i32_542 : BitVec 32 := 0#32
  let v708 : BitVec 1 := Scalar.cmpi .slt v706 c0_i32_542
  let c0_i32_543 : BitVec 32 := 0#32
  let v709 : BitVec 1 := Scalar.cmpi .slt v705 c0_i32_543
  let v710 : BitVec 1 := Scalar.xori v708 v709
  let c0_i32_541 : BitVec 32 := 0#32
  let v707 : BitVec 1 := Scalar.cmpi .ne v706 c0_i32_541
  let v711 : BitVec 1 := Scalar.andi v710 v707
  let v712 : BitVec 32 := Scalar.addi v706 v705
  let v713 : BitVec 32 := Scalar.select v711 v712 v706
  let c128_i32_544 : BitVec 32 := 128#32
  let v714 : BitVec 32 := Scalar.muli v713 c128_i32_544
  let v715 : Index := Scalar.indexCast v714
  ![0, v715.toNat]
def k0_dev19 (d0 : Dev nD) : Nat :=
  let c0_i32_576 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c16_i32_575 : BitVec 32 := 16#32
  let v753 : BitVec 32 := Scalar.muli v62 c16_i32_575
  let v754 : BitVec 32 := Scalar.addi c0_i32_576 v753
  let c4_i32_30 : BitVec 32 := 4#32
  let v63 : BitVec 1 := Scalar.cmpi .slt v45 c4_i32_30
  let c7_i32_31 : BitVec 32 := 7#32
  let v64 : BitVec 32 := Scalar.subi c7_i32_31 v45
  let v65 : BitVec 32 := Scalar.select v63 v45 v64
  let c4_i32_577 : BitVec 32 := 4#32
  let v755 : BitVec 32 := Scalar.muli v65 c4_i32_577
  let v756 : BitVec 32 := Scalar.addi v754 v755
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_578 : BitVec 32 := 1#32
  let v757 : BitVec 32 := Scalar.muli v8 c1_i32_578
  let v758 : BitVec 32 := Scalar.addi v756 v757
  v758.toNat
def k0_dev20 (d0 : Dev nD) : Nat :=
  let c0_i32_611 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let c16_i32_610 : BitVec 32 := 16#32
  let v798 : BitVec 32 := Scalar.muli v94 c16_i32_610
  let v799 : BitVec 32 := Scalar.addi c0_i32_611 v798
  let c4_i32_47 : BitVec 32 := 4#32
  let v95 : BitVec 1 := Scalar.cmpi .slt v77 c4_i32_47
  let c7_i32_48 : BitVec 32 := 7#32
  let v96 : BitVec 32 := Scalar.subi c7_i32_48 v77
  let v97 : BitVec 32 := Scalar.select v95 v77 v96
  let c4_i32_612 : BitVec 32 := 4#32
  let v800 : BitVec 32 := Scalar.muli v97 c4_i32_612
  let v801 : BitVec 32 := Scalar.addi v799 v800
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_613 : BitVec 32 := 1#32
  let v802 : BitVec 32 := Scalar.muli v8 c1_i32_613
  let v803 : BitVec 32 := Scalar.addi v801 v802
  v803.toNat
def k0_dev21 (d0 : Dev nD) : Nat :=
  let c0_i32_646 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c16_i32_645 : BitVec 32 := 16#32
  let v843 : BitVec 32 := Scalar.muli v62 c16_i32_645
  let v844 : BitVec 32 := Scalar.addi c0_i32_646 v843
  let c4_i32_30 : BitVec 32 := 4#32
  let v63 : BitVec 1 := Scalar.cmpi .slt v45 c4_i32_30
  let c7_i32_31 : BitVec 32 := 7#32
  let v64 : BitVec 32 := Scalar.subi c7_i32_31 v45
  let v65 : BitVec 32 := Scalar.select v63 v45 v64
  let c4_i32_647 : BitVec 32 := 4#32
  let v845 : BitVec 32 := Scalar.muli v65 c4_i32_647
  let v846 : BitVec 32 := Scalar.addi v844 v845
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_648 : BitVec 32 := 1#32
  let v847 : BitVec 32 := Scalar.muli v8 c1_i32_648
  let v848 : BitVec 32 := Scalar.addi v846 v847
  v848.toNat
def k0_dev22 (d0 : Dev nD) : Nat :=
  let c0_i32_681 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let c16_i32_680 : BitVec 32 := 16#32
  let v888 : BitVec 32 := Scalar.muli v94 c16_i32_680
  let v889 : BitVec 32 := Scalar.addi c0_i32_681 v888
  let c4_i32_47 : BitVec 32 := 4#32
  let v95 : BitVec 1 := Scalar.cmpi .slt v77 c4_i32_47
  let c7_i32_48 : BitVec 32 := 7#32
  let v96 : BitVec 32 := Scalar.subi c7_i32_48 v77
  let v97 : BitVec 32 := Scalar.select v95 v77 v96
  let c4_i32_682 : BitVec 32 := 4#32
  let v890 : BitVec 32 := Scalar.muli v97 c4_i32_682
  let v891 : BitVec 32 := Scalar.addi v889 v890
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_683 : BitVec 32 := 1#32
  let v892 : BitVec 32 := Scalar.muli v8 c1_i32_683
  let v893 : BitVec 32 := Scalar.addi v891 v892
  v893.toNat
def k0_off11 (d0 : Dev nD) (c1_i32_686 : BitVec 32) : Fin 2 → Nat :=
  let c0_694 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let v900 : BitVec 32 := Scalar.subi v34 c1_i32_686
  let c8_i32_687 : BitVec 32 := 8#32
  let c0_i32_688 : BitVec 32 := 0#32
  let v901 : BitVec 1 := Scalar.cmpi .eq c8_i32_687 c0_i32_688
  let c1_i32_689 : BitVec 32 := 1#32
  let v902 : BitVec 32 := Scalar.select v901 c1_i32_689 c8_i32_687
  let v903 : BitVec 32 := Scalar.remsi v900 v902
  let c0_i32_691 : BitVec 32 := 0#32
  let v905 : BitVec 1 := Scalar.cmpi .slt v903 c0_i32_691
  let c0_i32_692 : BitVec 32 := 0#32
  let v906 : BitVec 1 := Scalar.cmpi .slt v902 c0_i32_692
  let v907 : BitVec 1 := Scalar.xori v905 v906
  let c0_i32_690 : BitVec 32 := 0#32
  let v904 : BitVec 1 := Scalar.cmpi .ne v903 c0_i32_690
  let v908 : BitVec 1 := Scalar.andi v907 v904
  let v909 : BitVec 32 := Scalar.addi v903 v902
  let v910 : BitVec 32 := Scalar.select v908 v909 v903
  let c128_i32_693 : BitVec 32 := 128#32
  let v911 : BitVec 32 := Scalar.muli v910 c128_i32_693
  let v912 : Index := Scalar.indexCast v911
  ![0, v912.toNat]
def k0_off12 (d0 : Dev nD) (c1_i32_696 : BitVec 32) : Fin 2 → Nat :=
  let c0_704 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let v918 : BitVec 32 := Scalar.addi v34 c1_i32_696
  let c8_i32_697 : BitVec 32 := 8#32
  let c0_i32_698 : BitVec 32 := 0#32
  let v919 : BitVec 1 := Scalar.cmpi .eq c8_i32_697 c0_i32_698
  let c1_i32_699 : BitVec 32 := 1#32
  let v920 : BitVec 32 := Scalar.select v919 c1_i32_699 c8_i32_697
  let v921 : BitVec 32 := Scalar.remsi v918 v920
  let c0_i32_701 : BitVec 32 := 0#32
  let v923 : BitVec 1 := Scalar.cmpi .slt v921 c0_i32_701
  let c0_i32_702 : BitVec 32 := 0#32
  let v924 : BitVec 1 := Scalar.cmpi .slt v920 c0_i32_702
  let v925 : BitVec 1 := Scalar.xori v923 v924
  let c0_i32_700 : BitVec 32 := 0#32
  let v922 : BitVec 1 := Scalar.cmpi .ne v921 c0_i32_700
  let v926 : BitVec 1 := Scalar.andi v925 v922
  let v927 : BitVec 32 := Scalar.addi v921 v920
  let v928 : BitVec 32 := Scalar.select v926 v927 v921
  let c128_i32_703 : BitVec 32 := 128#32
  let v929 : BitVec 32 := Scalar.muli v928 c128_i32_703
  let v930 : Index := Scalar.indexCast v929
  ![0, v930.toNat]
def k0_dev23 (d0 : Dev nD) : Nat :=
  let c0_i32_735 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c16_i32_734 : BitVec 32 := 16#32
  let v969 : BitVec 32 := Scalar.muli v62 c16_i32_734
  let v970 : BitVec 32 := Scalar.addi c0_i32_735 v969
  let c4_i32_30 : BitVec 32 := 4#32
  let v63 : BitVec 1 := Scalar.cmpi .slt v45 c4_i32_30
  let c7_i32_31 : BitVec 32 := 7#32
  let v64 : BitVec 32 := Scalar.subi c7_i32_31 v45
  let v65 : BitVec 32 := Scalar.select v63 v45 v64
  let c4_i32_736 : BitVec 32 := 4#32
  let v971 : BitVec 32 := Scalar.muli v65 c4_i32_736
  let v972 : BitVec 32 := Scalar.addi v970 v971
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v973 : BitVec 32 := Scalar.muli v8 c1_i32_737
  let v974 : BitVec 32 := Scalar.addi v972 v973
  v974.toNat
def k0_dev24 (d0 : Dev nD) : Nat :=
  let c0_i32_770 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let c16_i32_769 : BitVec 32 := 16#32
  let v1014 : BitVec 32 := Scalar.muli v94 c16_i32_769
  let v1015 : BitVec 32 := Scalar.addi c0_i32_770 v1014
  let c4_i32_47 : BitVec 32 := 4#32
  let v95 : BitVec 1 := Scalar.cmpi .slt v77 c4_i32_47
  let c7_i32_48 : BitVec 32 := 7#32
  let v96 : BitVec 32 := Scalar.subi c7_i32_48 v77
  let v97 : BitVec 32 := Scalar.select v95 v77 v96
  let c4_i32_771 : BitVec 32 := 4#32
  let v1016 : BitVec 32 := Scalar.muli v97 c4_i32_771
  let v1017 : BitVec 32 := Scalar.addi v1015 v1016
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_772 : BitVec 32 := 1#32
  let v1018 : BitVec 32 := Scalar.muli v8 c1_i32_772
  let v1019 : BitVec 32 := Scalar.addi v1017 v1018
  v1019.toNat
def k0_off13 (d0 : Dev nD) : Fin 2 → Nat :=
  let c0_853 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c4_i32_845 : BitVec 32 := 4#32
  let v1129 : BitVec 32 := Scalar.addi v34 c4_i32_845
  let c8_i32_846 : BitVec 32 := 8#32
  let c0_i32_847 : BitVec 32 := 0#32
  let v1130 : BitVec 1 := Scalar.cmpi .eq c8_i32_846 c0_i32_847
  let c1_i32_848 : BitVec 32 := 1#32
  let v1131 : BitVec 32 := Scalar.select v1130 c1_i32_848 c8_i32_846
  let v1132 : BitVec 32 := Scalar.remsi v1129 v1131
  let c0_i32_850 : BitVec 32 := 0#32
  let v1134 : BitVec 1 := Scalar.cmpi .slt v1132 c0_i32_850
  let c0_i32_851 : BitVec 32 := 0#32
  let v1135 : BitVec 1 := Scalar.cmpi .slt v1131 c0_i32_851
  let v1136 : BitVec 1 := Scalar.xori v1134 v1135
  let c0_i32_849 : BitVec 32 := 0#32
  let v1133 : BitVec 1 := Scalar.cmpi .ne v1132 c0_i32_849
  let v1137 : BitVec 1 := Scalar.andi v1136 v1133
  let v1138 : BitVec 32 := Scalar.addi v1132 v1131
  let v1139 : BitVec 32 := Scalar.select v1137 v1138 v1132
  let c128_i32_852 : BitVec 32 := 128#32
  let v1140 : BitVec 32 := Scalar.muli v1139 c128_i32_852
  let v1141 : Index := Scalar.indexCast v1140
  ![0, v1141.toNat]
def k0_off14 (d0 : Dev nD) : Fin 2 → Nat :=
  let c512_880 : Index := 512#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c4_i32_872 : BitVec 32 := 4#32
  let v1172 : BitVec 32 := Scalar.addi v34 c4_i32_872
  let c8_i32_873 : BitVec 32 := 8#32
  let c0_i32_874 : BitVec 32 := 0#32
  let v1173 : BitVec 1 := Scalar.cmpi .eq c8_i32_873 c0_i32_874
  let c1_i32_875 : BitVec 32 := 1#32
  let v1174 : BitVec 32 := Scalar.select v1173 c1_i32_875 c8_i32_873
  let v1175 : BitVec 32 := Scalar.remsi v1172 v1174
  let c0_i32_877 : BitVec 32 := 0#32
  let v1177 : BitVec 1 := Scalar.cmpi .slt v1175 c0_i32_877
  let c0_i32_878 : BitVec 32 := 0#32
  let v1178 : BitVec 1 := Scalar.cmpi .slt v1174 c0_i32_878
  let v1179 : BitVec 1 := Scalar.xori v1177 v1178
  let c0_i32_876 : BitVec 32 := 0#32
  let v1176 : BitVec 1 := Scalar.cmpi .ne v1175 c0_i32_876
  let v1180 : BitVec 1 := Scalar.andi v1179 v1176
  let v1181 : BitVec 32 := Scalar.addi v1175 v1174
  let v1182 : BitVec 32 := Scalar.select v1180 v1181 v1175
  let c128_i32_879 : BitVec 32 := 128#32
  let v1183 : BitVec 32 := Scalar.muli v1182 c128_i32_879
  let v1184 : Index := Scalar.indexCast v1183
  ![512, v1184.toNat]
abbrev stage0_0 : Fin 1 → Memref sig .tc .vmem S1x4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x4096x1024 : Shape := ⟨3, ![4, 4096, 1024]⟩
abbrev S1024 : Shape := ⟨1, ![1024]⟩
abbrev S_ : Shape := ⟨0, ![]⟩
abbrev S4096x1024 : Shape := ⟨2, ![4096, 1024]⟩
abbrev S4096 : Shape := ⟨1, ![4096]⟩
abbrev S4096x1 : Shape := ⟨2, ![4096, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mesh.lean ====
/-
# The mesh: where each device sits, whom it names, which window each access takes

The mesh is 2 x 4 x 4 over the axes x, y, z. Device `c` has the coordinate `c % 4` along z. The eight devices of one z
form a ring: along y on the plane x = 0, then back along y on the plane x = 1; `pos c` is the place of `c` on it, and
`dv z q` is the device of z coordinate `z` at place `q`. Everything below is checked over the 32 devices.
-/
module

public import proofs.«01_k».proof.Proof.Gen.KernelIdeal

@[expose] public section

namespace Cert.Fused

open Cert.KernelIdeal Cert.KernelIdeal.Gen
open Idealize.ShloMosaic

/-- The z coordinate. -/
def zf (c : Dev nD) : Fin 4 := ⟨c.val % 4, Nat.mod_lt _ (by decide)⟩
/-- The place on the ring of the eight devices of one z. -/
def pos (c : Dev nD) : Fin 8 :=
  ⟨if c.val / 16 = 0 then (c.val / 4) % 4 else 7 - (c.val / 4) % 4, by split <;> omega⟩
/-- The device of z coordinate `z` at place `q` of its ring. -/
def dv (z : Fin 4) (q : Fin 8) : Dev nD :=
  ⟨(if q.val < 4 then 4 * q.val else 16 + 4 * (7 - q.val)) + z.val, by
    have := z.isLt; have := q.isLt; show _ < 32; split <;> omega⟩

theorem dv_self (c : Dev nD) : dv (zf c) (pos c) = c := by revert c; decide +kernel
theorem zf_dv (z : Fin 4) (q : Fin 8) : zf (dv z q) = z := by revert z q; decide +kernel
theorem pos_dv (z : Fin 4) (q : Fin 8) : pos (dv z q) = q := by revert z q; decide +kernel

/-- The neighbours: one down and one up along z, one on and one back along the ring. -/
def zl (c : Dev nD) : Dev nD := dv (zf c + 3) (pos c)
def zr (c : Dev nD) : Dev nD := dv (zf c + 1) (pos c)
def cw (c : Dev nD) : Dev nD := dv (zf c) (pos c + 1)
def ccw (c : Dev nD) : Dev nD := dv (zf c) (pos c + 7)

theorem zl_zr (c : Dev nD) : zl (zr c) = c := by revert c; decide +kernel
theorem zr_zl (c : Dev nD) : zr (zl c) = c := by revert c; decide +kernel
theorem cw_ccw (c : Dev nD) : cw (ccw c) = c := by revert c; decide +kernel
theorem ccw_cw (c : Dev nD) : ccw (cw c) = c := by revert c; decide +kernel

theorem zf_zl (c : Dev nD) : zf (zl c) = zf c + 3 := zf_dv _ _
theorem zf_zr (c : Dev nD) : zf (zr c) = zf c + 1 := zf_dv _ _
theorem zf_cw (c : Dev nD) : zf (cw c) = zf c := zf_dv _ _
theorem zf_ccw (c : Dev nD) : zf (ccw c) = zf c := zf_dv _ _
theorem pos_zl (c : Dev nD) : pos (zl c) = pos c := pos_dv _ _
theorem pos_zr (c : Dev nD) : pos (zr c) = pos c := pos_dv _ _
theorem pos_cw (c : Dev nD) : pos (cw c) = pos c + 1 := pos_dv _ _
theorem pos_ccw (c : Dev nD) : pos (ccw c) = pos c + 7 := pos_dv _ _

/-- Stepping along z and along the ring, as permutations of the devices. -/
def zEquiv : Dev nD ≃ Dev nD := ⟨zr, zl, zl_zr, zr_zl⟩
def ringEquiv : Dev nD ≃ Dev nD := ⟨cw, ccw, ccw_cw, cw_ccw⟩

/-! ## The devices the program names -/

section Names
variable (c : Dev nD)
theorem dev1_eq : (⟨k0_dev1 c, k0_dev1_lt c⟩ : Dev nD) = zl c := by revert c; decide +kernel
theorem dev2_eq : (⟨k0_dev2 c, k0_dev2_lt c⟩ : Dev nD) = zr c := by revert c; decide +kernel
theorem dev3_eq : (⟨k0_dev3 c, k0_dev3_lt c⟩ : Dev nD) = cw c := by revert c; decide +kernel
theorem dev4_eq : (⟨k0_dev4 c, k0_dev4_lt c⟩ : Dev nD) = ccw c := by revert c; decide +kernel
theorem dev5_eq : (⟨k0_dev5 c, k0_dev5_lt c⟩ : Dev nD) = zr c := by revert c; decide +kernel
theorem dev6_eq : (⟨k0_dev6 c, k0_dev6_lt c⟩ : Dev nD) = zr c := by revert c; decide +kernel
theorem dev7_eq : (⟨k0_dev7 c, k0_dev7_lt c⟩ : Dev nD) = zr c := by revert c; decide +kernel
theorem dev8_eq : (⟨k0_dev8 c, k0_dev8_lt c⟩ : Dev nD) = zr c := by revert c; decide +kernel
theorem dev9_eq : (⟨k0_dev9 c, k0_dev9_lt c⟩ : Dev nD) = zr c := by revert c; decide +kernel
theorem dev10_eq : (⟨k0_dev10 c, k0_dev10_lt c⟩ : Dev nD) = zr c := by revert c; decide +kernel
theorem dev11_eq : (⟨k0_dev11 c, k0_dev11_lt c⟩ : Dev nD) = cw c := by revert c; decide +kernel
theorem dev12_eq : (⟨k0_dev12 c, k0_dev12_lt c⟩ : Dev nD) = ccw c := by revert c; decide +kernel
theorem dev13_eq : (⟨k0_dev13 c, k0_dev13_lt c⟩ : Dev nD) = ccw c := by revert c; decide +kernel
theorem dev14_eq : (⟨k0_dev14 c, k0_dev14_lt c⟩ : Dev nD) = cw c := by revert c; decide +kernel
theorem dev15_eq : (⟨k0_dev15 c, k0_dev15_lt c⟩ : Dev nD) = cw c := by revert c; decide +kernel
theorem dev16_eq : (⟨k0_dev16 c, k0_dev16_lt c⟩ : Dev nD) = ccw c := by revert c; decide +kernel
theorem dev17_eq : (⟨k0_dev17 c, k0_dev17_lt c⟩ : Dev nD) = cw c := by revert c; decide +kernel
theorem dev18_eq : (⟨k0_dev18 c, k0_dev18_lt c⟩ : Dev nD) = ccw c := by revert c; decide +kernel
theorem dev19_eq : (⟨k0_dev19 c, k0_dev19_lt c⟩ : Dev nD) = cw c := by revert c; decide +kernel
theorem dev20_eq : (⟨k0_dev20 c, k0_dev20_lt c⟩ : Dev nD) = ccw c := by revert c; decide +kernel
theorem dev21_eq : (⟨k0_dev21 c, k0_dev21_lt c⟩ : Dev nD) = cw c := by revert c; decide +kernel
theorem dev22_eq : (⟨k0_dev22 c, k0_dev22_lt c⟩ : Dev nD) = ccw c := by revert c; decide +kernel
theorem dev23_eq : (⟨k0_dev23 c, k0_dev23_lt c⟩ : Dev nD) = cw c := by revert c; decide +kernel
theorem dev24_eq : (⟨k0_dev24 c, k0_dev24_lt c⟩ : Dev nD) = ccw c := by revert c; decide +kernel
end Names

/-! ## The windows the program takes -/

/-- The start of a window of the partial sums: chunk `z`, half `t` of its rows, slice `q` of the columns. -/
abbrev xOff (z : Fin 4) (t : Fin 2) (q : Fin 8) : Fin 3 → ℕ := ![0, 1024 * z.val + 512 * t.val, 128 * q.val]
/-- The start of a half slot of the first phase's buffer: step `s`, half `t` of the rows. -/
abbrev pOff (s : Fin 3) (t : Fin 2) : Fin 3 → ℕ := ![s.val, 512 * t.val, 0]
/-- The start of a block of the gathered rows: half `t` of the rows, slice `q` of the columns. -/
abbrev yOff (t : Fin 2) (q : Fin 8) : Fin 2 → ℕ := ![512 * t.val, 128 * q.val]

theorem off1_eq : ∀ (c : Dev nD) (t : Fin 2),
    k0_off1 c (BitVec.ofNat 32 (512 * t.val)) = xOff (zf c + 3) t (pos c) := by decide +kernel
theorem off2_eq : ∀ (c : Dev nD) (s : Fin 2) (t : Fin 2),
    k0_off2 c (BitVec.ofNat 32 s.val) (BitVec.ofNat 32 (512 * t.val))
      = xOff (zf c + (if s = 0 then 2 else 1)) t (pos c) := by decide +kernel
theorem off3_eq : ∀ (c : Dev nD) (t : Fin 2),
    k0_off3 c (BitVec.ofNat 32 (512 * t.val)) = xOff (zf c) t (pos c) := by decide +kernel
theorem off4_eq : ∀ c : Dev nD, k0_off4 c = yOff 0 (pos c) := by decide +kernel
theorem off5_eq : ∀ (c : Dev nD) (h : Fin 4), k0_off5 c (BitVec.ofNat 32 h.val) = yOff 0 (pos c - ⟨h.val, by omega⟩) := by decide +kernel
theorem off6_eq : ∀ (c : Dev nD) (h : Fin 3), k0_off6 c (BitVec.ofNat 32 h.val) = yOff 0 (pos c + ⟨h.val, by omega⟩) := by decide +kernel
theorem off7_eq : ∀ c : Dev nD, k0_off7 c = yOff 1 (pos c) := by decide +kernel
theorem off8_eq : ∀ (c : Dev nD) (h : Fin 4), k0_off8 c (BitVec.ofNat 32 h.val) = yOff 1 (pos c + ⟨h.val, by omega⟩) := by decide +kernel
theorem off9_eq : ∀ (c : Dev nD) (h : Fin 3), k0_off9 c (BitVec.ofNat 32 h.val) = yOff 1 (pos c - ⟨h.val, by omega⟩) := by decide +kernel
theorem off10_eq : ∀ c : Dev nD, k0_off10 c = yOff 0 (pos c) := by decide +kernel
theorem off11_eq : ∀ (c : Dev nD) (h : Fin 3), k0_off11 c (BitVec.ofNat 32 (1 + h.val)) = yOff 0 (pos c - ⟨1 + h.val, by omega⟩) := by decide +kernel
theorem off12_eq : ∀ (c : Dev nD) (h : Fin 3), k0_off12 c (BitVec.ofNat 32 (1 + h.val)) = yOff 0 (pos c + ⟨1 + h.val, by omega⟩) := by decide +kernel
theorem off13_eq : ∀ c : Dev nD, k0_off13 c = yOff 0 (pos c + 4) := by decide +kernel
theorem off14_eq : ∀ c : Dev nD, k0_off14 c = yOff 1 (pos c + 4) := by decide +kernel

end Cert.Fused
-- ==== Proof.Cells.lean ====
/-
# The two phases as values, the buffers' blocks, the cells and their schedule

The kernel runs in two phases. First a ring along z: the slice of the columns at a device's place is summed over the four
devices of its line, each step a transfer of the running sum to the next device up the line, which adds its own chunk.
Then the eight devices of one z gather each other's summed slices: each slice goes both ways round the ring. Every
transfer carries one half (512) of a slice's 1024 rows; `Tr` names the transfers a device issues, which are also the
transfers that land on it: `p` the first phase's (half, step), `a` those sent forward round the ring and `b` those sent
backward (half, hop).
-/
module

public import proofs.«01_k».proof.Proof.Mesh
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The transfers -/

/-- The transfers a device issues, and that land on it: the first phase's by half and step, the gather's forward and
    backward ones by half and hop. -/
inductive Tr where
  | p (t : Fin 2) (s : Fin 3)
  | a (t : Fin 2) (h : Fin 4)
  | b (t : Fin 2) (h : Fin 4)
  deriving DecidableEq

def pL : List Tr := [.p 0 0, .p 1 0, .p 0 1, .p 1 1, .p 0 2, .p 1 2]
def aL : List Tr := [.a 0 0, .a 1 0, .a 0 1, .a 1 1, .a 0 2, .a 1 2, .a 0 3]
def bL : List Tr := [.b 0 0, .b 1 0, .b 0 1, .b 1 1, .b 0 2, .b 1 2, .b 1 3]
/-- The transfers made; then the two names whose semaphores the kernel holds and does not use. -/
def lives : List Tr := pL ++ aL ++ bL
def trs : List Tr := lives ++ [.a 1 3, .b 0 3]

theorem trs_nodup : trs.Nodup := by decide
theorem mem_trs (k : Tr) : k ∈ trs := by
  rcases k with ⟨t, s⟩ | ⟨t, h⟩ | ⟨t, h⟩ <;> revert t <;> first | (revert s; decide) | (revert h; decide)

instance : Fintype Tr := ⟨⟨trs, trs_nodup⟩, mem_trs⟩

abbrev live (k : Tr) : Prop := k ∈ lives

/-- The semaphore a transfer raises on its sender, and the one it raises where it lands. -/
def sS : Tr → DmaSem sig
  | .p t s => ⟨3 + 3 * t.val + s.val, by have := t.isLt; have := s.isLt; show _ < 47; omega⟩
  | .a t h => ⟨15 + 4 * t.val + h.val, by have := t.isLt; have := h.isLt; show _ < 47; omega⟩
  | .b t h => ⟨31 + 4 * t.val + h.val, by have := t.isLt; have := h.isLt; show _ < 47; omega⟩
def rS : Tr → DmaSem sig
  | .p t s => ⟨9 + 3 * t.val + s.val, by have := t.isLt; have := s.isLt; show _ < 47; omega⟩
  | .a t h => ⟨23 + 4 * t.val + h.val, by have := t.isLt; have := h.isLt; show _ < 47; omega⟩
  | .b t h => ⟨39 + 4 * t.val + h.val, by have := t.isLt; have := h.isLt; show _ < 47; omega⟩
/-- The one of side `d`: `false` the sender's, `true` the receiver's. -/
def dS (d : Bool) (k : Tr) : DmaSem sig := if d then rS k else sS k

/-- Which side of which transfer a DMA semaphore is; the first three are the staging buffers'. -/
def dec (q : DmaSem sig) : Option (Bool × Tr) :=
  (trs.flatMap fun k => [(false, k), (true, k)]).find? (fun x => decide (dS x.1 x.2 = q))
theorem dec_dS : ∀ (d : Bool) (k : Tr), dec (dS d k) = some (d, k) := by decide +kernel
theorem dec_sS (k : Tr) : dec (sS k) = some (false, k) := dec_dS false k
theorem dec_rS (k : Tr) : dec (rS k) = some (true, k) := dec_dS true k
theorem dS_inj {d d' : Bool} {k k' : Tr} (h : dS d k = dS d' k') : d = d' ∧ k = k' := by
  have := (dec_dS d k).symm.trans ((congrArg dec h).trans (dec_dS d' k'))
  exact ⟨congrArg Prod.fst (Option.some.inj this), congrArg Prod.snd (Option.some.inj this)⟩

/-- The device a transfer of `c` lands on. -/
def dst (c : Dev nD) : Tr → Dev nD
  | .p _ _ => zr c
  | .a _ _ => cw c
  | .b _ _ => ccw c

/-! ## The memrefs and the cells -/

abbrev xM : Memref sig .tc .vmem S1x4096x1024 .f32 := Memref.whole cc0_stg0_0
abbrev gM : Memref sig .tc .vmem S1024 .f32 := Memref.whole cc0_stg1_0
abbrev oM : Memref sig .tc .vmem S1024x1024 .f32 := Memref.whole cc0_stg2_0
abbrev pM : Memref sig .tc .vmem S3x1024x128 .f32 := Memref.whole cc0_scratch0
abbrev yM : Memref sig .tc .vmem S1024x1024 .f32 := Memref.whole cc0_scratch1

abbrev xLoc (c : Dev nD) : Loc nD τ sig := (c : Thread nD τ).loc cc0_stg0_0
abbrev pLoc (c : Dev nD) : Loc nD τ sig := (c : Thread nD τ).loc cc0_scratch0
abbrev yLoc (c : Dev nD) : Loc nD τ sig := (c : Thread nD τ).loc cc0_scratch1

/-- The runtime's barrier semaphore, and the kernel's own semaphore for the handshake round the ring. -/
abbrev barS : Sem sig := (SemArray.scalar (sig.barrier 0 rfl) : Sems sig S_).sem
abbrev xyS : Sem sig := (cc0_scratch8 : Sems sig S_).sem
theorem xy_ne_bar : (xyS : Sem sig) ≠ barS := by decide

abbrev barCell (c : Dev nD) : GSem nD τ sig := ((c : Thread nD τ), .reg barS)
abbrev xyCell (c : Dev nD) : GSem nD τ sig := ((c : Thread nD τ), .reg xyS)
abbrev dCell (d : Bool) (k : Tr) (c : Dev nD) : GSem nD τ sig := ((c : Thread nD τ), .dma (dS d k))

/-- What one transfer credits. -/
def N : ℕ := (yM.slice (Rect.unit (s := S1024x1024) ![0, 0] S512x128.size (by decide)) (fun _ => rfl)).view.dmaCredit
theorem N_pos : 0 < N := View.dmaCredit_pos _ (by decide)

/-! ## The blocks of the buffers -/

/-- The elements of the partial sums in chunk `z`, half `t`, slice `q`. -/
def xSet (z : Fin 4) (t : Fin 2) (q : Fin 8) : Finset S1x4096x1024.Idx :=
  Finset.univ.filter fun i => (i 1).val / 512 = 2 * z.val + t.val ∧ (i 2).val / 128 = q.val
/-- The elements of the first phase's buffer in slot `s`, half `t`. -/
def pSet (t : Fin 2) (s : Fin 3) : Finset S3x1024x128.Idx :=
  Finset.univ.filter fun i => (i 0).val = s.val ∧ (i 1).val / 512 = t.val
/-- The elements of the gathered rows in half `t`, slice `q`. -/
def ySet (t : Fin 2) (q : Fin 8) : Finset S1024x1024.Idx :=
  Finset.univ.filter fun i => (i 0).val / 512 = t.val ∧ (i 1).val / 128 = q.val

theorem mem_xSet {z : Fin 4} {t : Fin 2} {q : Fin 8} {i : S1x4096x1024.Idx} :
    i ∈ xSet z t q ↔ (i 1).val / 512 = 2 * z.val + t.val ∧ (i 2).val / 128 = q.val := by simp [xSet]
theorem mem_pSet {t : Fin 2} {s : Fin 3} {i : S3x1024x128.Idx} :
    i ∈ pSet t s ↔ (i 0).val = s.val ∧ (i 1).val / 512 = t.val := by simp [pSet]
theorem mem_ySet {t : Fin 2} {q : Fin 8} {i : S1024x1024.Idx} :
    i ∈ ySet t q ↔ (i 0).val / 512 = t.val ∧ (i 1).val / 128 = q.val := by simp [ySet]

theorem xRect_set (z : Fin 4) (t : Fin 2) (q : Fin 8) (inb) :
    (Rect.unit (s := S1x4096x1024) (xOff z t q) S1x512x128.size inb).set = xSet z t q := by
  ext i
  rw [Rect.mem_set_unit, mem_xSet]
  have h0 : (i 0).val < 1 := (i 0).isLt
  constructor
  · intro h
    have h1 : 1024 * z.val + 512 * t.val ≤ (i 1).val ∧ (i 1).val < 1024 * z.val + 512 * t.val + 512 := h 1
    have h2 : 128 * q.val ≤ (i 2).val ∧ (i 2).val < 128 * q.val + 128 := h 2
    omega
  · rintro ⟨h1, h2⟩ a
    fin_cases a
    · show 0 ≤ (i 0).val ∧ (i 0).val < 0 + 1; omega
    · show 1024 * z.val + 512 * t.val ≤ (i 1).val ∧ (i 1).val < 1024 * z.val + 512 * t.val + 512; omega
    · show 128 * q.val ≤ (i 2).val ∧ (i 2).val < 128 * q.val + 128; omega
theorem pRect_set (t : Fin 2) (s : Fin 3) (inb) :
    (Rect.unit (s := S3x1024x128) (pOff s t) S1x512x128.size inb).set = pSet t s := by
  ext i
  rw [Rect.mem_set_unit, mem_pSet]
  have hb : (i 2).val < 128 := (i 2).isLt
  constructor
  · intro h
    have h0 : s.val ≤ (i 0).val ∧ (i 0).val < s.val + 1 := h 0
    have h1 : 512 * t.val ≤ (i 1).val ∧ (i 1).val < 512 * t.val + 512 := h 1
    omega
  · rintro ⟨h1, h2⟩ a
    fin_cases a
    · show s.val ≤ (i 0).val ∧ (i 0).val < s.val + 1; omega
    · show 512 * t.val ≤ (i 1).val ∧ (i 1).val < 512 * t.val + 512; omega
    · show 0 ≤ (i 2).val ∧ (i 2).val < 0 + 128; omega
theorem yRect_set (t : Fin 2) (q : Fin 8) (inb) :
    (Rect.unit (s := S1024x1024) (yOff t q) S512x128.size inb).set = ySet t q := by
  ext i
  rw [Rect.mem_set_unit, mem_ySet]
  constructor
  · intro h
    have h0 : 512 * t.val ≤ (i 0).val ∧ (i 0).val < 512 * t.val + 512 := h 0
    have h1 : 128 * q.val ≤ (i 1).val ∧ (i 1).val < 128 * q.val + 128 := h 1
    omega
  · rintro ⟨h1, h2⟩ a
    fin_cases a
    · show 512 * t.val ≤ (i 0).val ∧ (i 0).val < 512 * t.val + 512; omega
    · show 128 * q.val ≤ (i 1).val ∧ (i 1).val < 128 * q.val + 128; omega

/-- The windows as the transfers take them: a slice, its axis of size one dropped. -/
abbrev xWin (off : Fin 3 → ℕ) (inb : ∀ a, off a + S1x512x128.size a ≤ S1x4096x1024.size a) : Memref sig .tc .vmem S512x128 .f32 :=
  (xM.slice (Rect.unit (s := S1x4096x1024) off S1x512x128.size inb) (fun _ => rfl)).squeeze S512x128 squeezes_S1x512x128_S512x128
abbrev pWin (off : Fin 3 → ℕ) (inb : ∀ a, off a + S1x512x128.size a ≤ S3x1024x128.size a) : Memref sig .tc .vmem S512x128 .f32 :=
  (pM.slice (Rect.unit (s := S3x1024x128) off S1x512x128.size inb) (fun _ => rfl)).squeeze S512x128 squeezes_S1x512x128_S512x128
abbrev yWin (off : Fin 2 → ℕ) (inb : ∀ a, off a + S512x128.size a ≤ S1024x1024.size a) : Memref sig .tc .vmem S512x128 .f32 :=
  yM.slice (Rect.unit (s := S1024x1024) off S512x128.size inb) (fun _ => rfl)

theorem xWin_set (z : Fin 4) (t : Fin 2) (q : Fin 8) (inb) : (xWin (xOff z t q) inb).view.set = xSet z t q :=
  (View.set_reshape _ _).trans ((View.set_slice_whole _ _).trans (xRect_set z t q inb))
theorem pWin_set (t : Fin 2) (s : Fin 3) (inb) : (pWin (pOff s t) inb).view.set = pSet t s :=
  (View.set_reshape _ _).trans ((View.set_slice_whole _ _).trans (pRect_set t s inb))
theorem yWin_set (t : Fin 2) (q : Fin 8) (inb) : (yWin (yOff t q) inb).view.set = ySet t q :=
  (View.set_slice_whole _ _).trans (yRect_set t q inb)

/-- A window's credit is the same for both buffers. -/
theorem pWin_credit (off inb) : (pWin off inb).view.dmaCredit = N := rfl
theorem yWin_credit (off inb) : (yWin off inb).view.dmaCredit = N := rfl

/-! ## The contents -/

/-- Device `c`'s partial sums and the gains, as the launch stages them. -/
def xstg (c : Dev nD) : S1x4096x1024.Idx → Elt F .f32 :=
  (win0_0.blk t0_0).view.read (Elt F) ((s₀ m ρ).mem ((c : Thread nD τ).loc main_arg0))
def gstg (c : Dev nD) : S1024.Idx → Elt F .f32 :=
  (win0_1.blk t0_0).view.read (Elt F) ((s₀ m ρ).mem ((c : Thread nD τ).loc main_arg1))

/-- Element `(r, j)` of chunk `z` of `c`'s partial sums, in the slice of the columns at `c`'s place. -/
def xv (c : Dev nD) (z : Fin 4) (r : Fin 1024) (j : Fin 128) : Elt F .f32 :=
  xstg m ρ c (ix3 (0 : Fin 1) (⟨1024 * z.val + r.val, by have := z.isLt; have := r.isLt; omega⟩ : Fin 4096)
    (⟨128 * (pos c).val + j.val, by have := (pos c).isLt; have := j.isLt; omega⟩ : Fin 1024))

/-- What lands on `c` at step `s` of the first phase: its neighbour's own chunk, then the running sums. -/
def rv : ℕ → Dev nD → Fin 1024 → Fin 128 → Elt F .f32
  | 0, c, r, j => xv m ρ (zl c) (zf (zl c) + 3) r j
  | s + 1, c, r, j => FloatOps.addf (rv s (zl c) r j) (xv m ρ (zl c) (zf (zl c) + (if s = 0 then 2 else 1)) r j)
/-- The slot of step `s` once `c` has added its chunk; the last step's slot keeps what landed. -/
def pa (s : ℕ) (c : Dev nD) (r : Fin 1024) (j : Fin 128) : Elt F .f32 :=
  if s < 2 then FloatOps.addf (rv m ρ s c r j) (xv m ρ c (zf c + (if s = 0 then 2 else 1)) r j) else rv m ρ s c r j
/-- The slice summed over the line of `c`. -/
def fin (c : Dev nD) (r : Fin 1024) (j : Fin 128) : Elt F .f32 :=
  FloatOps.addf (rv m ρ 2 c r j) (xv m ρ c (zf c) r j)

/-- The first phase's buffer as it lands and as it stands at the end; the gathered rows. -/
def PR (c : Dev nD) : S3x1024x128.Idx → Elt F .f32 := fun i => rv m ρ (i 0).val c (i 1) (i 2)
def PA (c : Dev nD) : S3x1024x128.Idx → Elt F .f32 := fun i => pa m ρ (i 0).val c (i 1) (i 2)
def Y (c : Dev nD) : S1024x1024.Idx → Elt F .f32 := fun i =>
  fin m ρ (dv (zf c) ⟨(i 1).val / 128, by have : (i 1).val < 1024 := (i 1).isLt; omega⟩) (i 0) ⟨(i 1).val % 128, Nat.mod_lt _ (by decide)⟩

theorem Y_cw (c : Dev nD) : Y m ρ (cw c) = Y m ρ c := by unfold Y; rw [zf_cw]
theorem Y_ccw (c : Dev nD) : Y m ρ (ccw c) = Y m ρ c := by unfold Y; rw [zf_ccw]

/-! ### Where the windows' elements are -/

theorem xWin_emb (z : Fin 4) (t : Fin 2) (q : Fin 8) (inb) (r : Fin 512) (j : Fin 128) :
    (xWin (xOff z t q) inb).view.emb (ix2 r j) = (ix3 (0 : Fin 1) (⟨1024 * z.val + 512 * t.val + r.val, by omega⟩ : Fin 4096)
      (⟨128 * q.val + j.val, by omega⟩ : Fin 1024) : S1x4096x1024.Idx) := by
  show (Rect.unit (s := S1x4096x1024) (xOff z t q) S1x512x128.size inb).emb (Shape.reshapeEquiv _ (ix2 r j)) = _
  rw [reshapeEquiv_ix2_1ab]
  funext a
  apply Fin.ext
  rw [Rect.emb_apply]
  fin_cases a
  · rfl
  · show 1024 * z.val + 512 * t.val + 1 * r.val = _; rw [Nat.one_mul]
  · show 128 * q.val + 1 * j.val = _; rw [Nat.one_mul]
theorem pWin_emb (t : Fin 2) (s : Fin 3) (inb) (r : Fin 512) (j : Fin 128) :
    (pWin (pOff s t) inb).view.emb (ix2 r j) = (ix3 s (⟨512 * t.val + r.val, by omega⟩ : Fin 1024) j : S3x1024x128.Idx) := by
  show (Rect.unit (s := S3x1024x128) (pOff s t) S1x512x128.size inb).emb (Shape.reshapeEquiv _ (ix2 r j)) = _
  rw [reshapeEquiv_ix2_1ab]
  funext a
  apply Fin.ext
  rw [Rect.emb_apply]
  fin_cases a
  · rfl
  · show 512 * t.val + 1 * r.val = _; rw [Nat.one_mul]
  · show 0 + 1 * j.val = _; rw [Nat.one_mul, Nat.zero_add]

theorem yWin_emb (t : Fin 2) (q : Fin 8) (inb) (r : Fin 512) (j : Fin 128) :
    (yWin (yOff t q) inb).view.emb (ix2 r j) = (ix2 (⟨512 * t.val + r.val, by omega⟩ : Fin 1024) (⟨128 * q.val + j.val, by omega⟩ : Fin 1024) : S1024x1024.Idx) := by
  show (Rect.unit (s := S1024x1024) (yOff t q) S512x128.size inb).emb (ix2 r j) = _
  funext a
  apply Fin.ext
  rw [Rect.emb_apply]
  fin_cases a
  · show 512 * t.val + 1 * r.val = _; rw [Nat.one_mul]
  · show 128 * q.val + 1 * j.val = _; rw [Nat.one_mul]

/-! ### What lands -/

theorem land_p0 (c : Dev nD) (t : Fin 2) (f : S3x1024x128.Idx → Elt F .f32) (inb inb') :
    ∀ i ∈ pSet t 0, (pWin (pOff 0 t) inb).view.write (Elt F) f ((xWin (xOff (zf c + 3) t (pos c)) inb').view.read (Elt F) (xstg m ρ c)) Finset.univ i
      = PR m ρ (zr c) i := by
  intro i hi
  rw [← pWin_set t 0 inb] at hi
  obtain ⟨y, -, rfl⟩ := Finset.mem_map.mp hi
  refine (View.write_emb_of_mem (v := (pWin (pOff 0 t) inb).view) f _ (Finset.mem_univ y)).trans ?_
  obtain ⟨a, b, rfl⟩ : ∃ (a : Fin 512) (b : Fin 128), y = ix2 a b := ⟨y 0, y 1, eq_ix2 y⟩
  show xstg m ρ c ((xWin (xOff (zf c + 3) t (pos c)) inb').view.emb (ix2 a b)) = PR m ρ (zr c) ((pWin (pOff 0 t) inb).view.emb (ix2 a b))
  rw [xWin_emb, pWin_emb]
  show _ = xv m ρ (zl (zr c)) (zf (zl (zr c)) + 3) _ _
  rw [zl_zr]
  unfold xv
  congr 2
  exact Fin.ext (Nat.add_assoc _ _ _)

theorem land_ps (c : Dev nD) (t : Fin 2) (s s' : Fin 3) (hs : s'.val = s.val + 1) (f : S3x1024x128.Idx → Elt F .f32) (inb inb') :
    ∀ i ∈ pSet t s', (pWin (pOff s' t) inb).view.write (Elt F) f ((pWin (pOff s t) inb').view.read (Elt F) (PA m ρ c)) Finset.univ i
      = PR m ρ (zr c) i := by
  intro i hi
  rw [← pWin_set t s' inb] at hi
  obtain ⟨y, -, rfl⟩ := Finset.mem_map.mp hi
  refine (View.write_emb_of_mem (v := (pWin (pOff s' t) inb).view) f _ (Finset.mem_univ y)).trans ?_
  obtain ⟨a, b, rfl⟩ : ∃ (a : Fin 512) (b : Fin 128), y = ix2 a b := ⟨y 0, y 1, eq_ix2 y⟩
  show PA m ρ c ((pWin (pOff s t) inb').view.emb (ix2 a b)) = PR m ρ (zr c) ((pWin (pOff s' t) inb).view.emb (ix2 a b))
  rw [pWin_emb, pWin_emb]
  show pa m ρ s.val c _ _ = rv m ρ s'.val (zr c) _ _
  have h2 : s.val < 2 := by have := s'.isLt; omega
  rw [hs]
  unfold pa
  rw [if_pos h2]
  show _ = FloatOps.addf (rv m ρ s.val (zl (zr c)) _ _) (xv m ρ (zl (zr c)) (zf (zl (zr c)) + _) _ _)
  rw [zl_zr]

theorem land_y (g : S1024x1024.Idx → Elt F .f32) (t : Fin 2) (q : Fin 8) (f : S1024x1024.Idx → Elt F .f32) (inb inb') :
    ∀ i ∈ ySet t q, (yWin (yOff t q) inb).view.write (Elt F) f ((yWin (yOff t q) inb').view.read (Elt F) g) Finset.univ i = g i := by
  intro i hi
  rw [← yWin_set t q inb] at hi
  obtain ⟨y, -, rfl⟩ := Finset.mem_map.mp hi
  exact (View.write_emb_of_mem (v := (yWin (yOff t q) inb).view) f _ (Finset.mem_univ y)).trans rfl

/-! ### What is read and stored -/

theorem rect_mem {s : Shape} (r : Rect s) {i : s.Idx} (h : i ∈ r.set) : ∃ j : r.shape.Idx, r.emb j = i := by
  choose j hj e using r.mem_set.mp h
  exact ⟨fun a => ⟨j a, hj a⟩, funext fun a => Fin.ext ((Rect.emb_apply r _ a).trans (e a).symm)⟩

/-- Half `t` of chunk `z` of `c`'s slice of the partial sums, and of slot `s`. -/
def xld (c : Dev nD) (z : Fin 4) (t : Fin 2) : S1x512x128.Idx → Elt F .f32 := fun j =>
  xv m ρ c z ⟨512 * t.val + (j 1).val, by have : (j 1).val < 512 := (j 1).isLt; omega⟩ (j 2)
def pld (c : Dev nD) (s : Fin 3) (t : Fin 2) : S1x512x128.Idx → Elt F .f32 := fun j =>
  rv m ρ s.val c ⟨512 * t.val + (j 1).val, by have : (j 1).val < 512 := (j 1).isLt; omega⟩ (j 2)

theorem idx_eq3 {n0 n1 n2 : ℕ} (i j : (⟨3, ![n0, n1, n2]⟩ : Shape).Idx) (h0 : (i 0).val = (j 0).val) (h1 : (i 1).val = (j 1).val)
    (h2 : (i 2).val = (j 2).val) : i = j := by
  funext a; match a with | ⟨0, _⟩ => exact Fin.ext h0 | ⟨1, _⟩ => exact Fin.ext h1 | ⟨2, _⟩ => exact Fin.ext h2
theorem idx_eq2 {n0 n1 : ℕ} (i j : (⟨2, ![n0, n1]⟩ : Shape).Idx) (h0 : (i 0).val = (j 0).val) (h1 : (i 1).val = (j 1).val) : i = j := by
  funext a; match a with | ⟨0, _⟩ => exact Fin.ext h0 | ⟨1, _⟩ => exact Fin.ext h1

theorem read_x (c : Dev nD) (z : Fin 4) (t : Fin 2) (inb) :
    xM.view.readAt (Elt F) (Rect.unit (s := S1x4096x1024) (xOff z t (pos c)) S1x512x128.size inb).toLoadRect (xstg m ρ c) = xld m ρ c z t := by
  funext j
  have h0 : (j 0).val < 1 := (j 0).isLt
  show xstg m ρ c ((Rect.unit (s := S1x4096x1024) (xOff z t (pos c)) S1x512x128.size inb).emb j) = xstg m ρ c _
  congr 1
  refine idx_eq3 _ _ ?_ ?_ ?_ <;> rw [Rect.emb_apply]
  · show 0 + 1 * (j 0).val = 0; omega
  · show 1024 * z.val + 512 * t.val + 1 * (j 1).val = 1024 * z.val + (512 * t.val + (j 1).val); omega
  · show 128 * (pos c).val + 1 * (j 2).val = 128 * (pos c).val + (j 2).val; omega

theorem read_p (c : Dev nD) (s : Fin 3) (t : Fin 2) (inb) :
    pM.view.readAt (Elt F) (Rect.unit (s := S3x1024x128) (pOff s t) S1x512x128.size inb).toLoadRect (PR m ρ c) = pld m ρ c s t := by
  funext j
  have h0 : (j 0).val < 1 := (j 0).isLt
  have : (Rect.unit (s := S3x1024x128) (pOff s t) S1x512x128.size inb).emb j
      = (ix3 s ⟨512 * t.val + (j 1).val, by have : (j 1).val < 512 := (j 1).isLt; omega⟩ (j 2) : S3x1024x128.Idx) := by
    refine idx_eq3 _ _ ?_ ?_ ?_ <;> rw [Rect.emb_apply]
    · show s.val + 1 * (j 0).val = s.val; omega
    · show 512 * t.val + 1 * (j 1).val = 512 * t.val + (j 1).val; omega
    · show 0 + 1 * (j 2).val = (j 2).val; omega
  show PR m ρ c ((Rect.unit (s := S3x1024x128) (pOff s t) S1x512x128.size inb).emb j) = _
  rw [this]; rfl

theorem pay1_eq (v w : Vec F S1x512x128 .f32) : k0_pay1 v w = addf w v := by
  show shapeCast S1x512x128 (addf (shapeCast S512x128 w _) (shapeCast S512x128 v _)) _ = addf w v
  funext j
  show FloatOps.addf (shapeCast S1x512x128 (shapeCast S512x128 w _) _ j) (shapeCast S1x512x128 (shapeCast S512x128 v _) _ j) = _
  rw [shapeCast_shapeCast, shapeCast_shapeCast]; rfl

theorem store_p (c : Dev nD) (s : Fin 3) (hs : s.val < 2) (t : Fin 2) (f : S3x1024x128.Idx → Elt F .f32) (inb) :
    ∀ i ∈ pSet t s, ((pM.access (Rect.unit (s := S3x1024x128) (pOff s t) S1x512x128.size inb)).write (Elt F) f
        (addf (pld m ρ c s t) (xld m ρ c (zf c + (if s.val = 0 then 2 else 1)) t)) Finset.univ) i = PA m ρ c i := by
  intro i hi
  rw [← pRect_set t s inb] at hi
  obtain ⟨j, rfl⟩ := rect_mem _ hi
  refine (View.write_emb_of_mem (v := pM.access (Rect.unit (s := S3x1024x128) (pOff s t) S1x512x128.size inb)) f _ (Finset.mem_univ j)).trans ?_
  have h0 : (j 0).val < 1 := (j 0).isLt
  have : (Rect.unit (s := S3x1024x128) (pOff s t) S1x512x128.size inb).emb j
      = (ix3 s ⟨512 * t.val + (j 1).val, by have : (j 1).val < 512 := (j 1).isLt; omega⟩ (j 2) : S3x1024x128.Idx) := by
    refine idx_eq3 _ _ ?_ ?_ ?_ <;> rw [Rect.emb_apply]
    · show s.val + 1 * (j 0).val = s.val; omega
    · show 512 * t.val + 1 * (j 1).val = 512 * t.val + (j 1).val; omega
    · show 0 + 1 * (j 2).val = (j 2).val; omega
  rw [this]
  show FloatOps.addf (pld m ρ c s t j) (xld m ρ c (zf c + (if s.val = 0 then 2 else 1)) t j) = pa m ρ s.val c _ _
  unfold pa
  rw [if_pos hs]; rfl

theorem store_y (c : Dev nD) (t : Fin 2) (f : S1024x1024.Idx → Elt F .f32) (inb) :
    ∀ i ∈ ySet t (pos c), ((yM.access (Rect.unit (s := S1024x1024) (yOff t (pos c)) S512x128.size inb)).write (Elt F) f
        (k0_pay5 (xld m ρ c (zf c) t) (pld m ρ c 2 t)) Finset.univ) i = Y m ρ c i := by
  intro i hi
  rw [← yRect_set t (pos c) inb] at hi
  obtain ⟨j, rfl⟩ := rect_mem _ hi
  obtain ⟨a, b, rfl⟩ : ∃ (a : Fin 512) (b : Fin 128), j = ix2 a b := ⟨j 0, j 1, eq_ix2 j⟩
  refine (View.write_emb_of_mem (v := yM.access (Rect.unit (s := S1024x1024) (yOff t (pos c)) S512x128.size inb)) f _ (Finset.mem_univ _)).trans ?_
  have : (Rect.unit (s := S1024x1024) (yOff t (pos c)) S512x128.size inb).emb (ix2 a b)
      = (ix2 (⟨512 * t.val + a.val, by omega⟩ : Fin 1024) (⟨128 * (pos c).val + b.val, by omega⟩ : Fin 1024) : S1024x1024.Idx) := by
    refine idx_eq2 _ _ ?_ ?_ <;> rw [Rect.emb_apply]
    · show 512 * t.val + 1 * a.val = 512 * t.val + a.val; omega
    · show 128 * (pos c).val + 1 * b.val = 128 * (pos c).val + b.val; omega
  rw [this]
  have hd : (128 * (pos c).val + b.val) / 128 = (pos c).val := by omega
  have hm : (128 * (pos c).val + b.val) % 128 = b.val := by omega
  have hY : Y m ρ c (ix2 (⟨512 * t.val + a.val, by omega⟩ : Fin 1024) (⟨128 * (pos c).val + b.val, by omega⟩ : Fin 1024) : S1024x1024.Idx)
      = fin m ρ c ⟨512 * t.val + a.val, by omega⟩ b := by
    show fin m ρ (dv (zf c) ⟨(128 * (pos c).val + b.val) / 128, _⟩) _ ⟨(128 * (pos c).val + b.val) % 128, _⟩ = _
    have e1 : (⟨(128 * (pos c).val + b.val) / 128, by omega⟩ : Fin 8) = pos c := Fin.ext hd
    have e2 : (⟨(128 * (pos c).val + b.val) % 128, by omega⟩ : Fin 128) = b := Fin.ext hm
    rw [e1, e2, dv_self]
  rw [hY]
  show shapeCast S512x128 (addf (shapeCast S512x128 (pld m ρ c 2 t) _) (shapeCast S512x128 (xld m ρ c (zf c) t) _)) _ (ix2 a b) = _
  rw [shapeCast_self]
  show FloatOps.addf (shapeCast S512x128 (pld m ρ c 2 t) _ (ix2 a b)) (shapeCast S512x128 (xld m ρ c (zf c) t) _ (ix2 a b)) = _
  refine (congrArg₂ FloatOps.addf (shapeCast_1ab_ab_apply (pld m ρ c 2 t) _ a b) (shapeCast_1ab_ab_apply (xld m ρ c (zf c) t) _ a b)).trans ?_
  rfl

end Cert.Fused
end
-- ==== Proof.Sched.lean ====
/-
# The schedule of the cells, what each device owes, and the rules of the program's steps

Each transfer has two cells, one on its sender and one where it lands, each with one duty; the two handshakes are cells of
two duties each. A device's signal into the first handshake hands the device below it along z this device's first-phase
buffer; its signals into the second hand its two ring neighbours the blocks each will fill. A landing hands the receiver
the block it filled, at the values of `Cells`; a completed send hands back the share of the source that was lent.
-/
module

public import proofs.«01_k».proof.Proof.Cells

@[expose] public section

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What changes hands -/

/-- The slice sent forward, and backward, by place `q` at hop `h`. -/
def aq (q : Fin 8) (h : Fin 4) : Fin 8 := q - ⟨h.val, by omega⟩
def bq (q : Fin 8) (h : Fin 4) : Fin 8 := q + ⟨h.val, by omega⟩

/-- Device `c`'s share `q` of a block of its first-phase buffer, or of its gathered rows, at contents `f`. -/
def pPts (c : Dev nD) (t : Fin 2) (s : Fin 3) (q : PosShare TreeShare) (f : S3x1024x128.Idx → Elt F .f32) : sProp 𝕄 :=
  pLoc c ↦[pSet t s]{q} f
def yPts (c : Dev nD) (t : Fin 2) (k : Fin 8) (q : PosShare TreeShare) (f : S1024x1024.Idx → Elt F .f32) : sProp 𝕄 :=
  yLoc c ↦[ySet t k]{q} f
def xPts (c : Dev nD) (S : Finset S1x4096x1024.Idx) (q : PosShare TreeShare) : sProp 𝕄 :=
  xLoc c ↦[S]{q} xstg m ρ c

/-- The region transfer `k` fills on `c`, at any contents; at what lands. -/
def rAny (k : Tr) (c : Dev nD) : sProp 𝕄 := match k with
  | .p t s => iprop(∃ f, pPts c t s fullShare f)
  | .a t h => iprop(∃ f, yPts c t (aq (pos c + 7) h) fullShare f)
  | .b t h => iprop(∃ f, yPts c t (bq (pos c + 1) h) fullShare f)
def rPay (k : Tr) (c : Dev nD) : sProp 𝕄 := match k with
  | .p t s => pPts c t s fullShare (PR m ρ c)
  | .a t h => yPts c t (aq (pos c + 7) h) fullShare (Y m ρ c)
  | .b t h => yPts c t (bq (pos c + 1) h) fullShare (Y m ρ c)
/-- The share of its source that transfer `k` of `c` borrows. -/
def sPay (k : Tr) (c : Dev nD) : sProp 𝕄 := match k with
  | .p t s => if s = 0 then xPts m ρ c (xSet (zf c + 3) t (pos c)) fullShare.right else pPts c t (s - 1) fullShare.right (PA m ρ c)
  | .a t h => yPts c t (aq (pos c) h) (if h = 0 then fullShare.right.left else fullShare.right) (Y m ρ c)
  | .b t h => yPts c t (bq (pos c) h) (if h = 0 then fullShare.right.right else fullShare.right) (Y m ρ c)
def dPay (d : Bool) (k : Tr) (c : Dev nD) : sProp 𝕄 := if d then rPay m ρ k c else sPay m ρ k c

/-- What the handshakes hand `c`: the regions its transfers will fill. -/
def hand (l : List Tr) (c : Dev nD) : sProp 𝕄 := bigSepL l fun k => rAny k (dst c k)

omit [FloatOps F] in
instance pPts_storable (c t s q) (f : S3x1024x128.Idx → Elt F .f32) : BI.Storable (upEmb : UEmb _ 𝕄) (pPts c t s q f) := by unfold pPts; infer_instance
omit [FloatOps F] in
instance yPts_storable (c t k q) (f : S1024x1024.Idx → Elt F .f32) : BI.Storable (upEmb : UEmb _ 𝕄) (yPts c t k q f) := by unfold yPts; infer_instance
instance xPts_storable (c S q) : BI.Storable (upEmb : UEmb _ 𝕄) (xPts m ρ c S q) := by unfold xPts; infer_instance
omit [FloatOps F] in
instance rAny_storable (k : Tr) (c : Dev nD) : BI.Storable (upEmb : UEmb _ 𝕄) (rAny (F := F) k c) := by
  cases k <;> (unfold rAny; infer_instance)
instance dPay_storable (d : Bool) (k : Tr) (c : Dev nD) : BI.Storable (upEmb : UEmb _ 𝕄) (dPay m ρ d k c) := by
  unfold dPay rPay sPay
  cases d <;> cases k <;> (dsimp only; (repeat' split) <;> infer_instance)
omit [FloatOps F] in
instance hand_storable (l : List Tr) (c : Dev nD) : BI.Storable (upEmb : UEmb _ 𝕄) (hand (F := F) l c) := by
  unfold hand
  induction l with
  | nil => exact (inferInstance : BI.Storable (upEmb : UEmb _ 𝕄) iprop(emp))
  | cons k l ih =>
    rw [bigSepL_cons]
    exact (inferInstance : BI.Storable (upEmb : UEmb _ 𝕄) iprop(rAny k (dst c k) ∗ bigSepL l fun k => rAny k (dst c k)))

/-! ## The schedule -/

/-- One round. A handshake cell has two duties of one unit; the cells of a transfer that is made one duty of its credit. -/
def Rd : Rounds.Schedule (GSem nD τ sig) Bool 𝕄 where
  duties g r := if r = 0 ∧ g.1.2 = .tc then
      (match g.2 with
        | .reg _ => Finset.univ
        | .dma q => match dec q with | some (_, k) => if live k then {false} else ∅ | none => ∅)
    else ∅
  unitless _ := False
  amount g _ _ := match g.2 with | .reg _ => 1 | .dma _ => N
  payload g _ d := match g.2 with
    | .reg s => if s = barS then (if d then hand pL g.1.1 else iprop(emp)) else (if d then hand aL g.1.1 else hand bL g.1.1)
    | .dma q => match dec q with | some (e, k) => dPay m ρ e k g.1.1 | none => iprop(emp)
  amount_pos g _ _ _ := by
    rcases g with ⟨_, _ | _⟩
    · exact Nat.one_pos
    · exact N_pos

instance Rd_payload_storable (g : GSem nD τ sig) (r : ℕ) (d : Bool) :
    BI.Storable (upEmb : UEmb _ 𝕄) ((Rd (F := F) m ρ).payload g r d) := by
  rcases g with ⟨⟨c, p⟩, s | q⟩
  · show BI.Storable upEmb (if s = barS then (if d then hand pL c else iprop(emp)) else (if d then hand aL c else hand bL c))
    (repeat' split) <;> infer_instance
  · show BI.Storable upEmb (match dec q with | some (e, k) => dPay m ρ e k c | none => iprop(emp))
    split <;> infer_instance

section Sched
variable (c : Dev nD)

theorem duties_reg (s : Sem sig) : (Rd (F := F) m ρ).duties ((c : Thread nD τ), .reg s) 0 = Finset.univ := by
  unfold Rd; dsimp only; exact if_pos ⟨rfl, rfl⟩
theorem duties_d (d : Bool) (k : Tr) (hk : live k) : (Rd (F := F) m ρ).duties (dCell d k c) 0 = {false} := by
  unfold Rd; dsimp only
  refine (if_pos ⟨rfl, rfl⟩).trans ?_
  rw [dec_dS]; exact if_pos hk
theorem duties_later (g : GSem nD τ sig) : ∀ r, 1 ≤ r → (Rd (F := F) m ρ).duties g r = ∅ :=
  fun r hr => if_neg fun h => by omega
theorem duties_dead (d : Bool) (k : Tr) (hk : ¬ live k) : ∀ r, 0 ≤ r → (Rd (F := F) m ρ).duties (dCell d k c) r = ∅ := by
  intro r _
  unfold Rd; dsimp only
  by_cases hr : r = 0
  · refine (if_pos ⟨hr, rfl⟩).trans ?_
    rw [dec_dS]; exact if_neg hk
  · exact if_neg fun h => hr h.1
theorem not_unitless (g : GSem nD τ sig) : ¬ (Rd (F := F) m ρ).unitless g := fun h => h
theorem duty_mem (d : Bool) (k : Tr) (hk : live k) : false ∈ (Rd (F := F) m ρ).duties (dCell d k c) 0 := by
  rw [duties_d m ρ c d k hk]; exact Finset.mem_singleton_self _
theorem amount_reg (s : Sem sig) (d : Bool) : (Rd (F := F) m ρ).amount ((c : Thread nD τ), .reg s) 0 d = 1 := rfl
theorem amount_d (d : Bool) (k : Tr) (e : Bool) : (Rd (F := F) m ρ).amount (dCell d k c) 0 e = N := rfl
theorem expect_reg (s : Sem sig) : (Rd (F := F) m ρ).expect ((c : Thread nD τ), .reg s) 0 = 2 := by
  unfold Schedule.expect Schedule.amountOf
  rw [duties_reg, Finset.sum_congr rfl fun d _ => amount_reg m ρ c s d, Finset.sum_const, Finset.card_univ, Fintype.card_bool, smul_eq_mul]
theorem expect_d (d : Bool) (k : Tr) (hk : live k) : (Rd (F := F) m ρ).expect (dCell d k c) 0 = N := by
  unfold Schedule.expect Schedule.amountOf; rw [duties_d m ρ c d k hk, Finset.sum_singleton, amount_d]
theorem payload_d (d : Bool) (k : Tr) (e : Bool) : (Rd (F := F) m ρ).payload (dCell d k c) 0 e = dPay m ρ d k c := by
  show (match dec (dS d k) with | some (e, k) => dPay m ρ e k c | none => iprop(emp)) = _
  rw [dec_dS]
theorem payload_bar (d : Bool) : (Rd (F := F) m ρ).payload (barCell c) 0 d = if d then hand pL c else iprop(emp) := by
  unfold Rd; dsimp only; exact if_pos rfl
theorem payload_xy (d : Bool) : (Rd (F := F) m ρ).payload (xyCell c) 0 d = if d then hand aL c else hand bL c := by
  unfold Rd; dsimp only; exact if_neg xy_ne_bar

theorem rest_bar : bigSep ((Rd (F := F) m ρ).duties (barCell c) 0 \ ∅) (fun d => (Rd (F := F) m ρ).payload (barCell c) 0 d) = iprop(emp ∗ hand pL c) := by
  rw [Finset.sdiff_empty, duties_reg, bigSep_univ_eq_bigSepL [false, true] (by decide) (by decide), bigSepL_cons_cons, bigSepL_singleton,
    payload_bar, payload_bar]
  rfl
theorem rest_xy : bigSep ((Rd (F := F) m ρ).duties (xyCell c) 0 \ ∅) (fun d => (Rd (F := F) m ρ).payload (xyCell c) 0 d) = iprop(hand bL c ∗ hand aL c) := by
  rw [Finset.sdiff_empty, duties_reg, bigSep_univ_eq_bigSepL [false, true] (by decide) (by decide), bigSepL_cons_cons, bigSepL_singleton,
    payload_xy, payload_xy]
  rfl
theorem rest_d (d : Bool) (k : Tr) (hk : live k) :
    bigSep ((Rd (F := F) m ρ).duties (dCell d k c) 0 \ ∅) (fun e => (Rd (F := F) m ρ).payload (dCell d k c) 0 e) = dPay m ρ d k c := by
  rw [Finset.sdiff_empty, duties_d m ρ c d k hk, bigSep_singleton, payload_d]

end Sched

/-! ## What a device owes, and the levels -/

/-- What a device pays: its two signals into the first handshake, its two into the second, its transfers. -/
inductive Ob where
  | bar (up : Bool)
  | xy (fwd : Bool)
  | tr (k : Tr)
  deriving DecidableEq

/-- The cell each pays, and how much. -/
def Ob.cell (c : Dev nD) : Ob → GSem nD τ sig
  | .bar false => barCell (zl c)
  | .bar true => barCell (zr c)
  | .xy true => xyCell (cw c)
  | .xy false => xyCell (ccw c)
  | .tr k => dCell true k (dst c k)
def Ob.amt : Ob → ℕ
  | .tr _ => N
  | _ => 1

/-- The levels: a device waits on a cell only while everything it owes is above it. -/
def rlev : Tr → ℕ
  | .p t s => 10 + 2 * s.val + t.val
  | .a _ h => 30 + h.val
  | .b _ h => 30 + h.val
def dlev (d : Bool) (k : Tr) : ℕ := if d then rlev k else 0
def Ob.lev : Ob → ℕ
  | .bar _ => 1
  | .xy _ => 2
  | .tr k => rlev k

def L (g : GSem nD τ sig) : Finset Unit := if g.1.2 = .tc then {()} else ∅
def lv (g : GSem nD τ sig) (_ : Unit) : ℕ := match g.2 with
  | .reg s => if s = barS then 1 else 2
  | .dma q => match dec q with | some (d, k) => dlev d k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_d (c : Dev nD) (d : Bool) (k : Tr) : lv (dCell d k c) () = dlev d k := by
  show (match dec (dS d k) with | some (d, k) => dlev d k | none => 0) = _
  rw [dec_dS]
theorem Ob.lv_cell (c : Dev nD) (o : Ob) : lv (o.cell c) () = o.lev := by
  rcases o with (_ | _) | (_ | _) | k
  · show (if barS = barS then 1 else 2) = 1
    exact if_pos rfl
  · show (if barS = barS then 1 else 2) = 1
    exact if_pos rfl
  · show (if xyS = barS then 1 else 2) = 2
    exact if_neg xy_ne_bar
  · show (if xyS = barS then 1 else 2) = 2
    exact if_neg xy_ne_bar
  · exact lv_d _ true k
theorem Ob.tc_cell (c : Dev nD) (o : Ob) : (o.cell c).1.2 = .tc := by
  rcases o with (_ | _) | (_ | _) | k <;> rfl

/-- What is owed, the next payment first. -/
def owed (c : Dev nD) : List Ob → CellTallies nD τ sig Unit
  | [] => 0
  | o :: l => owed c l + tallyAt (o.cell c) () o.amt

theorem owed_pos {c : Dev nD} {l : List Ob} {g : GSem nD τ sig} {u : Unit} (h : 0 < owed c l g u) : ∃ o ∈ l, g = o.cell c := by
  induction l with
  | nil => exact absurd h (Nat.lt_irrefl 0)
  | cons o l ih =>
    unfold owed at h
    rw [Pi.add_apply, Finsupp.add_apply, tallyAt_apply] at h
    by_cases hg : g = o.cell c ∧ u = ()
    · exact ⟨o, List.mem_cons_self, hg.1⟩
    · rw [if_neg hg, Nat.add_zero] at h
      obtain ⟨o', ho', e⟩ := ih h
      exact ⟨o', List.mem_cons_of_mem _ ho', e⟩

omit [FloatOps F] in
/-- A device may wait on a cell below everything it owes. -/
theorem mayWait (c : Dev nD) (sm : SemLoc sig) (l : List Ob) (hl : ∀ o ∈ l, lv ((c : Thread nD τ), sm) () < o.lev) :
    (levAts L lv : sProp 𝕄) ⊢ MayWait (c : Thread nD τ) sm () (owed c l) :=
  MayOwe.of_cut (L := L) (lev := lv) (lv ((c : Thread nD τ), sm) ()) (fun p hp => by rw [Finset.mem_singleton.mp hp, L_tc]; exact Finset.mem_singleton_self _)
    (fun g u hg => by
      obtain ⟨o, ho, rfl⟩ := owed_pos hg
      unfold L; rw [if_pos (o.tc_cell c)]; exact Finset.mem_singleton_self _)
    (fun p hp => by rw [Finset.mem_singleton.mp hp])
    (fun g u hg => by
      obtain ⟨o, ho, rfl⟩ := owed_pos hg
      rw [Ob.lv_cell]; exact hl o ho)

end Cert.Fused
end
-- ==== Proof.Rules.lean ====
/-
# The rules of the program's steps

One rule per kind of effect the kernel performs — a signal, a wait on a handshake, a wait for a transfer, an addressed
transfer of each of the three kinds — over the invariants of every cell of the mesh, with what the device still owes as a
list whose head the step pays.
-/
module

public import proofs.«01_k».proof.Proof.Sched
public import Idealize.ShloMosaic.Lib.Pipeline.BigSepL

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells, and what every device knows of them -/

/-- The cells of a device: its regular semaphores and the two of each transfer. -/
abbrev Cx : Type := Sem sig ⊕ (Bool × Tr)
abbrev csem : Cx → SemLoc sig := fun | .inl s => .reg s | .inr (d, k) => .dma (dS d k)
abbrev kcell (x : Dev nD × Cx) : GSem nD τ sig := ((x.1 : Thread nD τ), csem x.2)

/-- Every cell's invariant, that every cell is at round 0, the levels. -/
def ctx (K : Dev nD × Cx → ℕ) : sProp 𝕄 :=
  iprop((bigSep Finset.univ fun x : Dev nD × Cx => cellInv ER (Rd m ρ) (K x) (kcell x))
    ∗ (bigSep Finset.univ fun x : Dev nD × Cx => reached ER (kcell x) 0) ∗ levAts L lv)

instance ctx_persistent (K : Dev nD × Cx → ℕ) : BI.Persistent (ctx m ρ K) := by unfold ctx; infer_instance

theorem ctx_inv (K : Dev nD × Cx → ℕ) (x : Dev nD × Cx) : ctx m ρ K ⊢ cellInv ER (Rd m ρ) (K x) (kcell x) := by
  have h : (bigSep Finset.univ fun x : Dev nD × Cx => (cellInv ER (Rd m ρ) (K x) (kcell x) : sProp 𝕄)) ⊢ cellInv ER (Rd m ρ) (K x) (kcell x) :=
    bigSep_elim (Finset.mem_univ x)
  unfold ctx
  iintro ⟨H, -, -⟩
  iapply h; iexact H
theorem ctx_reached (K : Dev nD × Cx → ℕ) (x : Dev nD × Cx) : ctx m ρ K ⊢ reached ER (kcell x) 0 := by
  have h : (bigSep Finset.univ fun x : Dev nD × Cx => (reached ER (kcell x) 0 : sProp 𝕄)) ⊢ reached ER (kcell x) 0 :=
    bigSep_elim (Finset.mem_univ x)
  unfold ctx
  iintro ⟨-, H, -⟩
  iapply h; iexact H
theorem ctx_lev (K : Dev nD × Cx → ℕ) : ctx m ρ K ⊢ levAts L lv := by
  unfold ctx
  iintro ⟨-, -, H⟩
  iexact H

/-- What a device owes, having waited on whatever it has. -/
def owesE (c : Dev nD) (l : List Ob) : sProp 𝕄 := iprop(∃ W, owes (c : Thread nD τ) (owed c l) W)
/-- What a device needs to issue transfer `k`; to wait for its side `d`; to wait on a handshake. -/
def sendT (k : Tr) (c : Dev nD) : sProp 𝕄 := iprop(dutyTok ER (dCell false k c) 0 false ∗ dutyTok ER (dCell true k (dst c k)) 0 false)
def posT (d : Bool) (k : Tr) (c : Dev nD) : sProp 𝕄 := atPos ER (dCell d k c) 0 ∅ 0
def credT (d : Bool) (k : Tr) (c : Dev nD) : sProp 𝕄 := cred (tallyAt (dCell d k c) () N)
def shakeT (s : Sem sig) (c : Dev nD) : sProp 𝕄 :=
  iprop(atPos ER ((c : Thread nD τ), SemLoc.reg s) 0 ∅ 0 ∗ cred (tallyAt ((c : Thread nD τ), SemLoc.reg s) () 2))

section Steps

variable (K : Dev nD × Cx → ℕ) (c : Dev nD)

/-! ## Handshakes -/

theorem wp_sig (n : Dev nD) (s : Sem sig) (d : Bool) (o : Ob) (ho : o.cell c = ((n : Thread nD τ), .reg s)) (ha : o.amt = 1) (l : List Ob)
    {α : Type} {Q : α → sProp 𝕄} {k : PUnit → Prog (TpuEff nD τ sig (Elt F) Λ₀ .tc) α} :
    iprop(ctx m ρ K ∗ owesE c (o :: l) ∗ dutyTok ER ((n : Thread nD τ), SemLoc.reg s) 0 d ∗ (Rd m ρ).payload ((n : Thread nD τ), SemLoc.reg s) 0 d)
      ⊢ iprop((owesE c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) s (1#32 : BitVec 32).toInt) k) Q) := by
  unfold owesE
  iintro ⟨#HC, ⟨%W, HO⟩, Ht, Hp⟩ Hk
  iapply (Rounds.wp_signal 𝒱₀ ER (Rd m ρ) (c : Thread nD τ) none (dst := (n : Thread nD τ)) (sem := s) (κ := K (n, .inl s)) (r := 0)
      (d := d) (by rw [duties_reg]; exact Finset.mem_univ _) ((amount_reg m ρ n s d).trans (by decide)) () (O₀ := owed c (o :: l)) (owed c l)
      (by show owed c l + tallyAt (o.cell c) () o.amt = _; rw [ho, ha]; rfl)) $$ [HO Ht Hp]
  · isplitr; · iapply (ctx_inv m ρ K (n, .inl s)); iexact HC
    isplitl [HO]; · iexact HO
    isplitl [Ht]; · iexact Ht
    isplitl [Hp]; · iexact Hp
    iapply (ctx_reached m ρ K (n, .inl s)); iexact HC
  iintro HO
  iapply Hk
  iexists W; iexact HO

theorem wp_shake (s : Sem sig) (l : List Ob) (hl : ∀ o ∈ l, lv ((c : Thread nD τ), .reg s) () < o.lev)
    {α : Type} {Q : α → sProp 𝕄} {k : PUnit → Prog (TpuEff nD τ sig (Elt F) Λ₀ .tc) α} :
    iprop(ctx m ρ K ∗ owesE c l ∗ shakeT s c)
      ⊢ iprop(((bigSep ((Rd (F := F) m ρ).duties ((c : Thread nD τ), .reg s) 0 \ ∅) (fun d => (Rd (F := F) m ρ).payload ((c : Thread nD τ), .reg s) 0 d)
              ∗ semVal ((c : Thread nD τ), SemLoc.reg s) 0 ∗ owesE c l)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s (2#32 : BitVec 32).toInt) k) Q) := by
  have hw : ctx m ρ K ⊢ MayWait (c : Thread nD τ) (.reg s) () (owed c l) := (ctx_lev m ρ K).trans (mayWait (F := F) c (.reg s) l hl)
  unfold owesE shakeT
  iintro ⟨#HC, ⟨%W, HO⟩, Hat, Hc⟩ Hk
  iapply (Rounds.wp_wait_rest_token 𝒱₀ ER (Rd m ρ) (c : Thread nD τ) none (κ := K (c, .inl s))
      (wpE_semWait_eq 𝒱₀ (c : Thread nD τ) none Set.univ) (Set.mem_univ _) () (O := owed c l) (W := W) (R := 0) (m := 0) (T := ∅)
      (by rw [expect_reg]; decide)) $$ [Hc HO Hat]
  · isplitr; · iapply (ctx_inv m ρ K (c, .inl s)); iexact HC
    isplitl [Hc]; · iexact Hc
    isplitl [HO]; · iexact HO
    isplitr; · iapply hw; iexact HC
    iexact Hat
  iintro ⟨HO, Hat, -, Hpay⟩
  imod (Rounds.cell_close ER (Rd m ρ) (Set.mem_univ (K (c, .inl s))) (not_unitless m ρ _) (R := 0 + 1) (duties_later m ρ ((c : Thread nD τ), .reg s))) $$ [Hat] with Hz
  · isplitr; · iapply (ctx_inv m ρ K (c, .inl s)); iexact HC
    iexact Hat
  iapply Hk
  isplitl [Hpay]; · iexact Hpay
  isplitl [Hz]; · iexact Hz
  iexists _; iexact HO

/-! ## The wait for a transfer -/

theorem wp_got (d : Bool) (k' : Tr) (hk : live k') (l : List Ob) (hl : ∀ o ∈ l, dlev d k' < o.lev) {q : DmaSem sig} (hq : q = dS d k')
    {sp sp' : Space} {s : Shape} {e : EltTy} {src : Memref sig .tc sp s e} {dst : Memref sig .tc sp' s e} {h1 : src.view.WordExact} {h2 : dst.view.WordExact}
    (hN : dst.view.dmaCredit = N)
    {α : Type} {Q : α → sProp 𝕄} {k : PUnit → Prog (TpuEff nD τ sig (Elt F) Λ₀ .tc) α} :
    iprop(ctx m ρ K ∗ owesE c l ∗ posT d k' c ∗ credT d k' c)
      ⊢ iprop(((dPay m ρ d k' c ∗ semVal (dCell d k' c) 0 ∗ owesE c l)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h1 h2) k) Q) := by
  subst hq
  have hw : ctx m ρ K ⊢ MayWait (c : Thread nD τ) (.dma (dS d k')) () (owed c l) :=
    (ctx_lev m ρ K).trans (mayWait (F := F) c (.dma (dS d k')) l (by rw [lv_d]; exact hl))
  unfold owesE posT credT
  iintro ⟨#HC, ⟨%W, HO⟩, Hat, Hc⟩ Hk
  iapply (Rounds.wp_wait_rest_token 𝒱₀ ER (Rd m ρ) (c : Thread nD τ) none (κ := K (c, .inr (d, k'))) (k' := dst.view.dmaCredit)
      (wpE_waitDma2_eq 𝒱₀ (c : Thread nD τ) none Set.univ) (Set.mem_univ _) () (O := owed c l) (W := W) (R := 0) (m := 0) (T := ∅)
      (by rw [Nat.zero_add, expect_d m ρ c d k' hk, hN])) $$ [Hc HO Hat]
  · isplitr; · iapply (ctx_inv m ρ K (c, .inr (d, k'))); iexact HC
    isplitl [Hc]; · rw [hN]; iexact Hc
    isplitl [HO]; · iexact HO
    isplitr; · iapply hw; iexact HC
    iexact Hat
  iintro ⟨HO, Hat, -, Hpay⟩
  ihave Hpay := (Entails.of_eq (rest_d m ρ c d k' hk)) $$ Hpay
  imod (Rounds.cell_close ER (Rd m ρ) (Set.mem_univ (K (c, .inr (d, k')))) (not_unitless m ρ _) (R := 0 + 1) (duties_later m ρ (dCell d k' c))) $$ [Hat] with Hz
  · isplitr; · iapply (ctx_inv m ρ K (c, .inr (d, k'))); iexact HC
    iexact Hat
  iapply Hk
  isplitl [Hpay]; · iexact Hpay
  isplitl [Hz]; · iexact Hz
  iexists _; iexact HO

/-- The cells of a transfer that is not made close at once. -/
theorem close_dead (d : Bool) (k' : Tr) (hk : ¬ live k') : iprop(ctx m ρ K ∗ posT d k' c) ⊢ iprop(|={Set.univ}=> semVal (dCell d k' c) 0) := by
  unfold posT
  iintro ⟨#HC, Hat⟩
  iapply (Rounds.cell_close ER (Rd m ρ) (Set.mem_univ (K (c, .inr (d, k')))) (not_unitless m ρ _) (R := 0) (duties_dead m ρ c d k' hk))
  isplitr; · iapply (ctx_inv m ρ K (c, .inr (d, k'))); iexact HC
  iexact Hat

/-! ## The transfers -/

/-- A transfer `k'` addressed to `n` on the semaphores `q₁`, `q₂`. -/
theorem wp_put (k' : Tr) (hk : live k') (l : List Ob) {n : Dev nD} (hn : n = dst c k') {q₁ q₂ : DmaSem sig} (hq₁ : q₁ = sS k') (hq₂ : q₂ = rS k')
    {sp sp' : Space} {s : Shape} {e : EltTy} {src : Memref sig .tc sp s e} {dstM : Memref sig .tc sp' s e} {hsc : dstM.view.ref.isScScratch = false}
    {hsrc : src.view.WordExact} {hdst : dstM.view.WordExact} {hsem : DmaTarget.Typed sp (.dma q₂) (.remote (Dev.tc n : Thread nD τ) dstM (.dma q₁) hsc)}
    (hN : dstM.view.amount (.dma q₂) = N) {q : PosShare TreeShare} {fs : Buf (Elt F) (src.view.loc (c : Thread nD τ))}
    (hpay₁ : (src.view.loc (c : Thread nD τ) ↦[src.view.set]{q} fs) ⊢ sPay m ρ k' c)
    (hpay₁' : sPay m ρ k' c ⊢ (src.view.loc (c : Thread nD τ) ↦[src.view.set]{q} fs))
    (hany : (rAny k' (dst c k') : sProp 𝕄) ⊢ iprop(∃ fd : Buf (Elt F) (dstM.view.loc (Dev.tc n : Thread nD τ)), dstM.view.loc (Dev.tc n : Thread nD τ) ↦[dstM.view.set]{fullShare} fd))
    (hpay₂ : ∀ fd : Buf (Elt F) (dstM.view.loc (Dev.tc n : Thread nD τ)),
      (dstM.view.loc (Dev.tc n : Thread nD τ) ↦[dstM.view.set]{fullShare} (dstM.view.write (Elt F) fd (src.view.read (Elt F) fs) Finset.univ)) ⊢ rPay m ρ k' (dst c k'))
    {α : Type} {Q : α → sProp 𝕄} {k : PUnit → Prog (TpuEff nD τ sig (Elt F) Λ₀ .tc) α} :
    iprop(ctx m ρ K ∗ owesE c (.tr k' :: l) ∗ sendT k' c ∗ sPay m ρ k' c ∗ rAny (F := F) k' (dst c k'))
      ⊢ iprop(((credT false k' c ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dstM (.dma q₁) hsc) (.dma q₂) hsrc hdst hsem) k) Q) := by
  subst hn hq₁ hq₂
  unfold owesE sendT credT
  iintro ⟨#HC, ⟨%W, HO⟩, ⟨Ht1, Ht2⟩, Hs, Hr⟩ Hk
  ihave Hs := hpay₁' $$ Hs
  ihave Hr := hany $$ Hr
  icases Hr with ⟨%fd, Hr⟩
  iapply (Rounds.wp_send_pointsTo 𝒱₀ ER (Rd m ρ) (c : Thread nD τ) none (κ₁ := K (c, .inr (false, k'))) (κ₂ := K (dst c k', .inr (true, k')))
    (r₁ := 0) (r₂ := 0) (d₁ := false) (d₂ := false) (fd := fd)
    (duty_mem m ρ c false k' hk)
    (duty_mem m ρ (dst c k') true k' hk)
    () () N hN (amount_d m ρ c false k' false) (amount_d m ρ (dst c k') true k' false) (O₀ := owed c (.tr k' :: l)) (owed c l) rfl (W := W)
    (hpay₁.trans (Entails.of_eq (payload_d m ρ c false k' false).symm))
    ((hpay₂ fd).trans (Entails.of_eq (payload_d m ρ (dst c k') true k' false).symm))) $$ [HO Ht1 Ht2 Hs Hr]
  · isplitr; · iapply (ctx_inv m ρ K (c, .inr (false, k'))); iexact HC
    isplitr; · iapply (ctx_inv m ρ K (dst c k', .inr (true, k'))); iexact HC
    isplitl [Hs]; · iexact Hs
    isplitl [Hr]; · iexact Hr
    isplitl [HO]; · iexact HO
    isplitl [Ht1]; · iexact Ht1
    isplitr; · iapply (ctx_reached m ρ K (c, .inr (false, k'))); iexact HC
    isplitl [Ht2]; · iexact Ht2
    iapply (ctx_reached m ρ K (dst c k', .inr (true, k'))); iexact HC
  iintro ⟨Hc, HO⟩
  iapply Hk
  isplitl [Hc]; · iexact Hc
  iexists W; iexact HO

theorem sPay_p0 (t : Fin 2) : sPay m ρ (.p t 0) c = (xLoc c ↦[xSet (zf c + 3) t (pos c)]{fullShare.right} xstg m ρ c : sProp 𝕄) := by
  unfold sPay xPts; exact if_pos rfl
theorem pred_eq : ∀ (s s' : Fin 3), s'.val = s.val + 1 → s' - 1 = s := by decide
theorem sPay_ps (t : Fin 2) (s s' : Fin 3) (hs : s'.val = s.val + 1) :
    sPay m ρ (.p t s') c = (pLoc c ↦[pSet t s]{fullShare.right} PA m ρ c : sProp 𝕄) := by
  have h0 : s' ≠ 0 := fun h => by rw [h] at hs; exact absurd hs (Nat.succ_ne_zero _).symm
  unfold sPay pPts; dsimp only; rw [if_neg h0, pred_eq s s' hs]

/-- The first step of the first phase: a window of the partial sums into slot 0. -/
theorem put_p0 (t : Fin 2) (hk : live (.p t 0)) (l : List Ob) {n : Dev nD} (hn : n = zr c) {q₁ q₂ : DmaSem sig} (hq₁ : q₁ = sS (.p t 0)) (hq₂ : q₂ = rS (.p t 0))
    {off off' : Fin 3 → ℕ} (ho : off = xOff (zf c + 3) t (pos c)) (ho' : off' = pOff 0 t) {inb inb'}
    {hsc : (pWin off' inb').view.ref.isScScratch = false}
    {hsrc : (xWin off inb).view.WordExact} {hdst : (pWin off' inb').view.WordExact}
    {hsem : DmaTarget.Typed .vmem (.dma q₂) (.remote (Dev.tc n : Thread nD τ) (pWin off' inb') (.dma q₁) hsc)}
    {α : Type} {Q : α → sProp 𝕄} {k : PUnit → Prog (TpuEff nD τ sig (Elt F) Λ₀ .tc) α} :
    iprop(ctx m ρ K ∗ owesE c (.tr (.p t 0) :: l) ∗ sendT (.p t 0) c ∗ sPay m ρ (.p t 0) c ∗ rAny (F := F) (.p t 0) (zr c))
      ⊢ iprop(((credT false (.p t 0) c ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xWin off inb) (.remote (Dev.tc n : Thread nD τ) (pWin off' inb') (.dma q₁) hsc) (.dma q₂) hsrc hdst hsem) k) Q) := by
  subst ho ho' hn
  refine wp_put m ρ K c (.p t 0) hk l rfl hq₁ hq₂ (pWin_credit _ _) (q := fullShare.right) (fs := xstg m ρ c) ?_ ?_ ?_ ?_
  · rw [xWin_set, sPay_p0]
  · rw [xWin_set, sPay_p0]
  · rw [pWin_set]; unfold rAny pPts; exact BI.Entails.refl _
  · intro fd
    rw [pWin_set]; unfold rPay pPts
    exact Entails.of_eq (pointsTo_congr (land_p0 m ρ c t fd inb' inb))

/-- The later steps: a slot, the chunk added, into the next one. -/
theorem put_ps (t : Fin 2) (s s' : Fin 3) (hs : s'.val = s.val + 1) (hk : live (.p t s')) (l : List Ob) {n : Dev nD} (hn : n = zr c) {q₁ q₂ : DmaSem sig}
    (hq₁ : q₁ = sS (.p t s')) (hq₂ : q₂ = rS (.p t s'))
    {off off' : Fin 3 → ℕ} (ho : off = pOff s t) (ho' : off' = pOff s' t) {inb inb'}
    {hsc : (pWin off' inb').view.ref.isScScratch = false}
    {hsrc : (pWin off inb).view.WordExact} {hdst : (pWin off' inb').view.WordExact}
    {hsem : DmaTarget.Typed .vmem (.dma q₂) (.remote (Dev.tc n : Thread nD τ) (pWin off' inb') (.dma q₁) hsc)}
    {α : Type} {Q : α → sProp 𝕄} {k : PUnit → Prog (TpuEff nD τ sig (Elt F) Λ₀ .tc) α} :
    iprop(ctx m ρ K ∗ owesE c (.tr (.p t s') :: l) ∗ sendT (.p t s') c ∗ sPay m ρ (.p t s') c ∗ rAny (F := F) (.p t s') (zr c))
      ⊢ iprop(((credT false (.p t s') c ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pWin off inb) (.remote (Dev.tc n : Thread nD τ) (pWin off' inb') (.dma q₁) hsc) (.dma q₂) hsrc hdst hsem) k) Q) := by
  subst ho ho' hn
  refine wp_put m ρ K c (.p t s') hk l rfl hq₁ hq₂ (pWin_credit _ _) (q := fullShare.right) (fs := PA m ρ c) ?_ ?_ ?_ ?_
  · rw [pWin_set, sPay_ps m ρ c t s s' hs]
  · rw [pWin_set, sPay_ps m ρ c t s s' hs]
  · rw [pWin_set]; unfold rAny pPts; exact BI.Entails.refl _
  · intro fd
    rw [pWin_set]; unfold rPay pPts
    exact Entails.of_eq (pointsTo_congr (land_ps m ρ c t s s' hs fd inb' inb))

theorem aq_cw (h : Fin 4) : aq (pos (cw c) + 7) h = aq (pos c) h := by
  rw [pos_cw]; generalize pos c = p; revert p h; decide
theorem bq_ccw (h : Fin 4) : bq (pos (ccw c) + 1) h = bq (pos c) h := by
  rw [pos_ccw]; generalize pos c = p; revert p h; decide

/-- A slice sent forward round the ring. -/
theorem put_a (t : Fin 2) (h : Fin 4) (hk : live (.a t h)) (l : List Ob) {n : Dev nD} (hn : n = cw c) {q₁ q₂ : DmaSem sig}
    (hq₁ : q₁ = sS (.a t h)) (hq₂ : q₂ = rS (.a t h))
    {off : Fin 2 → ℕ} (ho : off = yOff t (aq (pos c) h)) {inb inb'}
    {hsc : (yWin off inb').view.ref.isScScratch = false}
    {hsrc : (yWin off inb).view.WordExact} {hdst : (yWin off inb').view.WordExact}
    {hsem : DmaTarget.Typed .vmem (.dma q₂) (.remote (Dev.tc n : Thread nD τ) (yWin off inb') (.dma q₁) hsc)}
    {α : Type} {Q : α → sProp 𝕄} {k : PUnit → Prog (TpuEff nD τ sig (Elt F) Λ₀ .tc) α} :
    iprop(ctx m ρ K ∗ owesE c (.tr (.a t h) :: l) ∗ sendT (.a t h) c ∗ sPay m ρ (.a t h) c ∗ rAny (F := F) (.a t h) (cw c))
      ⊢ iprop(((credT false (.a t h) c ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (yWin off inb) (.remote (Dev.tc n : Thread nD τ) (yWin off inb') (.dma q₁) hsc) (.dma q₂) hsrc hdst hsem) k) Q) := by
  subst ho hn
  refine wp_put m ρ K c (.a t h) hk l rfl hq₁ hq₂ (yWin_credit _ _) (q := if h = 0 then fullShare.right.left else fullShare.right) (fs := Y m ρ c) ?_ ?_ ?_ ?_
  · rw [yWin_set]; unfold sPay yPts; exact BI.Entails.refl _
  · rw [yWin_set]; unfold sPay yPts; exact BI.Entails.refl _
  · rw [yWin_set]; unfold rAny yPts dst; dsimp only; rw [aq_cw]; exact BI.Entails.refl _
  · intro fd
    rw [yWin_set]; unfold rPay yPts dst; dsimp only; rw [aq_cw, Y_cw]
    exact Entails.of_eq (pointsTo_congr (land_y (Y m ρ c) t _ fd inb' inb))

/-- A slice sent backward. -/
theorem put_b (t : Fin 2) (h : Fin 4) (hk : live (.b t h)) (l : List Ob) {n : Dev nD} (hn : n = ccw c) {q₁ q₂ : DmaSem sig}
    (hq₁ : q₁ = sS (.b t h)) (hq₂ : q₂ = rS (.b t h))
    {off : Fin 2 → ℕ} (ho : off = yOff t (bq (pos c) h)) {inb inb'}
    {hsc : (yWin off inb').view.ref.isScScratch = false}
    {hsrc : (yWin off inb).view.WordExact} {hdst : (yWin off inb').view.WordExact}
    {hsem : DmaTarget.Typed .vmem (.dma q₂) (.remote (Dev.tc n : Thread nD τ) (yWin off inb') (.dma q₁) hsc)}
    {α : Type} {Q : α → sProp 𝕄} {k : PUnit → Prog (TpuEff nD τ sig (Elt F) Λ₀ .tc) α} :
    iprop(ctx m ρ K ∗ owesE c (.tr (.b t h) :: l) ∗ sendT (.b t h) c ∗ sPay m ρ (.b t h) c ∗ rAny (F := F) (.b t h) (ccw c))
      ⊢ iprop(((credT false (.b t h) c ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (yWin off inb) (.remote (Dev.tc n : Thread nD τ) (yWin off inb') (.dma q₁) hsc) (.dma q₂) hsrc hdst hsem) k) Q) := by
  subst ho hn
  refine wp_put m ρ K c (.b t h) hk l rfl hq₁ hq₂ (yWin_credit _ _) (q := if h = 0 then fullShare.right.right else fullShare.right) (fs := Y m ρ c) ?_ ?_ ?_ ?_
  · rw [yWin_set]; unfold sPay yPts; exact BI.Entails.refl _
  · rw [yWin_set]; unfold sPay yPts; exact BI.Entails.refl _
  · rw [yWin_set]; unfold rAny yPts dst; dsimp only; rw [bq_ccw]; exact BI.Entails.refl _
  · intro fd
    rw [yWin_set]; unfold rPay yPts dst; dsimp only; rw [bq_ccw, Y_ccw]
    exact Entails.of_eq (pointsTo_congr (land_y (Y m ρ c) t _ fd inb' inb))

end Steps

end Cert.Fused
end
-- ==== Proof.Local.lean ====
/-
# The steps that stay on one device

The loads and stores of the two phases, each at the block it touches: what a load reads is a named value, what a store
leaves is the named contents. And how the blocks a device has received are lent on and taken back.
-/
module

public import proofs.«01_k».proof.Proof.Rules

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A program of device `c`, run to `Q`. -/
abbrev run {α : Type} (c : Dev nD) (e : Prog (TpuEff nD τ sig (Elt F) Λ₀ .tc) α) (Q : α → sProp 𝕄) : sProp 𝕄 :=
  wp frame (wpE (defs₀ (F := F)) 𝒱₀ (c : Thread nD τ) none) Set.univ e Q

variable (c : Dev nD)

/-! ## The first phase's loads and stores -/

theorem ld_x (z : Fin 4) (t : Fin 2) {off : Fin 3 → ℕ} (ho : off = xOff z t (pos c)) {inb hl}
    {α : Type} {Q : α → sProp 𝕄} {k : (S1x512x128.Idx → Elt F .f32) → Prog (TpuEff nD τ sig (Elt F) Λ₀ .tc) α} :
    xPts m ρ c Finset.univ fullShare.left ⊢ iprop((xPts m ρ c Finset.univ fullShare.left -∗ run c (k (xld m ρ c z t)) Q)
      -∗ run c (.op (.load xM (Rect.unit (s := S1x4096x1024) off S1x512x128.size inb).toLoadRect hl) k) Q) := by
  subst ho
  unfold xPts
  iintro H Hk
  iapply (wp_load 𝒱₀ (c : Thread nD τ) none Set.univ (m := xM) (Finset.subset_univ _)) $$ H; iintro H
  rw [read_x]
  iapply Hk; iexact H

theorem on_p (t : Fin 2) (s : Fin 3) (inb) :
    pM.view.setOn (Rect.unit (s := S3x1024x128) (pOff s t) S1x512x128.size inb).toLoadRect.set ⊆ pSet t s := by
  intro i hi
  obtain ⟨y, hy, rfl⟩ := Finset.mem_map.mp hi
  exact (pRect_set t s inb) ▸ hy
theorem on_y (t : Fin 2) (q : Fin 8) (inb) :
    yM.view.setOn (Rect.unit (s := S1024x1024) (yOff t q) S512x128.size inb).toLoadRect.set ⊆ ySet t q := by
  intro i hi
  obtain ⟨y, hy, rfl⟩ := Finset.mem_map.mp hi
  exact (yRect_set t q inb) ▸ hy

theorem ld_p (t : Fin 2) (s : Fin 3) {off : Fin 3 → ℕ} (ho : off = pOff s t) {inb hl}
    {α : Type} {Q : α → sProp 𝕄} {k : (S1x512x128.Idx → Elt F .f32) → Prog (TpuEff nD τ sig (Elt F) Λ₀ .tc) α} :
    pPts c t s fullShare (PR m ρ c) ⊢ iprop((pPts c t s fullShare (PR m ρ c) -∗ run c (k (pld m ρ c s t)) Q)
      -∗ run c (.op (.load pM (Rect.unit (s := S3x1024x128) off S1x512x128.size inb).toLoadRect hl) k) Q) := by
  subst ho
  unfold pPts
  iintro H Hk
  iapply (wp_load 𝒱₀ (c : Thread nD τ) none Set.univ (m := pM) (on_p t s inb)) $$ H; iintro H
  rw [read_p]
  iapply Hk; iexact H

/-- What the next step borrows of a slot, and what stays. -/
theorem split_p (t : Fin 2) (s s' : Fin 3) (hs : s'.val = s.val + 1) :
    pPts c t s fullShare (PA m ρ c) ⊣⊢ iprop(pPts c t s fullShare.left (PA m ρ c) ∗ sPay m ρ (.p t s') c) := by
  rw [sPay_ps m ρ c t s s' hs]
  unfold pPts
  exact pointsTo_share (PosShare.mem_left_op_right _)

theorem st_p (t : Fin 2) (s s' : Fin 3) (hs : s'.val = s.val + 1) (hs2 : s.val < 2) {off : Fin 3 → ℕ} (ho : off = pOff s t)
    {w : S1x512x128.Idx → Elt F .f32} (hw : w = k0_pay1 (xld m ρ c (zf c + (if s.val = 0 then 2 else 1)) t) (pld m ρ c s t)) {inb hx hm}
    {α : Type} {Q : α → sProp 𝕄} {k : PUnit → Prog (TpuEff nD τ sig (Elt F) Λ₀ .tc) α} :
    pPts c t s fullShare (PR m ρ c) ⊢ iprop(((pPts c t s fullShare.left (PA m ρ c) ∗ sPay m ρ (.p t s') c) -∗ run c (k ⟨⟩) Q)
      -∗ run c (.op (.store pM (Rect.unit (s := S3x1024x128) off S1x512x128.size inb) w Finset.univ hx hm) k) Q) := by
  subst ho hw
  rw [pay1_eq]
  iintro H Hk
  unfold pPts
  iapply (wp_store 𝒱₀ (c : Thread nD τ) none Set.univ (m := pM) (r := Rect.unit (s := S3x1024x128) (pOff s t) S1x512x128.size inb) (Mk := Finset.univ)
    (S := pSet t s) (((View.set_slice_whole _ _).trans (pRect_set t s inb)).subset)) $$ H
  iintro H
  ihave H := (Entails.of_eq (pointsTo_congr (store_p m ρ c s hs2 t _ inb))) $$ H
  iapply Hk
  iapply (split_p m ρ c t s s' hs).1
  unfold pPts
  iexact H

/-! ## The gathered blocks -/

/-- What `c` keeps of block `o` places up the ring, for its loads; what it lends on. -/
def yL (t : Fin 2) (o : Fin 8) : sProp 𝕄 := yPts c t (pos c + o) fullShare.left (Y m ρ c)
def yR (t : Fin 2) (o : Fin 8) : sProp 𝕄 := yPts c t (pos c + o) fullShare.right (Y m ρ c)

def aO (h : Fin 4) : Fin 8 := ⟨7 - h.val, by omega⟩
def bO (h : Fin 4) : Fin 8 := ⟨1 + h.val, by omega⟩
theorem aq_off (h : Fin 4) : aq (pos c + 7) h = pos c + aO h := by generalize pos c = p; revert p h; decide
theorem bq_off (h : Fin 4) : bq (pos c + 1) h = pos c + bO h := by generalize pos c = p; revert p h; decide
theorem aq_next (h h' : Fin 4) (hh : h'.val = h.val + 1) : aq (pos c) h' = pos c + aO h := by generalize pos c = p; revert p h h'; decide
theorem bq_next (h h' : Fin 4) (hh : h'.val = h.val + 1) : bq (pos c) h' = pos c + bO h := by generalize pos c = p; revert p h h'; decide
theorem ne_zero_of (h h' : Fin 4) (hh : h'.val = h.val + 1) : h' ≠ 0 := fun e => by rw [e] at hh; exact absurd hh (Nat.succ_ne_zero _).symm

theorem sPay_a (t : Fin 2) (h h' : Fin 4) (hh : h'.val = h.val + 1) : sPay m ρ (.a t h') c = yR m ρ c t (aO h) := by
  unfold sPay yR; dsimp only; rw [aq_next c h h' hh, if_neg (ne_zero_of h h' hh)]
theorem sPay_b (t : Fin 2) (h h' : Fin 4) (hh : h'.val = h.val + 1) : sPay m ρ (.b t h') c = yR m ρ c t (bO h) := by
  unfold sPay yR; dsimp only; rw [bq_next c h h' hh, if_neg (ne_zero_of h h' hh)]

theorem got_a (t : Fin 2) (h : Fin 4) : dPay m ρ true (.a t h) c ⊣⊢ iprop(yL m ρ c t (aO h) ∗ yR m ρ c t (aO h)) := by
  show yPts c t (aq (pos c + 7) h) fullShare (Y m ρ c) ⊣⊢ _
  rw [aq_off]
  exact pointsTo_share (PosShare.mem_left_op_right _)
theorem got_b (t : Fin 2) (h : Fin 4) : dPay m ρ true (.b t h) c ⊣⊢ iprop(yL m ρ c t (bO h) ∗ yR m ρ c t (bO h)) := by
  show yPts c t (bq (pos c + 1) h) fullShare (Y m ρ c) ⊣⊢ _
  rw [bq_off]
  exact pointsTo_share (PosShare.mem_left_op_right _)

/-- The device's own block: one part to keep, one for each direction. -/
theorem own_lent (t : Fin 2) : yR m ρ c t 0 ⊣⊢ iprop(sPay m ρ (.a t 0) c ∗ sPay m ρ (.b t 0) c) := by
  show yPts c t (pos c + 0) fullShare.right (Y m ρ c) ⊣⊢ iprop(yPts c t (aq (pos c) 0) fullShare.right.left (Y m ρ c) ∗ yPts c t (bq (pos c) 0) fullShare.right.right (Y m ρ c))
  rw [show aq (pos c) 0 = pos c from by generalize pos c = p; revert p; decide, show bq (pos c) 0 = pos c from by generalize pos c = p; revert p; decide,
    show pos c + 0 = pos c from by generalize pos c = p; revert p; decide]
  exact pointsTo_share (PosShare.mem_left_op_right _)
theorem own_split (t : Fin 2) : yPts c t (pos c) fullShare (Y m ρ c) ⊣⊢ iprop(yL m ρ c t 0 ∗ yR m ρ c t 0) := by
  unfold yL yR
  rw [show pos c + 0 = pos c from by generalize pos c = p; revert p; decide]
  exact pointsTo_share (PosShare.mem_left_op_right _)

/-- The load whose value the kernel drops, and the store of the summed slice. -/
theorem ld_y (t : Fin 2) {f : S1024x1024.Idx → Elt F .f32} {off : Fin 2 → ℕ} (ho : off = yOff t (pos c)) {inb hl}
    {α : Type} {Q : α → sProp 𝕄} {k : (S512x128.Idx → Elt F .f32) → Prog (TpuEff nD τ sig (Elt F) Λ₀ .tc) α} :
    yPts c t (pos c) fullShare f ⊢ iprop((∀ v, yPts c t (pos c) fullShare f -∗ run c (k v) Q)
      -∗ run c (.op (.load yM (Rect.unit (s := S1024x1024) off S512x128.size inb).toLoadRect hl) k) Q) := by
  subst ho
  unfold yPts
  iintro H Hk
  iapply (wp_load 𝒱₀ (c : Thread nD τ) none Set.univ (m := yM) (on_y t (pos c) inb)) $$ H; iintro H
  iapply Hk; iexact H

theorem st_y (t : Fin 2) {f : S1024x1024.Idx → Elt F .f32} {off : Fin 2 → ℕ} (ho : off = yOff t (pos c))
    {w : S512x128.Idx → Elt F .f32} (hw : w = k0_pay5 (xld m ρ c (zf c) t) (pld m ρ c 2 t)) {inb hx hm}
    {α : Type} {Q : α → sProp 𝕄} {k : PUnit → Prog (TpuEff nD τ sig (Elt F) Λ₀ .tc) α} :
    yPts c t (pos c) fullShare f ⊢ iprop(((yL m ρ c t 0 ∗ sPay m ρ (.a t 0) c ∗ sPay m ρ (.b t 0) c) -∗ run c (k ⟨⟩) Q)
      -∗ run c (.op (.store yM (Rect.unit (s := S1024x1024) off S512x128.size inb) w Finset.univ hx hm) k) Q) := by
  subst ho hw
  iintro H Hk
  unfold yPts
  iapply (wp_store 𝒱₀ (c : Thread nD τ) none Set.univ (m := yM) (r := Rect.unit (s := S1024x1024) (yOff t (pos c)) S512x128.size inb) (Mk := Finset.univ)
    (S := ySet t (pos c)) (((View.set_slice_whole _ _).trans (yRect_set t (pos c) inb)).subset)) $$ H
  iintro H
  ihave H := (Entails.of_eq (pointsTo_congr (store_y m ρ c t _ inb))) $$ H
  iapply Hk
  ihave H := (own_split m ρ c t).1 $$ [H]
  · unfold yPts; iexact H
  icases H with ⟨HL, HR⟩
  isplitl [HL]; · iexact HL
  iapply (own_lent m ρ c t).1; iexact HR

/-! ## The reads of the gathered rows -/

/-- Both halves of slice `q`; half `t` of slice `q`; half `t` of every slice. -/
def col (q : Fin 8) : S1024x128.Idx → Elt F .f32 := fun j =>
  Y m ρ c (ix2 (⟨(j 0).val, (j 0).isLt⟩ : Fin 1024) (⟨128 * q.val + (j 1).val, by have : (j 1).val < 128 := (j 1).isLt; have := q.isLt; omega⟩ : Fin 1024))
def blk (t : Fin 2) (q : Fin 8) : S512x128.Idx → Elt F .f32 := fun j =>
  Y m ρ c (ix2 (⟨512 * t.val + (j 0).val, by have : (j 0).val < 512 := (j 0).isLt; have := t.isLt; omega⟩ : Fin 1024)
    (⟨128 * q.val + (j 1).val, by have : (j 1).val < 128 := (j 1).isLt; have := q.isLt; omega⟩ : Fin 1024))
def row (t : Fin 2) : S512x1024.Idx → Elt F .f32 := fun j =>
  Y m ρ c (ix2 (⟨512 * t.val + (j 0).val, by have : (j 0).val < 512 := (j 0).isLt; have := t.isLt; omega⟩ : Fin 1024) (⟨(j 1).val, (j 1).isLt⟩ : Fin 1024))

theorem col_set (q : Fin 8) (inb) : (Rect.unit (s := S1024x1024) (yOff 0 q) S1024x128.size inb).set = ySet 0 q ∪ ySet 1 q := by
  ext i
  rw [Rect.mem_set_unit, Finset.mem_union, mem_ySet, mem_ySet]
  have hi : (i 0).val < 1024 := (i 0).isLt
  constructor
  · intro h
    have h1 : 128 * q.val ≤ (i 1).val ∧ (i 1).val < 128 * q.val + 128 := h 1
    rcases Nat.lt_or_ge (i 0).val 512 with h' | h'
    · exact .inl ⟨by show (i 0).val / 512 = 0; omega, by omega⟩
    · exact .inr ⟨by show (i 0).val / 512 = 1; omega, by omega⟩
  · intro h a
    match a with
    | ⟨0, _⟩ => exact ⟨Nat.zero_le _, by show (i 0).val < 0 + 1024; omega⟩
    | ⟨1, _⟩ =>
      have h1 : (i 1).val / 128 = q.val := by rcases h with h | h <;> exact h.2
      exact ⟨by show 128 * q.val ≤ (i 1).val; omega, by show (i 1).val < 128 * q.val + 128; omega⟩

theorem off_cancel : ∀ p q : Fin 8, p + (q - p) = q := by decide
theorem off_inj : ∀ p a b : Fin 8, p + a = p + b → a = b := by decide

def rowSet (t : Fin 2) : Finset S1024x1024.Idx := Finset.univ.filter fun i => (i 0).val / 512 = t.val
theorem rowSet_eq [DecidableEq (Idx (yLoc c))] (t : Fin 2) : (Finset.univ.biUnion fun o : Fin 8 => (ySet t (pos c + o) : Finset (Idx (yLoc c)))) = rowSet t := by
  ext i
  show i ∈ Finset.biUnion _ _ ↔ i ∈ Finset.filter _ _
  have hb : (i 1).val < 1024 := (i 1).isLt
  rw [Finset.mem_biUnion, Finset.mem_filter]
  constructor
  · rintro ⟨o, -, h⟩; exact ⟨Finset.mem_univ _, (mem_ySet.mp h).1⟩
  · rintro ⟨-, h⟩
    refine ⟨⟨(i 1).val / 128, by omega⟩ - pos c, Finset.mem_univ _, mem_ySet.mpr ?_⟩
    rw [off_cancel]; exact ⟨h, rfl⟩

theorem row_set (t : Fin 2) {off : Fin 2 → ℕ} (ho : off = ![512 * t.val, 0]) (inb) :
    (Rect.unit (s := S1024x1024) off S512x1024.size inb).set ⊆ rowSet t := by
  subst ho
  intro i hi
  rw [Rect.mem_set_unit] at hi
  have h0 : 512 * t.val ≤ (i 0).val ∧ (i 0).val < 512 * t.val + 512 := hi 0
  exact Finset.mem_filter.mpr ⟨Finset.mem_univ _, by omega⟩

theorem ySet_disj (t : Fin 2) (o o' : Fin 8) (h : o ≠ o') : Disjoint (ySet t (pos c + o)) (ySet t (pos c + o')) := by
  refine Finset.disjoint_left.mpr fun i hi hi' => h ?_
  rw [mem_ySet] at hi hi'
  exact off_inj _ _ _ (Fin.ext (hi.2.symm.trans hi'.2))
theorem ySet_disj_t (q : Fin 8) : Disjoint (ySet 0 q) (ySet 1 q) := by
  refine Finset.disjoint_left.mpr fun i hi hi' => ?_
  rw [mem_ySet] at hi hi'
  exact absurd (hi.1.symm.trans hi'.1) (by decide)

theorem rows_eq (t : Fin 2) (q : PosShare TreeShare) (f : S1024x1024.Idx → Elt F .f32) :
    (bigSep Finset.univ fun o : Fin 8 => yPts c t (pos c + o) q f) = (yLoc c ↦[rowSet t]{q} f : sProp 𝕄) := by
  unfold yPts
  have h := (pointsTo_biUnion (ℓ := yLoc c) (q := q) (f := f) Finset.univ (fun o : Fin 8 => (ySet t (pos c + o) : Finset (Idx (yLoc c)))) (fun o _ o' _ h => ySet_disj c t o o' h) : (_ : sProp 𝕄) = _).symm
  rw [rowSet_eq] at h
  exact h

/-- A load of both halves of slice `o` places up the ring. -/
theorem ld_col (o q : Fin 8) (hq : pos c + o = q) {off : Fin 2 → ℕ} (ho : off = yOff 0 q) {inb hl}
    {α : Type} {Q : α → sProp 𝕄} {k : (S1024x128.Idx → Elt F .f32) → Prog (TpuEff nD τ sig (Elt F) Λ₀ .tc) α} :
    iprop(yL m ρ c 0 o ∗ yL m ρ c 1 o) ⊢ iprop(((yL m ρ c 0 o ∗ yL m ρ c 1 o) -∗ run c (k (col m ρ c q)) Q)
      -∗ run c (.op (.load yM (Rect.unit (s := S1024x1024) off S1024x128.size inb).toLoadRect hl) k) Q) := by
  subst ho hq
  unfold yL yPts
  have hr : yM.view.readAt (Elt F) (Rect.unit (s := S1024x1024) (yOff 0 (pos c + o)) S1024x128.size inb).toLoadRect (Y m ρ c) = col m ρ c (pos c + o) := by
    funext j
    show Y m ρ c ((Rect.unit (s := S1024x1024) (yOff 0 (pos c + o)) S1024x128.size inb).emb j) = Y m ρ c _
    congr 1
    refine idx_eq2 _ _ ?_ ?_ <;> rw [Rect.emb_apply]
    · show 0 + 1 * (j 0).val = (j 0).val; omega
    · show 128 * (pos c + o).val + 1 * (j 1).val = 128 * (pos c + o).val + (j 1).val; omega
  have hS : yM.view.setOn (Rect.unit (s := S1024x1024) (yOff 0 (pos c + o)) S1024x128.size inb).toLoadRect.set ⊆ ySet 0 (pos c + o) ∪ ySet 1 (pos c + o) := by
    intro i hi
    obtain ⟨y, hy, rfl⟩ := Finset.mem_map.mp hi
    exact (col_set (pos c + o) inb) ▸ hy
  refine (pointsTo_union (ySet_disj_t _)).2.trans ?_
  iintro H Hk
  iapply (wp_load 𝒱₀ (c : Thread nD τ) none Set.univ (m := yM) hS) $$ H; iintro H
  rw [hr]
  iapply Hk
  iapply (pointsTo_union (ySet_disj_t (pos c + o))).1; iexact H

/-- A load of one half of it. -/
theorem ld_blk (t : Fin 2) (o q : Fin 8) (hq : pos c + o = q) {off : Fin 2 → ℕ} (ho : off = yOff t q) {inb hl}
    {α : Type} {Q : α → sProp 𝕄} {k : (S512x128.Idx → Elt F .f32) → Prog (TpuEff nD τ sig (Elt F) Λ₀ .tc) α} :
    yL m ρ c t o ⊢ iprop((yL m ρ c t o -∗ run c (k (blk m ρ c t q)) Q)
      -∗ run c (.op (.load yM (Rect.unit (s := S1024x1024) off S512x128.size inb).toLoadRect hl) k) Q) := by
  subst ho hq
  unfold yL yPts
  have hr : yM.view.readAt (Elt F) (Rect.unit (s := S1024x1024) (yOff t (pos c + o)) S512x128.size inb).toLoadRect (Y m ρ c) = blk m ρ c t (pos c + o) := by
    funext j
    show Y m ρ c ((Rect.unit (s := S1024x1024) (yOff t (pos c + o)) S512x128.size inb).emb j) = Y m ρ c _
    congr 1
    refine idx_eq2 _ _ ?_ ?_ <;> rw [Rect.emb_apply]
    · show 512 * t.val + 1 * (j 0).val = 512 * t.val + (j 0).val; omega
    · show 128 * (pos c + o).val + 1 * (j 1).val = 128 * (pos c + o).val + (j 1).val; omega
  iintro H Hk
  iapply (wp_load 𝒱₀ (c : Thread nD τ) none Set.univ (m := yM) (on_y t (pos c + o) inb)) $$ H; iintro H
  rw [hr]
  iapply Hk; iexact H

/-- A load of one half of every slice. -/
theorem ld_row (t : Fin 2) {off : Fin 2 → ℕ} (ho : off = ![512 * t.val, 0]) {inb hl}
    {α : Type} {Q : α → sProp 𝕄} {k : (S512x1024.Idx → Elt F .f32) → Prog (TpuEff nD τ sig (Elt F) Λ₀ .tc) α} :
    (bigSep Finset.univ fun o => yL m ρ c t o) ⊢ iprop(((bigSep Finset.univ fun o => yL m ρ c t o) -∗ run c (k (row m ρ c t)) Q)
      -∗ run c (.op (.load yM (Rect.unit (s := S1024x1024) off S512x1024.size inb).toLoadRect hl) k) Q) := by
  have hr : yM.view.readAt (Elt F) (Rect.unit (s := S1024x1024) off S512x1024.size inb).toLoadRect (Y m ρ c) = row m ρ c t := by
    subst ho
    funext j
    show Y m ρ c ((Rect.unit (s := S1024x1024) ![512 * t.val, 0] S512x1024.size inb).emb j) = Y m ρ c _
    congr 1
    refine idx_eq2 _ _ ?_ ?_ <;> rw [Rect.emb_apply]
    · show 512 * t.val + 1 * (j 0).val = 512 * t.val + (j 0).val; omega
    · show 0 + 1 * (j 1).val = (j 1).val; omega
  have hS : yM.view.setOn (Rect.unit (s := S1024x1024) off S512x1024.size inb).toLoadRect.set ⊆ rowSet t := by
    intro i hi
    obtain ⟨y, hy, rfl⟩ := Finset.mem_map.mp hi
    exact row_set t ho inb hy
  unfold yL
  rw [rows_eq]
  iintro H Hk
  iapply (wp_load 𝒱₀ (c : Thread nD τ) none Set.univ (m := yM) hS) $$ H; iintro H
  rw [hr]
  iapply Hk; iexact H

/-! ## The gains and the output -/

def gPts : sProp 𝕄 := (c : Thread nD τ).loc cc0_stg1_0 ↦{fullShare} gstg m ρ c
def oPts (f : S1024x1024.Idx → Elt F .f32) : sProp 𝕄 := (c : Thread nD τ).loc cc0_stg2_0 ↦{fullShare} f

theorem ld_g {inb hl} {α : Type} {Q : α → sProp 𝕄} {k : (S1024.Idx → Elt F .f32) → Prog (TpuEff nD τ sig (Elt F) Λ₀ .tc) α} :
    gPts m ρ c ⊢ iprop((gPts m ρ c -∗ run c (k (gstg m ρ c)) Q)
      -∗ run c (.op (.load gM (Rect.unit (s := S1024) ![0] S1024.size inb).toLoadRect hl) k) Q) := by
  unfold gPts
  have hz : (![0] : Fin 1 → ℕ) = fun _ => 0 := funext fun a => by fin_cases a; rfl
  iintro H Hk
  iapply (wp_load 𝒱₀ (c : Thread nD τ) none Set.univ (m := gM) (Finset.subset_univ _)) $$ H; iintro H
  rw [show gM.view.readAt (Elt F) (Rect.unit (s := S1024) ![0] S1024.size inb).toLoadRect (gstg m ρ c) = gstg m ρ c from
    Memref.readAt_unit_zero (Elt F) cc0_stg1_0 hz _ _]
  iapply Hk; iexact H

/-- The output with half `t` of its rows replaced. -/
def oW (t : Fin 2) (f : S1024x1024.Idx → Elt F .f32) (w : S512x1024.Idx → Elt F .f32) : S1024x1024.Idx → Elt F .f32 := fun i =>
  if (i 0).val / 512 = t.val then w (ix2 (⟨(i 0).val % 512, Nat.mod_lt _ (by decide)⟩ : Fin 512) (⟨(i 1).val, (i 1).isLt⟩ : Fin 1024)) else f i

theorem write_o (t : Fin 2) {off : Fin 2 → ℕ} (ho : off = ![512 * t.val, 0]) (inb) (f : S1024x1024.Idx → Elt F .f32) (w : S512x1024.Idx → Elt F .f32) :
    (oM.access (Rect.unit (s := S1024x1024) off S512x1024.size inb)).write (Elt F) f w Finset.univ = oW t f w := by
  subst ho
  funext i
  have hb : (i 1).val < 1024 := (i 1).isLt
  unfold oW
  by_cases h : (i 0).val / 512 = t.val
  · rw [if_pos h]
    have e : (Rect.unit (s := S1024x1024) ![512 * t.val, 0] S512x1024.size inb).emb
        (ix2 (⟨(i 0).val % 512, Nat.mod_lt _ (by decide)⟩ : Fin 512) (⟨(i 1).val, (i 1).isLt⟩ : Fin 1024)) = i := by
      refine idx_eq2 _ _ ?_ ?_ <;> rw [Rect.emb_apply]
      · show 512 * t.val + 1 * ((i 0).val % 512) = (i 0).val; omega
      · show 0 + 1 * (i 1).val = (i 1).val; omega
    conv_lhs => rw [← e]
    exact View.write_emb_of_mem (v := oM.access (Rect.unit (s := S1024x1024) ![512 * t.val, 0] S512x1024.size inb)) f _ (Finset.mem_univ _)
  · rw [if_neg h]
    refine View.write_of_not_mem (v := oM.access (Rect.unit (s := S1024x1024) ![512 * t.val, 0] S512x1024.size inb)) f _ _ fun hi => h ?_
    have hi' : i ∈ (Rect.unit (s := S1024x1024) ![512 * t.val, 0] S512x1024.size inb).set := ((Finset.ext_iff.mp (View.set_slice_whole _ _)) i).mp hi
    rw [Rect.mem_set_unit] at hi'
    have h0 : 512 * t.val ≤ (i 0).val ∧ (i 0).val < 512 * t.val + 512 := hi' 0
    omega

theorem ld_o {f : S1024x1024.Idx → Elt F .f32} {off : Fin 2 → ℕ} {inb hl}
    {α : Type} {Q : α → sProp 𝕄} {k : (S512x1024.Idx → Elt F .f32) → Prog (TpuEff nD τ sig (Elt F) Λ₀ .tc) α} :
    oPts c f ⊢ iprop((∀ v, oPts c f -∗ run c (k v) Q)
      -∗ run c (.op (.load oM (Rect.unit (s := S1024x1024) off S512x1024.size inb).toLoadRect hl) k) Q) := by
  unfold oPts
  iintro H Hk
  iapply (wp_load 𝒱₀ (c : Thread nD τ) none Set.univ (m := oM) (Finset.subset_univ _)) $$ H; iintro H
  iapply Hk; iexact H

theorem st_o (t : Fin 2) {f : S1024x1024.Idx → Elt F .f32} {off : Fin 2 → ℕ} (ho : off = ![512 * t.val, 0]) {w : S512x1024.Idx → Elt F .f32} {inb hx hm}
    {α : Type} {Q : α → sProp 𝕄} {k : PUnit → Prog (TpuEff nD τ sig (Elt F) Λ₀ .tc) α} :
    oPts c f ⊢ iprop((oPts c (oW t f w) -∗ run c (k ⟨⟩) Q)
      -∗ run c (.op (.store oM (Rect.unit (s := S1024x1024) off S512x1024.size inb) w Finset.univ hx hm) k) Q) := by
  unfold oPts
  iintro H Hk
  iapply (wp_store 𝒱₀ (c : Thread nD τ) none Set.univ (m := oM) (r := Rect.unit (s := S1024x1024) off S512x1024.size inb) (Mk := Finset.univ)
    (Finset.subset_univ _)) $$ H
  iintro H
  rw [write_o t ho]
  iapply Hk; iexact H

/-- The sums of squares of each row but for the last slice, in the order the kernel adds them; then the output. -/
def ss : S1024x1.Idx → Elt F .f32 :=
  k0_pay12 (k0_pay11 (k0_pay10 (k0_pay9 (k0_pay8 (col m ρ c (pos c))) (col m ρ c (pos c - 1))) (col m ρ c (pos c + 1))) (col m ρ c (pos c - 2)) (col m ρ c (pos c + 2)))
    (col m ρ c (pos c - 3)) (col m ρ c (pos c + 3))
def outTop : S512x1024.Idx → Elt F .f32 := k0_pay13 (ss m ρ c) (blk m ρ c 0 (pos c + 4)) (row m ρ c 0) (gstg m ρ c)
def outBot : S512x1024.Idx → Elt F .f32 := k0_pay16 (k0_pay14 (ss m ρ c) (blk m ρ c 1 (pos c + 4)) (row m ρ c 1)) (k0_pay15 (gstg m ρ c))
def outAt : S1024x1024.Idx → Elt F .f32 := fun i =>
  (if (i 0).val < 512 then outTop m ρ c else outBot m ρ c) (ix2 (⟨(i 0).val % 512, Nat.mod_lt _ (by decide)⟩ : Fin 512) (⟨(i 1).val, (i 1).isLt⟩ : Fin 1024))

theorem out_eq (f : S1024x1024.Idx → Elt F .f32) : oW 1 (oW 0 f (outTop m ρ c)) (outBot m ρ c) = outAt m ρ c := by
  funext i
  have hb : (i 0).val < 1024 := (i 0).isLt
  unfold oW outAt
  by_cases h : (i 0).val < 512
  · rw [if_pos h, if_neg (show ¬ (i 0).val / 512 = ((1 : Fin 2) : ℕ) by show ¬ (i 0).val / 512 = 1; omega),
      if_pos (show (i 0).val / 512 = ((0 : Fin 2) : ℕ) by show (i 0).val / 512 = 0; omega)]
  · rw [if_neg h, if_pos (show (i 0).val / 512 = ((1 : Fin 2) : ℕ) by show (i 0).val / 512 = 1; omega)]

/-! ## What a transfer is issued and awaited with -/

abbrev sndT (k : Tr) (c : Dev nD) : sProp 𝕄 := iprop(sendT k c ∗ posT false k c)
abbrev rcvT (k : Tr) (c : Dev nD) : sProp 𝕄 := iprop(posT true k c ∗ credT true k c)
abbrev pend (k : Tr) (c : Dev nD) : sProp 𝕄 := iprop(posT false k c ∗ credT false k c)

end Cert.Fused
end
-- ==== Proof.PartsA.lean ====
/-
# The program's parts: the handshakes and the first phase

One lemma per part of the printed body that touches memory or a semaphore: what it takes, and what it leaves.
-/
module

public import proofs.«01_k».proof.Proof.Local

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What is still owed before each payment. -/
abbrev o24 : List Ob := []
abbrev o23 : List Ob := .tr (.b 1 3) :: o24
abbrev o22 : List Ob := .tr (.a 0 3) :: o23
abbrev o21 : List Ob := .tr (.b 0 2) :: o22
abbrev o20 : List Ob := .tr (.a 1 2) :: o21
abbrev o19 : List Ob := .tr (.b 1 2) :: o20
abbrev o18 : List Ob := .tr (.a 0 2) :: o19
abbrev o17 : List Ob := .tr (.b 0 1) :: o18
abbrev o16 : List Ob := .tr (.a 1 1) :: o17
abbrev o15 : List Ob := .tr (.b 1 1) :: o16
abbrev o14 : List Ob := .tr (.a 0 1) :: o15
abbrev o13 : List Ob := .tr (.a 1 0) :: o14
abbrev o12 : List Ob := .tr (.b 1 0) :: o13
abbrev o11 : List Ob := .tr (.b 0 0) :: o12
abbrev o10 : List Ob := .tr (.a 0 0) :: o11
abbrev o9 : List Ob := .tr (.p 1 2) :: o10
abbrev o8 : List Ob := .tr (.p 0 2) :: o9
abbrev o7 : List Ob := .tr (.p 1 1) :: o8
abbrev o6 : List Ob := .tr (.p 0 1) :: o7
abbrev o5 : List Ob := .tr (.p 1 0) :: o6
abbrev o4 : List Ob := .tr (.p 0 0) :: o5
abbrev o3 : List Ob := .xy false :: o4
abbrev o2 : List Ob := .xy true :: o3
abbrev o1 : List Ob := .bar true :: o2
abbrev o0 : List Ob := .bar false :: o1

/-! ## What the handshakes hand over, transfer by transfer -/

theorem hand_p (c : Dev nD) : hand (F := F) pL c ⊣⊢ iprop(rAny (F := F) (.p 0 0) (dst c (.p 0 0)) ∗ rAny (F := F) (.p 1 0) (dst c (.p 1 0)) ∗ rAny (F := F) (.p 0 1) (dst c (.p 0 1)) ∗ rAny (F := F) (.p 1 1) (dst c (.p 1 1)) ∗ rAny (F := F) (.p 0 2) (dst c (.p 0 2)) ∗ rAny (F := F) (.p 1 2) (dst c (.p 1 2))) := by
  unfold hand pL
  simp only [bigSepL_cons_cons, bigSepL_singleton]
  exact ⟨BI.Entails.refl _, BI.Entails.refl _⟩
theorem hand_a (c : Dev nD) : hand (F := F) aL c ⊣⊢ iprop(rAny (F := F) (.a 0 0) (dst c (.a 0 0)) ∗ rAny (F := F) (.a 1 0) (dst c (.a 1 0)) ∗ rAny (F := F) (.a 0 1) (dst c (.a 0 1)) ∗ rAny (F := F) (.a 1 1) (dst c (.a 1 1)) ∗ rAny (F := F) (.a 0 2) (dst c (.a 0 2)) ∗ rAny (F := F) (.a 1 2) (dst c (.a 1 2)) ∗ rAny (F := F) (.a 0 3) (dst c (.a 0 3))) := by
  unfold hand aL
  simp only [bigSepL_cons_cons, bigSepL_singleton]
  exact ⟨BI.Entails.refl _, BI.Entails.refl _⟩
theorem hand_b (c : Dev nD) : hand (F := F) bL c ⊣⊢ iprop(rAny (F := F) (.b 0 0) (dst c (.b 0 0)) ∗ rAny (F := F) (.b 1 0) (dst c (.b 1 0)) ∗ rAny (F := F) (.b 0 1) (dst c (.b 0 1)) ∗ rAny (F := F) (.b 1 1) (dst c (.b 1 1)) ∗ rAny (F := F) (.b 0 2) (dst c (.b 0 2)) ∗ rAny (F := F) (.b 1 2) (dst c (.b 1 2)) ∗ rAny (F := F) (.b 1 3) (dst c (.b 1 3))) := by
  unfold hand bL
  simp only [bigSepL_cons_cons, bigSepL_singleton]
  exact ⟨BI.Entails.refl _, BI.Entails.refl _⟩

theorem low_bar (c : Dev nD) : ∀ o ∈ o2, lv ((c : Thread nD τ), .reg barS) () < o.lev := by
  rw [show lv ((c : Thread nD τ), .reg barS) () = 1 from (show (if barS = barS then 1 else 2) = 1 from if_pos rfl)]; decide
theorem low_xy (c : Dev nD) : ∀ o ∈ o10, lv ((c : Thread nD τ), .reg xyS) () < o.lev := by
  rw [show lv ((c : Thread nD τ), .reg xyS) () = 2 from (show (if xyS = barS then 1 else 2) = 2 from if_neg xy_ne_bar)]; decide

theorem run_ret (c : Dev nD) {α : Type} {a : α} {Q : α → sProp 𝕄} : Q a ⊢ run c (Prog.ret a) Q := by
  show _ ⊢ wp _ _ _ _ _
  rw [wp_ret]; iintro H; imodintro; iexact H

theorem got_p (c : Dev nD) (t : Fin 2) (s : Fin 3) : dPay m ρ true (.p t s) c ⊢ pPts c t s fullShare (PR m ρ c) := BI.Entails.refl _
theorem back_s (c : Dev nD) (k : Tr) : dPay m ρ false k c ⊢ sPay m ρ k c := BI.Entails.refl _

theorem xWin_credit (off inb) : (xWin off inb).view.dmaCredit = N := rfl

theorem yL_of (c : Dev nD) (t : Fin 2) (o o' : Fin 8) (h : o = o') : yL m ρ c t o ⊢ yL m ρ c t o' := by subst h; exact BI.Entails.refl _
theorem yR_of (c : Dev nD) (t : Fin 2) (o o' : Fin 8) (h : o = o') : yR m ρ c t o ⊢ yR m ρ c t o' := by subst h; exact BI.Entails.refl _

theorem off_0 : ∀ p : Fin 8, p + 0 = p := by decide
theorem off_7 : ∀ p : Fin 8, p + 7 = p - 1 := by decide
theorem off_6 : ∀ p : Fin 8, p + 6 = p - 2 := by decide
theorem off_5 : ∀ p : Fin 8, p + 5 = p - 3 := by decide
theorem off_1 (p : Fin 8) : p + 1 = p + 1 := rfl
theorem off_2 (p : Fin 8) : p + 2 = p + 2 := rfl
theorem off_3 (p : Fin 8) : p + 3 = p + 3 := rfl

theorem row_join (c : Dev nD) (t : Fin 2) : (bigSep Finset.univ fun o : Fin 8 => yL m ρ c t o)
    ⊣⊢ iprop(yL m ρ c t 0 ∗ yL m ρ c t 7 ∗ yL m ρ c t 6 ∗ yL m ρ c t 5 ∗ yL m ρ c t 4 ∗ yL m ρ c t 1 ∗ yL m ρ c t 2 ∗ yL m ρ c t 3) := by
  rw [bigSep_univ_eq_bigSepL [0, 7, 6, 5, 4, 1, 2, 3] (by decide) (by decide)]
  simp only [bigSepL_cons_cons, bigSepL_singleton]
  exact ⟨BI.Entails.refl _, BI.Entails.refl _⟩

variable (K : Dev nD × Cx → ℕ) (c : Dev nD)
variable (hx : xM.IsWhole) (hg : gM.IsWhole) (ho : oM.IsWhole) (hp : pM.IsWhole) (hy : yM.IsWhole)

/-! ## The parts -/

theorem part3 (v2 : BitVec 32) (v5 : BitVec 32) (v20 : BitVec 32) (v31 : BitVec 32) (v69 : BitVec 32) (v70 : BitVec 32) (v71 : BitVec 1) (v72 : BitVec 1) {Q : (Σ' (v94 : BitVec 32) (v97 : BitVec 32), Sems sig S_) → sProp 𝕄} :
    iprop(ctx m ρ K
      ∗ owesE c o0
      ∗ dutyTok ER (barCell (zl c)) 0 true
      ∗ hand (F := F) pL (zl c)
      ∗ dutyTok ER (barCell (zr c)) 0 false)
      ⊢ iprop((∀ r0 : BitVec 32, ∀ r1 : BitVec 32, (owesE c o2)
          -∗ Q ⟨r0, r1, SemArray.scalar (sig.barrier 0 rfl)⟩)
        -∗ run c (k0_part3 xM hx gM hg oM ho pM hp yM hy cc0_scratch2 cc0_scratch3 cc0_scratch4 cc0_scratch5 cc0_scratch6 cc0_scratch7 cc0_scratch8 c v2 v5 v20 v31 v69 v70 v71 v72) Q) := by
  rw [k0_part3_eq_skeleton]; unfold k0_part3_skel
  simp only [semSignalWord, semWaitWord, Prog.lift, Prog.bind_op, Prog.bind_ret, Prog.pure_eq_ret]
  iintro ⟨#HC, HO, HdutyTokERbarCellzlc0true, HhandpLzlc, HdutyTokERbarCellzrc0false⟩ Hk
  rw [dev1_eq c]
  iapply (wp_sig m ρ K c (zl c) barS true (.bar false) rfl rfl o1) $$ [HO HdutyTokERbarCellzlc0true HhandpLzlc]
  · isplitr; · iexact HC
    isplitl [HO]; · iexact HO
    isplitl [HdutyTokERbarCellzlc0true]; · iexact HdutyTokERbarCellzlc0true
    iapply (Entails.of_eq ((payload_bar m ρ (zl c) true).trans (if_pos rfl)).symm)
    iexact HhandpLzlc
  iintro HO
  rw [dev2_eq c]
  iapply (wp_sig m ρ K c (zr c) barS false (.bar true) rfl rfl o2) $$ [HO HdutyTokERbarCellzrc0false ]
  · isplitr; · iexact HC
    isplitl [HO]; · iexact HO
    isplitl [HdutyTokERbarCellzrc0false]; · iexact HdutyTokERbarCellzrc0false
    ihave He : (iprop(emp) : sProp 𝕄) $$ []
    · iempintro
    iapply (Entails.of_eq ((payload_bar m ρ (zr c) false).trans (if_neg Bool.false_ne_true)).symm)
    iexact He
  iintro HO
  iapply (run_ret c)
  iapply Hk
  iexact HO

theorem part4 (v2 : BitVec 32) (v5 : BitVec 32) (v8 : BitVec 32) (v20 : BitVec 32) (v31 : BitVec 32) (v34 : BitVec 32) (v62 : BitVec 32) (v65 : BitVec 32) (v94 : BitVec 32) (v97 : BitVec 32) {Q : (BitVec 32) → sProp 𝕄} :
    iprop(ctx m ρ K
      ∗ owesE c o2
      ∗ shakeT barS c
      ∗ dutyTok ER (xyCell (cw c)) 0 false
      ∗ hand (F := F) bL (cw c)
      ∗ dutyTok ER (xyCell (ccw c)) 0 true
      ∗ hand (F := F) aL (ccw c)
      ∗ sndT (.p 0 0) c
      ∗ sPay m ρ (.p 0 0) c)
      ⊢ iprop((∀ r0 : BitVec 32, (owesE c o5
            ∗ semVal (barCell c) 0
            ∗ rAny (F := F) (.p 1 0) (dst c (.p 1 0))
            ∗ rAny (F := F) (.p 0 1) (dst c (.p 0 1))
            ∗ rAny (F := F) (.p 1 1) (dst c (.p 1 1))
            ∗ rAny (F := F) (.p 0 2) (dst c (.p 0 2))
            ∗ rAny (F := F) (.p 1 2) (dst c (.p 1 2))
            ∗ pend (.p 0 0) c)
          -∗ Q r0)
        -∗ run c (k0_part4 xM hx gM hg oM ho pM hp yM hy cc0_scratch2 cc0_scratch3 cc0_scratch4 cc0_scratch5 cc0_scratch6 cc0_scratch7 cc0_scratch8 c v2 v5 v8 v20 v31 v34 v62 v65 v94 v97 (SemArray.scalar (sig.barrier 0 rfl))) Q) := by
  rw [k0_part4_eq_skeleton]; unfold k0_part4_skel
  simp only [semSignalWord, semWaitWord, Prog.lift, Prog.bind_op, Prog.bind_ret, Prog.pure_eq_ret]
  iintro ⟨#HC, HO, HshakeTbarSc, HdutyTokERxyCellcwc0false, HhandbLcwc, HdutyTokERxyCellccwc0true, HhandaLccwc, HsndTp00c, HsPayp00c⟩ Hk
  iapply (wp_shake m ρ K c barS o2 (low_bar c)) $$ [HO HshakeTbarSc]
  · isplitr; · iexact HC
    isplitl [HO]; · iexact HO
    iexact HshakeTbarSc
  iintro ⟨Hpay, HsemValbarCellc0, HO⟩
  ihave Hpay := (Entails.of_eq (rest_bar m ρ c)) $$ Hpay
  icases Hpay with ⟨-, Hpay⟩
  ihave Hpay := (hand_p c).1 $$ Hpay
  icases Hpay with ⟨HrAnyp00p00, HrAnyp10p10, HrAnyp01p01, HrAnyp11p11, HrAnyp02p02, HrAnyp12p12⟩
  rw [dev3_eq c]
  iapply (wp_sig m ρ K c (cw c) xyS false (.xy true) rfl rfl o3) $$ [HO HdutyTokERxyCellcwc0false HhandbLcwc]
  · isplitr; · iexact HC
    isplitl [HO]; · iexact HO
    isplitl [HdutyTokERxyCellcwc0false]; · iexact HdutyTokERxyCellcwc0false
    iapply (Entails.of_eq ((payload_xy m ρ (cw c) false).trans (if_neg Bool.false_ne_true)).symm)
    iexact HhandbLcwc
  iintro HO
  rw [dev4_eq c]
  iapply (wp_sig m ρ K c (ccw c) xyS true (.xy false) rfl rfl o4) $$ [HO HdutyTokERxyCellccwc0true HhandaLccwc]
  · isplitr; · iexact HC
    isplitl [HO]; · iexact HO
    isplitl [HdutyTokERxyCellccwc0true]; · iexact HdutyTokERxyCellccwc0true
    iapply (Entails.of_eq ((payload_xy m ρ (ccw c) true).trans (if_pos rfl)).symm)
    iexact HhandaLccwc
  iintro HO
  icases HsndTp00c with ⟨HsndTp00c, Hpos⟩
  iapply (put_p0 m ρ K c 0 (by decide) o5 (dev5_eq c) rfl rfl (off1_eq c 0) rfl) $$ [HO HsndTp00c HsPayp00c HrAnyp00p00]
  · isplitr; · iexact HC
    isplitl [HO]; · iexact HO
    isplitl [HsndTp00c]; · iexact HsndTp00c
    isplitl [HsPayp00c]; · iexact HsPayp00c
    iexact HrAnyp00p00
  iintro ⟨Hcr, HO⟩
  ihave Hpendp00c : pend (.p 0 0) c $$ [Hpos Hcr]
  · isplitl [Hpos]; · iexact Hpos
    iexact Hcr
  iapply (run_ret c)
  iapply Hk
  isplitl [HO]; · iexact HO
  isplitl [HsemValbarCellc0]; · iexact HsemValbarCellc0
  isplitl [HrAnyp10p10]; · iexact HrAnyp10p10
  isplitl [HrAnyp01p01]; · iexact HrAnyp01p01
  isplitl [HrAnyp11p11]; · iexact HrAnyp11p11
  isplitl [HrAnyp02p02]; · iexact HrAnyp02p02
  isplitl [HrAnyp12p12]; · iexact HrAnyp12p12
  iexact Hpendp00c

theorem part5 (v2 : BitVec 32) (v5 : BitVec 32) (v8 : BitVec 32) (v20 : BitVec 32) (v31 : BitVec 32) {Q : (Σ' (v168 : BitVec 32), BitVec 32) → sProp 𝕄} :
    iprop(ctx m ρ K
      ∗ owesE c o5
      ∗ sndT (.p 1 0) c
      ∗ sPay m ρ (.p 1 0) c
      ∗ rAny (F := F) (.p 1 0) (dst c (.p 1 0)))
      ⊢ iprop((∀ r0 : BitVec 32, ∀ r1 : BitVec 32, (owesE c o6
            ∗ pend (.p 1 0) c)
          -∗ Q ⟨r0, r1⟩)
        -∗ run c (k0_part5 xM hx gM hg oM ho pM hp yM hy cc0_scratch2 cc0_scratch3 cc0_scratch4 cc0_scratch5 cc0_scratch6 cc0_scratch7 cc0_scratch8 c v2 v5 v8 v20 v31) Q) := by
  rw [k0_part5_eq_skeleton]; unfold k0_part5_skel
  simp only [semSignalWord, semWaitWord, Prog.lift, Prog.bind_op, Prog.bind_ret, Prog.pure_eq_ret]
  iintro ⟨#HC, HO, HsndTp10c, HsPayp10c, HrAnyp10p10⟩ Hk
  icases HsndTp10c with ⟨HsndTp10c, Hpos⟩
  iapply (put_p0 m ρ K c 1 (by decide) o6 (dev6_eq c) rfl rfl (off1_eq c 1) rfl) $$ [HO HsndTp10c HsPayp10c HrAnyp10p10]
  · isplitr; · iexact HC
    isplitl [HO]; · iexact HO
    isplitl [HsndTp10c]; · iexact HsndTp10c
    isplitl [HsPayp10c]; · iexact HsPayp10c
    iexact HrAnyp10p10
  iintro ⟨Hcr, HO⟩
  ihave Hpendp10c : pend (.p 1 0) c $$ [Hpos Hcr]
  · isplitl [Hpos]; · iexact Hpos
    iexact Hcr
  iapply (run_ret c)
  iapply Hk
  isplitl [HO]; · iexact HO
  iexact Hpendp10c

theorem part6 (v2 : BitVec 32) (v5 : BitVec 32) (v31 : BitVec 32) (v123 : BitVec 32) (v168 : BitVec 32) (c16_i32_111 : BitVec 32) {Q : (PUnit) → sProp 𝕄} :
    iprop(ctx m ρ K
      ∗ owesE c o6
      ∗ rcvT (.p 0 0) c
      ∗ xPts m ρ c Finset.univ fullShare.left)
      ⊢ iprop(((owesE c o6
            ∗ semVal (dCell true (.p 0 0) c) 0
            ∗ xPts m ρ c Finset.univ fullShare.left
            ∗ pPts c 0 0 fullShare.left (PA m ρ c)
            ∗ sPay m ρ (.p 0 1) c)
          -∗ Q ⟨⟩)
        -∗ run c (k0_part6 xM hx gM hg oM ho pM hp yM hy cc0_scratch2 cc0_scratch3 cc0_scratch4 cc0_scratch5 cc0_scratch6 cc0_scratch7 cc0_scratch8 c v2 v5 v31 v123 v168 c16_i32_111) Q) := by
  rw [k0_part6_eq_skeleton]; unfold k0_part6_skel
  simp only [semSignalWord, semWaitWord, Prog.lift, Prog.bind_op, Prog.bind_ret, Prog.pure_eq_ret]
  iintro ⟨#HC, HO, HrcvTp00c, Hx⟩ Hk
  icases HrcvTp00c with ⟨Hpos, Hcr⟩
  iapply (wp_got m ρ K c true (.p 0 0) (by decide) o6 (by decide) rfl (pWin_credit _ _)) $$ [HO Hpos Hcr]
  · isplitr; · iexact HC
    isplitl [HO]; · iexact HO
    isplitl [Hpos]; · iexact Hpos
    iexact Hcr
  iintro ⟨Hpay, HsemValdCelltruep00c0, HO⟩
  ihave HpPtsc00PRc := (got_p m ρ c 0 0) $$ Hpay
  iapply (ld_x m ρ c (zf c + (if 0 = 0 then 2 else 1)) 0 (off2_eq c 0 0)) $$ Hx
  iintro Hx
  iapply (ld_p m ρ c 0 0 rfl) $$ HpPtsc00PRc
  iintro HpPtsc00PRc
  iapply (ld_p m ρ c 0 0 rfl) $$ HpPtsc00PRc
  iintro HpPtsc00PRc
  iapply (st_p m ρ c 0 0 1 rfl (by decide) rfl rfl) $$ HpPtsc00PRc
  iintro ⟨HpPtsc00lPAc, HsPayp01c⟩
  iapply (run_ret c)
  iapply Hk
  isplitl [HO]; · iexact HO
  isplitl [HsemValdCelltruep00c0]; · iexact HsemValdCelltruep00c0
  isplitl [Hx]; · iexact Hx
  isplitl [HpPtsc00lPAc]; · iexact HpPtsc00lPAc
  iexact HsPayp01c

theorem part7 (v2 : BitVec 32) (v5 : BitVec 32) (v31 : BitVec 32) (v123 : BitVec 32) (v168 : BitVec 32) {Q : (PUnit) → sProp 𝕄} :
    iprop(ctx m ρ K
      ∗ owesE c o6
      ∗ sndT (.p 0 1) c
      ∗ sPay m ρ (.p 0 1) c
      ∗ rAny (F := F) (.p 0 1) (dst c (.p 0 1))
      ∗ rcvT (.p 1 0) c
      ∗ xPts m ρ c Finset.univ fullShare.left)
      ⊢ iprop(((owesE c o7
            ∗ pend (.p 0 1) c
            ∗ semVal (dCell true (.p 1 0) c) 0
            ∗ xPts m ρ c Finset.univ fullShare.left
            ∗ pPts c 1 0 fullShare.left (PA m ρ c)
            ∗ sPay m ρ (.p 1 1) c)
          -∗ Q ⟨⟩)
        -∗ run c (k0_part7 xM hx gM hg oM ho pM hp yM hy cc0_scratch2 cc0_scratch3 cc0_scratch4 cc0_scratch5 cc0_scratch6 cc0_scratch7 cc0_scratch8 c v2 v5 v31 v123 v168) Q) := by
  rw [k0_part7_eq_skeleton]; unfold k0_part7_skel
  simp only [semSignalWord, semWaitWord, Prog.lift, Prog.bind_op, Prog.bind_ret, Prog.pure_eq_ret]
  iintro ⟨#HC, HO, HsndTp01c, HsPayp01c, HrAnyp01p01, HrcvTp10c, Hx⟩ Hk
  icases HsndTp01c with ⟨HsndTp01c, Hpos⟩
  iapply (put_ps m ρ K c 0 0 1 rfl (by decide) o7 (dev7_eq c) rfl rfl rfl rfl) $$ [HO HsndTp01c HsPayp01c HrAnyp01p01]
  · isplitr; · iexact HC
    isplitl [HO]; · iexact HO
    isplitl [HsndTp01c]; · iexact HsndTp01c
    isplitl [HsPayp01c]; · iexact HsPayp01c
    iexact HrAnyp01p01
  iintro ⟨Hcr, HO⟩
  ihave Hpendp01c : pend (.p 0 1) c $$ [Hpos Hcr]
  · isplitl [Hpos]; · iexact Hpos
    iexact Hcr
  icases HrcvTp10c with ⟨Hpos, Hcr⟩
  iapply (wp_got m ρ K c true (.p 1 0) (by decide) o7 (by decide) rfl (pWin_credit _ _)) $$ [HO Hpos Hcr]
  · isplitr; · iexact HC
    isplitl [HO]; · iexact HO
    isplitl [Hpos]; · iexact Hpos
    iexact Hcr
  iintro ⟨Hpay, HsemValdCelltruep10c0, HO⟩
  ihave HpPtsc10PRc := (got_p m ρ c 1 0) $$ Hpay
  iapply (ld_x m ρ c (zf c + (if 0 = 0 then 2 else 1)) 1 (off2_eq c 0 1)) $$ Hx
  iintro Hx
  iapply (ld_p m ρ c 1 0 rfl) $$ HpPtsc10PRc
  iintro HpPtsc10PRc
  iapply (ld_p m ρ c 1 0 rfl) $$ HpPtsc10PRc
  iintro HpPtsc10PRc
  iapply (st_p m ρ c 1 0 1 rfl (by decide) rfl rfl) $$ HpPtsc10PRc
  iintro ⟨HpPtsc10lPAc, HsPayp11c⟩
  iapply (run_ret c)
  iapply Hk
  isplitl [HO]; · iexact HO
  isplitl [Hpendp01c]; · iexact Hpendp01c
  isplitl [HsemValdCelltruep10c0]; · iexact HsemValdCelltruep10c0
  isplitl [Hx]; · iexact Hx
  isplitl [HpPtsc10lPAc]; · iexact HpPtsc10lPAc
  iexact HsPayp11c

theorem part8 (v2 : BitVec 32) (v5 : BitVec 32) (v8 : BitVec 32) (v31 : BitVec 32) {Q : (Σ' (v257 : BitVec 32), BitVec 32) → sProp 𝕄} :
    iprop(ctx m ρ K
      ∗ owesE c o7
      ∗ sndT (.p 1 1) c
      ∗ sPay m ρ (.p 1 1) c
      ∗ rAny (F := F) (.p 1 1) (dst c (.p 1 1)))
      ⊢ iprop((∀ r0 : BitVec 32, ∀ r1 : BitVec 32, (owesE c o8
            ∗ pend (.p 1 1) c)
          -∗ Q ⟨r0, r1⟩)
        -∗ run c (k0_part8 xM hx gM hg oM ho pM hp yM hy cc0_scratch2 cc0_scratch3 cc0_scratch4 cc0_scratch5 cc0_scratch6 cc0_scratch7 cc0_scratch8 c v2 v5 v8 v31) Q) := by
  rw [k0_part8_eq_skeleton]; unfold k0_part8_skel
  simp only [semSignalWord, semWaitWord, Prog.lift, Prog.bind_op, Prog.bind_ret, Prog.pure_eq_ret]
  iintro ⟨#HC, HO, HsndTp11c, HsPayp11c, HrAnyp11p11⟩ Hk
  icases HsndTp11c with ⟨HsndTp11c, Hpos⟩
  iapply (put_ps m ρ K c 1 0 1 rfl (by decide) o8 (dev8_eq c) rfl rfl rfl rfl) $$ [HO HsndTp11c HsPayp11c HrAnyp11p11]
  · isplitr; · iexact HC
    isplitl [HO]; · iexact HO
    isplitl [HsndTp11c]; · iexact HsndTp11c
    isplitl [HsPayp11c]; · iexact HsPayp11c
    iexact HrAnyp11p11
  iintro ⟨Hcr, HO⟩
  ihave Hpendp11c : pend (.p 1 1) c $$ [Hpos Hcr]
  · isplitl [Hpos]; · iexact Hpos
    iexact Hcr
  iapply (run_ret c)
  iapply Hk
  isplitl [HO]; · iexact HO
  iexact Hpendp11c

theorem part9 (v2 : BitVec 32) (v5 : BitVec 32) (v31 : BitVec 32) (v123 : BitVec 32) (v257 : BitVec 32) (v261 : BitVec 32) {Q : (PUnit) → sProp 𝕄} :
    iprop(ctx m ρ K
      ∗ owesE c o8
      ∗ rcvT (.p 0 1) c
      ∗ xPts m ρ c Finset.univ fullShare.left)
      ⊢ iprop(((owesE c o8
            ∗ semVal (dCell true (.p 0 1) c) 0
            ∗ xPts m ρ c Finset.univ fullShare.left
            ∗ pPts c 0 1 fullShare.left (PA m ρ c)
            ∗ sPay m ρ (.p 0 2) c)
          -∗ Q ⟨⟩)
        -∗ run c (k0_part9 xM hx gM hg oM ho pM hp yM hy cc0_scratch2 cc0_scratch3 cc0_scratch4 cc0_scratch5 cc0_scratch6 cc0_scratch7 cc0_scratch8 c v2 v5 v31 v123 v257 v261) Q) := by
  rw [k0_part9_eq_skeleton]; unfold k0_part9_skel
  simp only [semSignalWord, semWaitWord, Prog.lift, Prog.bind_op, Prog.bind_ret, Prog.pure_eq_ret]
  iintro ⟨#HC, HO, HrcvTp01c, Hx⟩ Hk
  icases HrcvTp01c with ⟨Hpos, Hcr⟩
  iapply (wp_got m ρ K c true (.p 0 1) (by decide) o8 (by decide) rfl (pWin_credit _ _)) $$ [HO Hpos Hcr]
  · isplitr; · iexact HC
    isplitl [HO]; · iexact HO
    isplitl [Hpos]; · iexact Hpos
    iexact Hcr
  iintro ⟨Hpay, HsemValdCelltruep01c0, HO⟩
  ihave HpPtsc01PRc := (got_p m ρ c 0 1) $$ Hpay
  iapply (ld_x m ρ c (zf c + (if 1 = 0 then 2 else 1)) 0 (off2_eq c 1 0)) $$ Hx
  iintro Hx
  iapply (ld_p m ρ c 0 1 rfl) $$ HpPtsc01PRc
  iintro HpPtsc01PRc
  iapply (ld_p m ρ c 0 1 rfl) $$ HpPtsc01PRc
  iintro HpPtsc01PRc
  iapply (st_p m ρ c 0 1 2 rfl (by decide) rfl rfl) $$ HpPtsc01PRc
  iintro ⟨HpPtsc01lPAc, HsPayp02c⟩
  iapply (run_ret c)
  iapply Hk
  isplitl [HO]; · iexact HO
  isplitl [HsemValdCelltruep01c0]; · iexact HsemValdCelltruep01c0
  isplitl [Hx]; · iexact Hx
  isplitl [HpPtsc01lPAc]; · iexact HpPtsc01lPAc
  iexact HsPayp02c

theorem part10 (v2 : BitVec 32) (v5 : BitVec 32) (v31 : BitVec 32) (v123 : BitVec 32) (v257 : BitVec 32) {Q : (PUnit) → sProp 𝕄} :
    iprop(ctx m ρ K
      ∗ owesE c o8
      ∗ sndT (.p 0 2) c
      ∗ sPay m ρ (.p 0 2) c
      ∗ rAny (F := F) (.p 0 2) (dst c (.p 0 2))
      ∗ rcvT (.p 1 1) c
      ∗ xPts m ρ c Finset.univ fullShare.left)
      ⊢ iprop(((owesE c o9
            ∗ pend (.p 0 2) c
            ∗ semVal (dCell true (.p 1 1) c) 0
            ∗ xPts m ρ c Finset.univ fullShare.left
            ∗ pPts c 1 1 fullShare.left (PA m ρ c)
            ∗ sPay m ρ (.p 1 2) c)
          -∗ Q ⟨⟩)
        -∗ run c (k0_part10 xM hx gM hg oM ho pM hp yM hy cc0_scratch2 cc0_scratch3 cc0_scratch4 cc0_scratch5 cc0_scratch6 cc0_scratch7 cc0_scratch8 c v2 v5 v31 v123 v257) Q) := by
  rw [k0_part10_eq_skeleton]; unfold k0_part10_skel
  simp only [semSignalWord, semWaitWord, Prog.lift, Prog.bind_op, Prog.bind_ret, Prog.pure_eq_ret]
  iintro ⟨#HC, HO, HsndTp02c, HsPayp02c, HrAnyp02p02, HrcvTp11c, Hx⟩ Hk
  icases HsndTp02c with ⟨HsndTp02c, Hpos⟩
  iapply (put_ps m ρ K c 0 1 2 rfl (by decide) o9 (dev9_eq c) rfl rfl rfl rfl) $$ [HO HsndTp02c HsPayp02c HrAnyp02p02]
  · isplitr; · iexact HC
    isplitl [HO]; · iexact HO
    isplitl [HsndTp02c]; · iexact HsndTp02c
    isplitl [HsPayp02c]; · iexact HsPayp02c
    iexact HrAnyp02p02
  iintro ⟨Hcr, HO⟩
  ihave Hpendp02c : pend (.p 0 2) c $$ [Hpos Hcr]
  · isplitl [Hpos]; · iexact Hpos
    iexact Hcr
  icases HrcvTp11c with ⟨Hpos, Hcr⟩
  iapply (wp_got m ρ K c true (.p 1 1) (by decide) o9 (by decide) rfl (pWin_credit _ _)) $$ [HO Hpos Hcr]
  · isplitr; · iexact HC
    isplitl [HO]; · iexact HO
    isplitl [Hpos]; · iexact Hpos
    iexact Hcr
  iintro ⟨Hpay, HsemValdCelltruep11c0, HO⟩
  ihave HpPtsc11PRc := (got_p m ρ c 1 1) $$ Hpay
  iapply (ld_x m ρ c (zf c + (if 1 = 0 then 2 else 1)) 1 (off2_eq c 1 1)) $$ Hx
  iintro Hx
  iapply (ld_p m ρ c 1 1 rfl) $$ HpPtsc11PRc
  iintro HpPtsc11PRc
  iapply (ld_p m ρ c 1 1 rfl) $$ HpPtsc11PRc
  iintro HpPtsc11PRc
  iapply (st_p m ρ c 1 1 2 rfl (by decide) rfl rfl) $$ HpPtsc11PRc
  iintro ⟨HpPtsc11lPAc, HsPayp12c⟩
  iapply (run_ret c)
  iapply Hk
  isplitl [HO]; · iexact HO
  isplitl [Hpendp02c]; · iexact Hpendp02c
  isplitl [HsemValdCelltruep11c0]; · iexact HsemValdCelltruep11c0
  isplitl [Hx]; · iexact Hx
  isplitl [HpPtsc11lPAc]; · iexact HpPtsc11lPAc
  iexact HsPayp12c

theorem part11 (v2 : BitVec 32) (v5 : BitVec 32) (v8 : BitVec 32) (v31 : BitVec 32) (v123 : BitVec 32) {Q : (PUnit) → sProp 𝕄} :
    iprop(ctx m ρ K
      ∗ owesE c o9
      ∗ sndT (.p 1 2) c
      ∗ sPay m ρ (.p 1 2) c
      ∗ rAny (F := F) (.p 1 2) (dst c (.p 1 2))
      ∗ shakeT xyS c
      ∗ rcvT (.p 0 2) c)
      ⊢ iprop(((owesE c o10
            ∗ pend (.p 1 2) c
            ∗ semVal (xyCell c) 0
            ∗ rAny (F := F) (.a 0 0) (dst c (.a 0 0))
            ∗ rAny (F := F) (.a 1 0) (dst c (.a 1 0))
            ∗ rAny (F := F) (.a 0 1) (dst c (.a 0 1))
            ∗ rAny (F := F) (.a 1 1) (dst c (.a 1 1))
            ∗ rAny (F := F) (.a 0 2) (dst c (.a 0 2))
            ∗ rAny (F := F) (.a 1 2) (dst c (.a 1 2))
            ∗ rAny (F := F) (.a 0 3) (dst c (.a 0 3))
            ∗ rAny (F := F) (.b 0 0) (dst c (.b 0 0))
            ∗ rAny (F := F) (.b 1 0) (dst c (.b 1 0))
            ∗ rAny (F := F) (.b 0 1) (dst c (.b 0 1))
            ∗ rAny (F := F) (.b 1 1) (dst c (.b 1 1))
            ∗ rAny (F := F) (.b 0 2) (dst c (.b 0 2))
            ∗ rAny (F := F) (.b 1 2) (dst c (.b 1 2))
            ∗ rAny (F := F) (.b 1 3) (dst c (.b 1 3))
            ∗ semVal (dCell true (.p 0 2) c) 0
            ∗ pPts c 0 2 fullShare (PR m ρ c))
          -∗ Q ⟨⟩)
        -∗ run c (k0_part11 xM hx gM hg oM ho pM hp yM hy cc0_scratch2 cc0_scratch3 cc0_scratch4 cc0_scratch5 cc0_scratch6 cc0_scratch7 cc0_scratch8 c v2 v5 v8 v31 v123) Q) := by
  rw [k0_part11_eq_skeleton]; unfold k0_part11_skel
  simp only [semSignalWord, semWaitWord, Prog.lift, Prog.bind_op, Prog.bind_ret, Prog.pure_eq_ret]
  iintro ⟨#HC, HO, HsndTp12c, HsPayp12c, HrAnyp12p12, HshakeTxySc, HrcvTp02c⟩ Hk
  icases HsndTp12c with ⟨HsndTp12c, Hpos⟩
  iapply (put_ps m ρ K c 1 1 2 rfl (by decide) o10 (dev10_eq c) rfl rfl rfl rfl) $$ [HO HsndTp12c HsPayp12c HrAnyp12p12]
  · isplitr; · iexact HC
    isplitl [HO]; · iexact HO
    isplitl [HsndTp12c]; · iexact HsndTp12c
    isplitl [HsPayp12c]; · iexact HsPayp12c
    iexact HrAnyp12p12
  iintro ⟨Hcr, HO⟩
  ihave Hpendp12c : pend (.p 1 2) c $$ [Hpos Hcr]
  · isplitl [Hpos]; · iexact Hpos
    iexact Hcr
  iapply (wp_shake m ρ K c xyS o10 (low_xy c)) $$ [HO HshakeTxySc]
  · isplitr; · iexact HC
    isplitl [HO]; · iexact HO
    iexact HshakeTxySc
  iintro ⟨Hpay, HsemValxyCellc0, HO⟩
  ihave Hpay := (Entails.of_eq (rest_xy m ρ c)) $$ Hpay
  icases Hpay with ⟨HpayB, HpayA⟩
  ihave HpayA := (hand_a c).1 $$ HpayA
  icases HpayA with ⟨HrAnya00a00, HrAnya10a10, HrAnya01a01, HrAnya11a11, HrAnya02a02, HrAnya12a12, HrAnya03a03⟩
  ihave HpayB := (hand_b c).1 $$ HpayB
  icases HpayB with ⟨HrAnyb00b00, HrAnyb10b10, HrAnyb01b01, HrAnyb11b11, HrAnyb02b02, HrAnyb12b12, HrAnyb13b13⟩
  icases HrcvTp02c with ⟨Hpos, Hcr⟩
  iapply (wp_got m ρ K c true (.p 0 2) (by decide) o10 (by decide) rfl (pWin_credit _ _)) $$ [HO Hpos Hcr]
  · isplitr; · iexact HC
    isplitl [HO]; · iexact HO
    isplitl [Hpos]; · iexact Hpos
    iexact Hcr
  iintro ⟨Hpay, HsemValdCelltruep02c0, HO⟩
  ihave HpPtsc02PRc := (got_p m ρ c 0 2) $$ Hpay
  iapply (run_ret c)
  iapply Hk
  isplitl [HO]; · iexact HO
  isplitl [Hpendp12c]; · iexact Hpendp12c
  isplitl [HsemValxyCellc0]; · iexact HsemValxyCellc0
  isplitl [HrAnya00a00]; · iexact HrAnya00a00
  isplitl [HrAnya10a10]; · iexact HrAnya10a10
  isplitl [HrAnya01a01]; · iexact HrAnya01a01
  isplitl [HrAnya11a11]; · iexact HrAnya11a11
  isplitl [HrAnya02a02]; · iexact HrAnya02a02
  isplitl [HrAnya12a12]; · iexact HrAnya12a12
  isplitl [HrAnya03a03]; · iexact HrAnya03a03
  isplitl [HrAnyb00b00]; · iexact HrAnyb00b00
  isplitl [HrAnyb10b10]; · iexact HrAnyb10b10
  isplitl [HrAnyb01b01]; · iexact HrAnyb01b01
  isplitl [HrAnyb11b11]; · iexact HrAnyb11b11
  isplitl [HrAnyb02b02]; · iexact HrAnyb02b02
  isplitl [HrAnyb12b12]; · iexact HrAnyb12b12
  isplitl [HrAnyb13b13]; · iexact HrAnyb13b13
  isplitl [HsemValdCelltruep02c0]; · iexact HsemValdCelltruep02c0
  iexact HpPtsc02PRc

theorem part12 (v34 : BitVec 32) (v62 : BitVec 32) (v123 : BitVec 32) {Q : (BitVec 32) → sProp 𝕄} :
    iprop(xPts m ρ c Finset.univ fullShare.left
      ∗ pPts c 0 2 fullShare (PR m ρ c)
      ∗ iprop(∃ f : S1024x1024.Idx → Elt F .f32, yPts c 0 (pos c) fullShare f))
      ⊢ iprop((∀ r0 : BitVec 32, (xPts m ρ c Finset.univ fullShare.left
            ∗ pPts c 0 2 fullShare (PR m ρ c)
            ∗ yL m ρ c 0 0
            ∗ sPay m ρ (.a 0 0) c
            ∗ sPay m ρ (.b 0 0) c)
          -∗ Q r0)
        -∗ run c (k0_part12 xM hx gM hg oM ho pM hp yM hy cc0_scratch2 cc0_scratch3 cc0_scratch4 cc0_scratch5 cc0_scratch6 cc0_scratch7 cc0_scratch8 c v34 v62 v123) Q) := by
  rw [k0_part12_eq_skeleton]; unfold k0_part12_skel
  simp only [semSignalWord, semWaitWord, Prog.lift, Prog.bind_op, Prog.bind_ret, Prog.pure_eq_ret]
  iintro ⟨Hx, HpPtsc02PRc, HipropfS1024x1024IdxEltFf32yPtsc0poscf⟩ Hk
  iapply (ld_x m ρ c (zf c) 0 (off3_eq c 0)) $$ Hx
  iintro Hx
  iapply (ld_p m ρ c 0 2 rfl) $$ HpPtsc02PRc
  iintro HpPtsc02PRc
  icases HipropfS1024x1024IdxEltFf32yPtsc0poscf with ⟨%fy, Hy⟩
  iapply (ld_y c 0 (off4_eq c)) $$ Hy
  iintro %_v Hy
  iapply (st_y m ρ c 0 (off4_eq c) rfl) $$ Hy
  iintro ⟨HyLc00, HsPaya00c, HsPayb00c⟩
  iapply (run_ret c)
  iapply Hk
  isplitl [Hx]; · iexact Hx
  isplitl [HpPtsc02PRc]; · iexact HpPtsc02PRc
  isplitl [HyLc00]; · iexact HyLc00
  isplitl [HsPaya00c]; · iexact HsPaya00c
  iexact HsPayb00c

theorem part13 (v8 : BitVec 32) (v34 : BitVec 32) (v65 : BitVec 32) (v94 : BitVec 32) (v383 : BitVec 32) {Q : (Σ' (v417 : BitVec 32), BitVec 32) → sProp 𝕄} :
    iprop(ctx m ρ K
      ∗ owesE c o10
      ∗ sndT (.a 0 0) c
      ∗ sPay m ρ (.a 0 0) c
      ∗ rAny (F := F) (.a 0 0) (dst c (.a 0 0)))
      ⊢ iprop((∀ r0 : BitVec 32, ∀ r1 : BitVec 32, (owesE c o11
            ∗ pend (.a 0 0) c)
          -∗ Q ⟨r0, r1⟩)
        -∗ run c (k0_part13 xM hx gM hg oM ho pM hp yM hy cc0_scratch2 cc0_scratch3 cc0_scratch4 cc0_scratch5 cc0_scratch6 cc0_scratch7 cc0_scratch8 c v8 v34 v65 v94 v383) Q) := by
  rw [k0_part13_eq_skeleton]; unfold k0_part13_skel
  simp only [semSignalWord, semWaitWord, Prog.lift, Prog.bind_op, Prog.bind_ret, Prog.pure_eq_ret]
  iintro ⟨#HC, HO, HsndTa00c, HsPaya00c, HrAnya00a00⟩ Hk
  icases HsndTa00c with ⟨HsndTa00c, Hpos⟩
  iapply (put_a m ρ K c 0 0 (by decide) o11 (dev11_eq c) rfl rfl (off5_eq c 0)) $$ [HO HsndTa00c HsPaya00c HrAnya00a00]
  · isplitr; · iexact HC
    isplitl [HO]; · iexact HO
    isplitl [HsndTa00c]; · iexact HsndTa00c
    isplitl [HsPaya00c]; · iexact HsPaya00c
    iexact HrAnya00a00
  iintro ⟨Hcr, HO⟩
  ihave Hpenda00c : pend (.a 0 0) c $$ [Hpos Hcr]
  · isplitl [Hpos]; · iexact Hpos
    iexact Hcr
  iapply (run_ret c)
  iapply Hk
  isplitl [HO]; · iexact HO
  iexact Hpenda00c

theorem part14 (v2 : BitVec 32) (v5 : BitVec 32) (v8 : BitVec 32) (v31 : BitVec 32) (v97 : BitVec 32) (v123 : BitVec 32) (v417 : BitVec 32) (c0_i32_322 : BitVec 32) {Q : (FVec F S512x128 .f32) → sProp 𝕄} :
    iprop(ctx m ρ K
      ∗ owesE c o11
      ∗ sndT (.b 0 0) c
      ∗ sPay m ρ (.b 0 0) c
      ∗ rAny (F := F) (.b 0 0) (dst c (.b 0 0))
      ∗ rcvT (.p 1 2) c
      ∗ xPts m ρ c Finset.univ fullShare.left)
      ⊢ iprop(((owesE c o12
            ∗ pend (.b 0 0) c
            ∗ semVal (dCell true (.p 1 2) c) 0
            ∗ xPts m ρ c Finset.univ fullShare.left
            ∗ pPts c 1 2 fullShare (PR m ρ c))
          -∗ Q (k0_pay6 (xld m ρ c (zf c) 1) (pld m ρ c 2 1)))
        -∗ run c (k0_part14 xM hx gM hg oM ho pM hp yM hy cc0_scratch2 cc0_scratch3 cc0_scratch4 cc0_scratch5 cc0_scratch6 cc0_scratch7 cc0_scratch8 c v2 v5 v8 v31 v97 v123 v417 c0_i32_322) Q) := by
  rw [k0_part14_eq_skeleton]; unfold k0_part14_skel
  simp only [semSignalWord, semWaitWord, Prog.lift, Prog.bind_op, Prog.bind_ret, Prog.pure_eq_ret]
  iintro ⟨#HC, HO, HsndTb00c, HsPayb00c, HrAnyb00b00, HrcvTp12c, Hx⟩ Hk
  icases HsndTb00c with ⟨HsndTb00c, Hpos⟩
  iapply (put_b m ρ K c 0 0 (by decide) o12 (dev12_eq c) rfl rfl (off6_eq c 0)) $$ [HO HsndTb00c HsPayb00c HrAnyb00b00]
  · isplitr; · iexact HC
    isplitl [HO]; · iexact HO
    isplitl [HsndTb00c]; · iexact HsndTb00c
    isplitl [HsPayb00c]; · iexact HsPayb00c
    iexact HrAnyb00b00
  iintro ⟨Hcr, HO⟩
  ihave Hpendb00c : pend (.b 0 0) c $$ [Hpos Hcr]
  · isplitl [Hpos]; · iexact Hpos
    iexact Hcr
  icases HrcvTp12c with ⟨Hpos, Hcr⟩
  iapply (wp_got m ρ K c true (.p 1 2) (by decide) o12 (by decide) rfl (pWin_credit _ _)) $$ [HO Hpos Hcr]
  · isplitr; · iexact HC
    isplitl [HO]; · iexact HO
    isplitl [Hpos]; · iexact Hpos
    iexact Hcr
  iintro ⟨Hpay, HsemValdCelltruep12c0, HO⟩
  ihave HpPtsc12PRc := (got_p m ρ c 1 2) $$ Hpay
  iapply (ld_x m ρ c (zf c) 1 (off3_eq c 1)) $$ Hx
  iintro Hx
  iapply (ld_p m ρ c 1 2 rfl) $$ HpPtsc12PRc
  iintro HpPtsc12PRc
  iapply (run_ret c)
  iapply Hk
  isplitl [HO]; · iexact HO
  isplitl [Hpendb00c]; · iexact Hpendb00c
  isplitl [HsemValdCelltruep12c0]; · iexact HsemValdCelltruep12c0
  isplitl [Hx]; · iexact Hx
  iexact HpPtsc12PRc

theorem part15 (v8 : BitVec 32) (v34 : BitVec 32) (v94 : BitVec 32) (v97 : BitVec 32) {Q : (PUnit) → sProp 𝕄} :
    iprop(iprop(∃ f : S1024x1024.Idx → Elt F .f32, yPts c 1 (pos c) fullShare f))
      ⊢ iprop(((yL m ρ c 1 0
            ∗ sPay m ρ (.a 1 0) c
            ∗ sPay m ρ (.b 1 0) c)
          -∗ Q ⟨⟩)
        -∗ run c (k0_part15 xM hx gM hg oM ho pM hp yM hy cc0_scratch2 cc0_scratch3 cc0_scratch4 cc0_scratch5 cc0_scratch6 cc0_scratch7 cc0_scratch8 c v8 v34 v94 v97 (k0_pay6 (xld m ρ c (zf c) 1) (pld m ρ c 2 1))) Q) := by
  rw [k0_part15_eq_skeleton]; unfold k0_part15_skel
  simp only [semSignalWord, semWaitWord, Prog.lift, Prog.bind_op, Prog.bind_ret, Prog.pure_eq_ret]
  iintro HipropfS1024x1024IdxEltFf32yPtsc1poscf Hk
  icases HipropfS1024x1024IdxEltFf32yPtsc1poscf with ⟨%fy, Hy⟩
  iapply (ld_y c 1 (off7_eq c)) $$ Hy
  iintro %_v Hy
  iapply (st_y m ρ c 1 (off7_eq c) rfl) $$ Hy
  iintro ⟨HyLc10, HsPaya10c, HsPayb10c⟩
  iapply (run_ret c)
  iapply Hk
  isplitl [HyLc10]; · iexact HyLc10
  isplitl [HsPaya10c]; · iexact HsPaya10c
  iexact HsPayb10c

theorem part16 (v8 : BitVec 32) (v34 : BitVec 32) (v62 : BitVec 32) (v65 : BitVec 32) {Q : (PUnit) → sProp 𝕄} :
    iprop(ctx m ρ K
      ∗ owesE c o12
      ∗ sndT (.b 1 0) c
      ∗ sPay m ρ (.b 1 0) c
      ∗ rAny (F := F) (.b 1 0) (dst c (.b 1 0)))
      ⊢ iprop(((owesE c o13
            ∗ pend (.b 1 0) c)
          -∗ Q ⟨⟩)
        -∗ run c (k0_part16 xM hx gM hg oM ho pM hp yM hy cc0_scratch2 cc0_scratch3 cc0_scratch4 cc0_scratch5 cc0_scratch6 cc0_scratch7 cc0_scratch8 c v8 v34 v62 v65) Q) := by
  rw [k0_part16_eq_skeleton]; unfold k0_part16_skel
  simp only [semSignalWord, semWaitWord, Prog.lift, Prog.bind_op, Prog.bind_ret, Prog.pure_eq_ret]
  iintro ⟨#HC, HO, HsndTb10c, HsPayb10c, HrAnyb10b10⟩ Hk
  icases HsndTb10c with ⟨HsndTb10c, Hpos⟩
  iapply (put_b m ρ K c 1 0 (by decide) o13 (dev13_eq c) rfl rfl (off8_eq c 0)) $$ [HO HsndTb10c HsPayb10c HrAnyb10b10]
  · isplitr; · iexact HC
    isplitl [HO]; · iexact HO
    isplitl [HsndTb10c]; · iexact HsndTb10c
    isplitl [HsPayb10c]; · iexact HsPayb10c
    iexact HrAnyb10b10
  iintro ⟨Hcr, HO⟩
  ihave Hpendb10c : pend (.b 1 0) c $$ [Hpos Hcr]
  · isplitl [Hpos]; · iexact Hpos
    iexact Hcr
  iapply (run_ret c)
  iapply Hk
  isplitl [HO]; · iexact HO
  iexact Hpendb10c

end Cert.Fused
end
-- ==== Proof.PartsB.lean ====
/-
# The program's parts: the gather and the normalization
-/
module

public import proofs.«01_k».proof.Proof.PartsA

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cx → ℕ) (c : Dev nD)
variable (hx : xM.IsWhole) (hg : gM.IsWhole) (ho : oM.IsWhole) (hp : pM.IsWhole) (hy : yM.IsWhole)

theorem part17 (v8 : BitVec 32) (v34 : BitVec 32) (v62 : BitVec 32) (v65 : BitVec 32) {Q : (Σ' (v547 : BitVec 32) (v548 : BitVec 32) (v549 : BitVec 1), BitVec 1) → sProp 𝕄} :
    iprop(ctx m ρ K
      ∗ owesE c o13
      ∗ sndT (.a 1 0) c
      ∗ sPay m ρ (.a 1 0) c
      ∗ rAny (F := F) (.a 1 0) (dst c (.a 1 0))
      ∗ rcvT (.a 0 0) c)
      ⊢ iprop((∀ r0 : BitVec 32, ∀ r1 : BitVec 32, ∀ r2 : BitVec 1, ∀ r3 : BitVec 1, (owesE c o14
            ∗ pend (.a 1 0) c
            ∗ semVal (dCell true (.a 0 0) c) 0
            ∗ yL m ρ c 0 7
            ∗ sPay m ρ (.a 0 1) c)
          -∗ Q ⟨r0, r1, r2, r3⟩)
        -∗ run c (k0_part17 xM hx gM hg oM ho pM hp yM hy cc0_scratch2 cc0_scratch3 cc0_scratch4 cc0_scratch5 cc0_scratch6 cc0_scratch7 cc0_scratch8 c v8 v34 v62 v65) Q) := by
  rw [k0_part17_eq_skeleton]; unfold k0_part17_skel
  simp only [semSignalWord, semWaitWord, Prog.lift, Prog.bind_op, Prog.bind_ret, Prog.pure_eq_ret]
  iintro ⟨#HC, HO, HsndTa10c, HsPaya10c, HrAnya10a10, HrcvTa00c⟩ Hk
  icases HsndTa10c with ⟨HsndTa10c, Hpos⟩
  iapply (put_a m ρ K c 1 0 (by decide) o14 (dev14_eq c) rfl rfl (off9_eq c 0)) $$ [HO HsndTa10c HsPaya10c HrAnya10a10]
  · isplitr; · iexact HC
    isplitl [HO]; · iexact HO
    isplitl [HsndTa10c]; · iexact HsndTa10c
    isplitl [HsPaya10c]; · iexact HsPaya10c
    iexact HrAnya10a10
  iintro ⟨Hcr, HO⟩
  ihave Hpenda10c : pend (.a 1 0) c $$ [Hpos Hcr]
  · isplitl [Hpos]; · iexact Hpos
    iexact Hcr
  icases HrcvTa00c with ⟨Hpos, Hcr⟩
  iapply (wp_got m ρ K c true (.a 0 0) (by decide) o14 (by decide) rfl (yWin_credit _ _)) $$ [HO Hpos Hcr]
  · isplitr; · iexact HC
    isplitl [HO]; · iexact HO
    isplitl [Hpos]; · iexact Hpos
    iexact Hcr
  iintro ⟨Hpay, HsemValdCelltruea00c0, HO⟩
  ihave Hpay := (got_a m ρ c 0 0).1 $$ Hpay
  icases Hpay with ⟨HyLc07, Hpay⟩
  ihave HsPaya01c := (Entails.of_eq (sPay_a m ρ c 0 0 1 rfl).symm) $$ Hpay
  iapply (run_ret c)
  iapply Hk
  isplitl [HO]; · iexact HO
  isplitl [Hpenda10c]; · iexact Hpenda10c
  isplitl [HsemValdCelltruea00c0]; · iexact HsemValdCelltruea00c0
  isplitl [HyLc07]; · iexact HyLc07
  iexact HsPaya01c

theorem part18 (v8 : BitVec 32) (v34 : BitVec 32) (v62 : BitVec 32) (v65 : BitVec 32) (v94 : BitVec 32) (v97 : BitVec 32) (v547 : BitVec 32) (v548 : BitVec 32) (v549 : BitVec 1) (v552 : BitVec 1) {Q : (Σ' (v579 : BitVec 32) (v581 : BitVec 32) (v582 : BitVec 32) (v583 : BitVec 1), BitVec 32) → sProp 𝕄} :
    iprop(ctx m ρ K
      ∗ owesE c o14
      ∗ sndT (.a 0 1) c
      ∗ sPay m ρ (.a 0 1) c
      ∗ rAny (F := F) (.a 0 1) (dst c (.a 0 1))
      ∗ rcvT (.b 1 0) c)
      ⊢ iprop((∀ r0 : BitVec 32, ∀ r1 : BitVec 32, ∀ r2 : BitVec 32, ∀ r3 : BitVec 1, ∀ r4 : BitVec 32, (owesE c o15
            ∗ pend (.a 0 1) c
            ∗ semVal (dCell true (.b 1 0) c) 0
            ∗ yL m ρ c 1 1
            ∗ sPay m ρ (.b 1 1) c)
          -∗ Q ⟨r0, r1, r2, r3, r4⟩)
        -∗ run c (k0_part18 xM hx gM hg oM ho pM hp yM hy cc0_scratch2 cc0_scratch3 cc0_scratch4 cc0_scratch5 cc0_scratch6 cc0_scratch7 cc0_scratch8 c v8 v34 v62 v65 v94 v97 v547 v548 v549 v552) Q) := by
  rw [k0_part18_eq_skeleton]; unfold k0_part18_skel
  simp only [semSignalWord, semWaitWord, Prog.lift, Prog.bind_op, Prog.bind_ret, Prog.pure_eq_ret]
  iintro ⟨#HC, HO, HsndTa01c, HsPaya01c, HrAnya01a01, HrcvTb10c⟩ Hk
  icases HsndTa01c with ⟨HsndTa01c, Hpos⟩
  iapply (put_a m ρ K c 0 1 (by decide) o15 (dev15_eq c) rfl rfl (off5_eq c 1)) $$ [HO HsndTa01c HsPaya01c HrAnya01a01]
  · isplitr; · iexact HC
    isplitl [HO]; · iexact HO
    isplitl [HsndTa01c]; · iexact HsndTa01c
    isplitl [HsPaya01c]; · iexact HsPaya01c
    iexact HrAnya01a01
  iintro ⟨Hcr, HO⟩
  ihave Hpenda01c : pend (.a 0 1) c $$ [Hpos Hcr]
  · isplitl [Hpos]; · iexact Hpos
    iexact Hcr
  icases HrcvTb10c with ⟨Hpos, Hcr⟩
  iapply (wp_got m ρ K c true (.b 1 0) (by decide) o15 (by decide) rfl (yWin_credit _ _)) $$ [HO Hpos Hcr]
  · isplitr; · iexact HC
    isplitl [HO]; · iexact HO
    isplitl [Hpos]; · iexact Hpos
    iexact Hcr
  iintro ⟨Hpay, HsemValdCelltrueb10c0, HO⟩
  ihave Hpay := (got_b m ρ c 1 0).1 $$ Hpay
  icases Hpay with ⟨HyLc11, Hpay⟩
  ihave HsPayb11c := (Entails.of_eq (sPay_b m ρ c 1 0 1 rfl).symm) $$ Hpay
  iapply (run_ret c)
  iapply Hk
  isplitl [HO]; · iexact HO
  isplitl [Hpenda01c]; · iexact Hpenda01c
  isplitl [HsemValdCelltrueb10c0]; · iexact HsemValdCelltrueb10c0
  isplitl [HyLc11]; · iexact HyLc11
  iexact HsPayb11c

theorem part19 (v8 : BitVec 32) (v62 : BitVec 32) (v65 : BitVec 32) (v94 : BitVec 32) (v97 : BitVec 32) (v579 : BitVec 32) (v581 : BitVec 32) (v582 : BitVec 32) (v583 : BitVec 1) (c0_i32_448 : BitVec 32) {Q : (Σ' (v615 : BitVec 32), BitVec 32) → sProp 𝕄} :
    iprop(ctx m ρ K
      ∗ owesE c o15
      ∗ sndT (.b 1 1) c
      ∗ sPay m ρ (.b 1 1) c
      ∗ rAny (F := F) (.b 1 1) (dst c (.b 1 1)))
      ⊢ iprop((∀ r0 : BitVec 32, ∀ r1 : BitVec 32, (owesE c o16
            ∗ pend (.b 1 1) c)
          -∗ Q ⟨r0, r1⟩)
        -∗ run c (k0_part19 xM hx gM hg oM ho pM hp yM hy cc0_scratch2 cc0_scratch3 cc0_scratch4 cc0_scratch5 cc0_scratch6 cc0_scratch7 cc0_scratch8 c v8 v62 v65 v94 v97 v579 v581 v582 v583 c0_i32_448) Q) := by
  rw [k0_part19_eq_skeleton]; unfold k0_part19_skel
  simp only [semSignalWord, semWaitWord, Prog.lift, Prog.bind_op, Prog.bind_ret, Prog.pure_eq_ret]
  iintro ⟨#HC, HO, HsndTb11c, HsPayb11c, HrAnyb11b11⟩ Hk
  icases HsndTb11c with ⟨HsndTb11c, Hpos⟩
  iapply (put_b m ρ K c 1 1 (by decide) o16 (dev16_eq c) rfl rfl (off8_eq c 1)) $$ [HO HsndTb11c HsPayb11c HrAnyb11b11]
  · isplitr; · iexact HC
    isplitl [HO]; · iexact HO
    isplitl [HsndTb11c]; · iexact HsndTb11c
    isplitl [HsPayb11c]; · iexact HsPayb11c
    iexact HrAnyb11b11
  iintro ⟨Hcr, HO⟩
  ihave Hpendb11c : pend (.b 1 1) c $$ [Hpos Hcr]
  · isplitl [Hpos]; · iexact Hpos
    iexact Hcr
  iapply (run_ret c)
  iapply Hk
  isplitl [HO]; · iexact HO
  iexact Hpendb11c

theorem part20 (v8 : BitVec 32) (v34 : BitVec 32) (v62 : BitVec 32) (v65 : BitVec 32) (v615 : BitVec 32) (v616 : BitVec 32) {Q : (BitVec 32) → sProp 𝕄} :
    iprop(ctx m ρ K
      ∗ owesE c o16
      ∗ rcvT (.a 1 0) c)
      ⊢ iprop((∀ r0 : BitVec 32, (owesE c o16
            ∗ semVal (dCell true (.a 1 0) c) 0
            ∗ yL m ρ c 1 7
            ∗ sPay m ρ (.a 1 1) c)
          -∗ Q r0)
        -∗ run c (k0_part20 xM hx gM hg oM ho pM hp yM hy cc0_scratch2 cc0_scratch3 cc0_scratch4 cc0_scratch5 cc0_scratch6 cc0_scratch7 cc0_scratch8 c v8 v34 v62 v65 v615 v616) Q) := by
  rw [k0_part20_eq_skeleton]; unfold k0_part20_skel
  simp only [semSignalWord, semWaitWord, Prog.lift, Prog.bind_op, Prog.bind_ret, Prog.pure_eq_ret]
  iintro ⟨#HC, HO, HrcvTa10c⟩ Hk
  icases HrcvTa10c with ⟨Hpos, Hcr⟩
  iapply (wp_got m ρ K c true (.a 1 0) (by decide) o16 (by decide) rfl (yWin_credit _ _)) $$ [HO Hpos Hcr]
  · isplitr; · iexact HC
    isplitl [HO]; · iexact HO
    isplitl [Hpos]; · iexact Hpos
    iexact Hcr
  iintro ⟨Hpay, HsemValdCelltruea10c0, HO⟩
  ihave Hpay := (got_a m ρ c 1 0).1 $$ Hpay
  icases Hpay with ⟨HyLc17, Hpay⟩
  ihave HsPaya11c := (Entails.of_eq (sPay_a m ρ c 1 0 1 rfl).symm) $$ Hpay
  iapply (run_ret c)
  iapply Hk
  isplitl [HO]; · iexact HO
  isplitl [HsemValdCelltruea10c0]; · iexact HsemValdCelltruea10c0
  isplitl [HyLc17]; · iexact HyLc17
  iexact HsPaya11c

theorem part21 (v8 : BitVec 32) (v34 : BitVec 32) (v94 : BitVec 32) (v97 : BitVec 32) (v650 : BitVec 32) {Q : (Σ' (v682 : BitVec 32) (v683 : BitVec 32), BitVec 32) → sProp 𝕄} :
    iprop(ctx m ρ K
      ∗ owesE c o16
      ∗ sndT (.a 1 1) c
      ∗ sPay m ρ (.a 1 1) c
      ∗ rAny (F := F) (.a 1 1) (dst c (.a 1 1))
      ∗ rcvT (.b 0 0) c)
      ⊢ iprop((∀ r0 : BitVec 32, ∀ r1 : BitVec 32, ∀ r2 : BitVec 32, (owesE c o17
            ∗ pend (.a 1 1) c
            ∗ semVal (dCell true (.b 0 0) c) 0
            ∗ yL m ρ c 0 1
            ∗ sPay m ρ (.b 0 1) c)
          -∗ Q ⟨r0, r1, r2⟩)
        -∗ run c (k0_part21 xM hx gM hg oM ho pM hp yM hy cc0_scratch2 cc0_scratch3 cc0_scratch4 cc0_scratch5 cc0_scratch6 cc0_scratch7 cc0_scratch8 c v8 v34 v94 v97 v650) Q) := by
  rw [k0_part21_eq_skeleton]; unfold k0_part21_skel
  simp only [semSignalWord, semWaitWord, Prog.lift, Prog.bind_op, Prog.bind_ret, Prog.pure_eq_ret]
  iintro ⟨#HC, HO, HsndTa11c, HsPaya11c, HrAnya11a11, HrcvTb00c⟩ Hk
  icases HsndTa11c with ⟨HsndTa11c, Hpos⟩
  iapply (put_a m ρ K c 1 1 (by decide) o17 (dev17_eq c) rfl rfl (off9_eq c 1)) $$ [HO HsndTa11c HsPaya11c HrAnya11a11]
  · isplitr; · iexact HC
    isplitl [HO]; · iexact HO
    isplitl [HsndTa11c]; · iexact HsndTa11c
    isplitl [HsPaya11c]; · iexact HsPaya11c
    iexact HrAnya11a11
  iintro ⟨Hcr, HO⟩
  ihave Hpenda11c : pend (.a 1 1) c $$ [Hpos Hcr]
  · isplitl [Hpos]; · iexact Hpos
    iexact Hcr
  icases HrcvTb00c with ⟨Hpos, Hcr⟩
  iapply (wp_got m ρ K c true (.b 0 0) (by decide) o17 (by decide) rfl (yWin_credit _ _)) $$ [HO Hpos Hcr]
  · isplitr; · iexact HC
    isplitl [HO]; · iexact HO
    isplitl [Hpos]; · iexact Hpos
    iexact Hcr
  iintro ⟨Hpay, HsemValdCelltrueb00c0, HO⟩
  ihave Hpay := (got_b m ρ c 0 0).1 $$ Hpay
  icases Hpay with ⟨HyLc01, Hpay⟩
  ihave HsPayb01c := (Entails.of_eq (sPay_b m ρ c 0 0 1 rfl).symm) $$ Hpay
  iapply (run_ret c)
  iapply Hk
  isplitl [HO]; · iexact HO
  isplitl [Hpenda11c]; · iexact Hpenda11c
  isplitl [HsemValdCelltrueb00c0]; · iexact HsemValdCelltrueb00c0
  isplitl [HyLc01]; · iexact HyLc01
  iexact HsPayb01c

theorem part22 (v8 : BitVec 32) (v34 : BitVec 32) (v94 : BitVec 32) (v97 : BitVec 32) (v682 : BitVec 32) (v683 : BitVec 32) (c0_i32_524 : BitVec 32) {Q : (FVec F S1024x1 .f32) → sProp 𝕄} :
    iprop(ctx m ρ K
      ∗ owesE c o17
      ∗ sndT (.b 0 1) c
      ∗ sPay m ρ (.b 0 1) c
      ∗ rAny (F := F) (.b 0 1) (dst c (.b 0 1))
      ∗ yL m ρ c 0 0
      ∗ yL m ρ c 1 0)
      ⊢ iprop(((owesE c o18
            ∗ pend (.b 0 1) c
            ∗ yL m ρ c 0 0
            ∗ yL m ρ c 1 0)
          -∗ Q (k0_pay8 (col m ρ c (pos c))))
        -∗ run c (k0_part22 xM hx gM hg oM ho pM hp yM hy cc0_scratch2 cc0_scratch3 cc0_scratch4 cc0_scratch5 cc0_scratch6 cc0_scratch7 cc0_scratch8 c v8 v34 v94 v97 v682 v683 c0_i32_524) Q) := by
  rw [k0_part22_eq_skeleton]; unfold k0_part22_skel
  simp only [semSignalWord, semWaitWord, Prog.lift, Prog.bind_op, Prog.bind_ret, Prog.pure_eq_ret]
  iintro ⟨#HC, HO, HsndTb01c, HsPayb01c, HrAnyb01b01, HyLc00, HyLc10⟩ Hk
  icases HsndTb01c with ⟨HsndTb01c, Hpos⟩
  iapply (put_b m ρ K c 0 1 (by decide) o18 (dev18_eq c) rfl rfl (off6_eq c 1)) $$ [HO HsndTb01c HsPayb01c HrAnyb01b01]
  · isplitr; · iexact HC
    isplitl [HO]; · iexact HO
    isplitl [HsndTb01c]; · iexact HsndTb01c
    isplitl [HsPayb01c]; · iexact HsPayb01c
    iexact HrAnyb01b01
  iintro ⟨Hcr, HO⟩
  ihave Hpendb01c : pend (.b 0 1) c $$ [Hpos Hcr]
  · isplitl [Hpos]; · iexact Hpos
    iexact Hcr
  iapply (ld_col m ρ c 0 (pos c) (off_0 _) (off10_eq c)) $$ [HyLc00 HyLc10]
  · isplitl [HyLc00]; · iexact HyLc00
    iexact HyLc10
  iintro ⟨HyLc00, HyLc10⟩
  iapply (run_ret c)
  iapply Hk
  isplitl [HO]; · iexact HO
  isplitl [Hpendb01c]; · iexact Hpendb01c
  isplitl [HyLc00]; · iexact HyLc00
  iexact HyLc10

theorem part23 (v8 : BitVec 32) (v34 : BitVec 32) (v62 : BitVec 32) (v65 : BitVec 32) {Q : (PUnit) → sProp 𝕄} :
    iprop(ctx m ρ K
      ∗ owesE c o18
      ∗ rcvT (.a 0 1) c)
      ⊢ iprop(((owesE c o18
            ∗ semVal (dCell true (.a 0 1) c) 0
            ∗ yL m ρ c 0 6
            ∗ sPay m ρ (.a 0 2) c)
          -∗ Q ⟨⟩)
        -∗ run c (k0_part23 xM hx gM hg oM ho pM hp yM hy cc0_scratch2 cc0_scratch3 cc0_scratch4 cc0_scratch5 cc0_scratch6 cc0_scratch7 cc0_scratch8 c v8 v34 v62 v65) Q) := by
  rw [k0_part23_eq_skeleton]; unfold k0_part23_skel
  simp only [semSignalWord, semWaitWord, Prog.lift, Prog.bind_op, Prog.bind_ret, Prog.pure_eq_ret]
  iintro ⟨#HC, HO, HrcvTa01c⟩ Hk
  icases HrcvTa01c with ⟨Hpos, Hcr⟩
  iapply (wp_got m ρ K c true (.a 0 1) (by decide) o18 (by decide) rfl (yWin_credit _ _)) $$ [HO Hpos Hcr]
  · isplitr; · iexact HC
    isplitl [HO]; · iexact HO
    isplitl [Hpos]; · iexact Hpos
    iexact Hcr
  iintro ⟨Hpay, HsemValdCelltruea01c0, HO⟩
  ihave Hpay := (got_a m ρ c 0 1).1 $$ Hpay
  icases Hpay with ⟨HyLc06, Hpay⟩
  ihave HsPaya02c := (Entails.of_eq (sPay_a m ρ c 0 1 2 rfl).symm) $$ Hpay
  iapply (run_ret c)
  iapply Hk
  isplitl [HO]; · iexact HO
  isplitl [HsemValdCelltruea01c0]; · iexact HsemValdCelltruea01c0
  isplitl [HyLc06]; · iexact HyLc06
  iexact HsPaya02c

theorem part24 (v8 : BitVec 32) (v34 : BitVec 32) (v62 : BitVec 32) (v65 : BitVec 32) (v94 : BitVec 32) (v97 : BitVec 32) {Q : (Σ' (v775 : BitVec 32), BitVec 32) → sProp 𝕄} :
    iprop(ctx m ρ K
      ∗ owesE c o18
      ∗ sndT (.a 0 2) c
      ∗ sPay m ρ (.a 0 2) c
      ∗ rAny (F := F) (.a 0 2) (dst c (.a 0 2))
      ∗ rcvT (.b 1 1) c)
      ⊢ iprop((∀ r0 : BitVec 32, ∀ r1 : BitVec 32, (owesE c o19
            ∗ pend (.a 0 2) c
            ∗ semVal (dCell true (.b 1 1) c) 0
            ∗ yL m ρ c 1 2
            ∗ sPay m ρ (.b 1 2) c)
          -∗ Q ⟨r0, r1⟩)
        -∗ run c (k0_part24 xM hx gM hg oM ho pM hp yM hy cc0_scratch2 cc0_scratch3 cc0_scratch4 cc0_scratch5 cc0_scratch6 cc0_scratch7 cc0_scratch8 c v8 v34 v62 v65 v94 v97) Q) := by
  rw [k0_part24_eq_skeleton]; unfold k0_part24_skel
  simp only [semSignalWord, semWaitWord, Prog.lift, Prog.bind_op, Prog.bind_ret, Prog.pure_eq_ret]
  iintro ⟨#HC, HO, HsndTa02c, HsPaya02c, HrAnya02a02, HrcvTb11c⟩ Hk
  icases HsndTa02c with ⟨HsndTa02c, Hpos⟩
  iapply (put_a m ρ K c 0 2 (by decide) o19 (dev19_eq c) rfl rfl (off5_eq c 2)) $$ [HO HsndTa02c HsPaya02c HrAnya02a02]
  · isplitr; · iexact HC
    isplitl [HO]; · iexact HO
    isplitl [HsndTa02c]; · iexact HsndTa02c
    isplitl [HsPaya02c]; · iexact HsPaya02c
    iexact HrAnya02a02
  iintro ⟨Hcr, HO⟩
  ihave Hpenda02c : pend (.a 0 2) c $$ [Hpos Hcr]
  · isplitl [Hpos]; · iexact Hpos
    iexact Hcr
  icases HrcvTb11c with ⟨Hpos, Hcr⟩
  iapply (wp_got m ρ K c true (.b 1 1) (by decide) o19 (by decide) rfl (yWin_credit _ _)) $$ [HO Hpos Hcr]
  · isplitr; · iexact HC
    isplitl [HO]; · iexact HO
    isplitl [Hpos]; · iexact Hpos
    iexact Hcr
  iintro ⟨Hpay, HsemValdCelltrueb11c0, HO⟩
  ihave Hpay := (got_b m ρ c 1 1).1 $$ Hpay
  icases Hpay with ⟨HyLc12, Hpay⟩
  ihave HsPayb12c := (Entails.of_eq (sPay_b m ρ c 1 1 2 rfl).symm) $$ Hpay
  iapply (run_ret c)
  iapply Hk
  isplitl [HO]; · iexact HO
  isplitl [Hpenda02c]; · iexact Hpenda02c
  isplitl [HsemValdCelltrueb11c0]; · iexact HsemValdCelltrueb11c0
  isplitl [HyLc12]; · iexact HyLc12
  iexact HsPayb12c

theorem part25 (v8 : BitVec 32) (v62 : BitVec 32) (v65 : BitVec 32) (v94 : BitVec 32) (v97 : BitVec 32) (v775 : BitVec 32) (v785 : BitVec 32) {Q : (PUnit) → sProp 𝕄} :
    iprop(ctx m ρ K
      ∗ owesE c o19
      ∗ sndT (.b 1 2) c
      ∗ sPay m ρ (.b 1 2) c
      ∗ rAny (F := F) (.b 1 2) (dst c (.b 1 2)))
      ⊢ iprop(((owesE c o20
            ∗ pend (.b 1 2) c)
          -∗ Q ⟨⟩)
        -∗ run c (k0_part25 xM hx gM hg oM ho pM hp yM hy cc0_scratch2 cc0_scratch3 cc0_scratch4 cc0_scratch5 cc0_scratch6 cc0_scratch7 cc0_scratch8 c v8 v62 v65 v94 v97 v775 v785) Q) := by
  rw [k0_part25_eq_skeleton]; unfold k0_part25_skel
  simp only [semSignalWord, semWaitWord, Prog.lift, Prog.bind_op, Prog.bind_ret, Prog.pure_eq_ret]
  iintro ⟨#HC, HO, HsndTb12c, HsPayb12c, HrAnyb12b12⟩ Hk
  icases HsndTb12c with ⟨HsndTb12c, Hpos⟩
  iapply (put_b m ρ K c 1 2 (by decide) o20 (dev20_eq c) rfl rfl (off8_eq c 2)) $$ [HO HsndTb12c HsPayb12c HrAnyb12b12]
  · isplitr; · iexact HC
    isplitl [HO]; · iexact HO
    isplitl [HsndTb12c]; · iexact HsndTb12c
    isplitl [HsPayb12c]; · iexact HsPayb12c
    iexact HrAnyb12b12
  iintro ⟨Hcr, HO⟩
  ihave Hpendb12c : pend (.b 1 2) c $$ [Hpos Hcr]
  · isplitl [Hpos]; · iexact Hpos
    iexact Hcr
  iapply (run_ret c)
  iapply Hk
  isplitl [HO]; · iexact HO
  iexact Hpendb12c

theorem part26 (v8 : BitVec 32) (v34 : BitVec 32) (v62 : BitVec 32) (v65 : BitVec 32) {Q : (PUnit) → sProp 𝕄} :
    iprop(ctx m ρ K
      ∗ owesE c o20
      ∗ rcvT (.a 1 1) c)
      ⊢ iprop(((owesE c o20
            ∗ semVal (dCell true (.a 1 1) c) 0
            ∗ yL m ρ c 1 6
            ∗ sPay m ρ (.a 1 2) c)
          -∗ Q ⟨⟩)
        -∗ run c (k0_part26 xM hx gM hg oM ho pM hp yM hy cc0_scratch2 cc0_scratch3 cc0_scratch4 cc0_scratch5 cc0_scratch6 cc0_scratch7 cc0_scratch8 c v8 v34 v62 v65) Q) := by
  rw [k0_part26_eq_skeleton]; unfold k0_part26_skel
  simp only [semSignalWord, semWaitWord, Prog.lift, Prog.bind_op, Prog.bind_ret, Prog.pure_eq_ret]
  iintro ⟨#HC, HO, HrcvTa11c⟩ Hk
  icases HrcvTa11c with ⟨Hpos, Hcr⟩
  iapply (wp_got m ρ K c true (.a 1 1) (by decide) o20 (by decide) rfl (yWin_credit _ _)) $$ [HO Hpos Hcr]
  · isplitr; · iexact HC
    isplitl [HO]; · iexact HO
    isplitl [Hpos]; · iexact Hpos
    iexact Hcr
  iintro ⟨Hpay, HsemValdCelltruea11c0, HO⟩
  ihave Hpay := (got_a m ρ c 1 1).1 $$ Hpay
  icases Hpay with ⟨HyLc16, Hpay⟩
  ihave HsPaya12c := (Entails.of_eq (sPay_a m ρ c 1 1 2 rfl).symm) $$ Hpay
  iapply (run_ret c)
  iapply Hk
  isplitl [HO]; · iexact HO
  isplitl [HsemValdCelltruea11c0]; · iexact HsemValdCelltruea11c0
  isplitl [HyLc16]; · iexact HyLc16
  iexact HsPaya12c

theorem part27 (v8 : BitVec 32) (v34 : BitVec 32) (v94 : BitVec 32) (v97 : BitVec 32) {Q : (Σ' (v878 : BitVec 32) (v879 : BitVec 32), BitVec 1) → sProp 𝕄} :
    iprop(ctx m ρ K
      ∗ owesE c o20
      ∗ sndT (.a 1 2) c
      ∗ sPay m ρ (.a 1 2) c
      ∗ rAny (F := F) (.a 1 2) (dst c (.a 1 2))
      ∗ rcvT (.b 0 1) c)
      ⊢ iprop((∀ r0 : BitVec 32, ∀ r1 : BitVec 32, ∀ r2 : BitVec 1, (owesE c o21
            ∗ pend (.a 1 2) c
            ∗ semVal (dCell true (.b 0 1) c) 0
            ∗ yL m ρ c 0 2
            ∗ sPay m ρ (.b 0 2) c)
          -∗ Q ⟨r0, r1, r2⟩)
        -∗ run c (k0_part27 xM hx gM hg oM ho pM hp yM hy cc0_scratch2 cc0_scratch3 cc0_scratch4 cc0_scratch5 cc0_scratch6 cc0_scratch7 cc0_scratch8 c v8 v34 v94 v97) Q) := by
  rw [k0_part27_eq_skeleton]; unfold k0_part27_skel
  simp only [semSignalWord, semWaitWord, Prog.lift, Prog.bind_op, Prog.bind_ret, Prog.pure_eq_ret]
  iintro ⟨#HC, HO, HsndTa12c, HsPaya12c, HrAnya12a12, HrcvTb01c⟩ Hk
  icases HsndTa12c with ⟨HsndTa12c, Hpos⟩
  iapply (put_a m ρ K c 1 2 (by decide) o21 (dev21_eq c) rfl rfl (off9_eq c 2)) $$ [HO HsndTa12c HsPaya12c HrAnya12a12]
  · isplitr; · iexact HC
    isplitl [HO]; · iexact HO
    isplitl [HsndTa12c]; · iexact HsndTa12c
    isplitl [HsPaya12c]; · iexact HsPaya12c
    iexact HrAnya12a12
  iintro ⟨Hcr, HO⟩
  ihave Hpenda12c : pend (.a 1 2) c $$ [Hpos Hcr]
  · isplitl [Hpos]; · iexact Hpos
    iexact Hcr
  icases HrcvTb01c with ⟨Hpos, Hcr⟩
  iapply (wp_got m ρ K c true (.b 0 1) (by decide) o21 (by decide) rfl (yWin_credit _ _)) $$ [HO Hpos Hcr]
  · isplitr; · iexact HC
    isplitl [HO]; · iexact HO
    isplitl [Hpos]; · iexact Hpos
    iexact Hcr
  iintro ⟨Hpay, HsemValdCelltrueb01c0, HO⟩
  ihave Hpay := (got_b m ρ c 0 1).1 $$ Hpay
  icases Hpay with ⟨HyLc02, Hpay⟩
  ihave HsPayb02c := (Entails.of_eq (sPay_b m ρ c 0 1 2 rfl).symm) $$ Hpay
  iapply (run_ret c)
  iapply Hk
  isplitl [HO]; · iexact HO
  isplitl [Hpenda12c]; · iexact Hpenda12c
  isplitl [HsemValdCelltrueb01c0]; · iexact HsemValdCelltrueb01c0
  isplitl [HyLc02]; · iexact HyLc02
  iexact HsPayb02c

theorem part28 (v8 : BitVec 32) (v34 : BitVec 32) (v94 : BitVec 32) (v97 : BitVec 32) (v719 : FVec F S1024x1 .f32) (v878 : BitVec 32) (v879 : BitVec 32) (v884 : BitVec 1) {Q : (Σ' (v917 : FVec F S1024x1 .f32) (v918 : BitVec 32) (c8_i32_697 : BitVec 32), BitVec 1) → sProp 𝕄} :
    iprop(ctx m ρ K
      ∗ owesE c o21
      ∗ sndT (.b 0 2) c
      ∗ sPay m ρ (.b 0 2) c
      ∗ rAny (F := F) (.b 0 2) (dst c (.b 0 2))
      ∗ yL m ρ c 0 7
      ∗ yL m ρ c 1 7)
      ⊢ iprop((∀ r1 : BitVec 32, ∀ r2 : BitVec 32, ∀ r3 : BitVec 1, (owesE c o22
            ∗ pend (.b 0 2) c
            ∗ yL m ρ c 0 7
            ∗ yL m ρ c 1 7)
          -∗ Q ⟨k0_pay9 v719 (col m ρ c (pos c - 1)), r1, r2, r3⟩)
        -∗ run c (k0_part28 xM hx gM hg oM ho pM hp yM hy cc0_scratch2 cc0_scratch3 cc0_scratch4 cc0_scratch5 cc0_scratch6 cc0_scratch7 cc0_scratch8 c v8 v34 v94 v97 v719 v878 v879 v884) Q) := by
  rw [k0_part28_eq_skeleton]; unfold k0_part28_skel
  simp only [semSignalWord, semWaitWord, Prog.lift, Prog.bind_op, Prog.bind_ret, Prog.pure_eq_ret]
  iintro ⟨#HC, HO, HsndTb02c, HsPayb02c, HrAnyb02b02, HyLc07, HyLc17⟩ Hk
  icases HsndTb02c with ⟨HsndTb02c, Hpos⟩
  iapply (put_b m ρ K c 0 2 (by decide) o22 (dev22_eq c) rfl rfl (off6_eq c 2)) $$ [HO HsndTb02c HsPayb02c HrAnyb02b02]
  · isplitr; · iexact HC
    isplitl [HO]; · iexact HO
    isplitl [HsndTb02c]; · iexact HsndTb02c
    isplitl [HsPayb02c]; · iexact HsPayb02c
    iexact HrAnyb02b02
  iintro ⟨Hcr, HO⟩
  ihave Hpendb02c : pend (.b 0 2) c $$ [Hpos Hcr]
  · isplitl [Hpos]; · iexact Hpos
    iexact Hcr
  iapply (ld_col m ρ c 7 (pos c - 1) (off_7 _) (off11_eq c 0)) $$ [HyLc07 HyLc17]
  · isplitl [HyLc07]; · iexact HyLc07
    iexact HyLc17
  iintro ⟨HyLc07, HyLc17⟩
  iapply (run_ret c)
  iapply Hk
  isplitl [HO]; · iexact HO
  isplitl [Hpendb02c]; · iexact Hpendb02c
  isplitl [HyLc07]; · iexact HyLc07
  iexact HyLc17

theorem part29 (v8 : BitVec 32) (v34 : BitVec 32) (v62 : BitVec 32) (v65 : BitVec 32) (v917 : FVec F S1024x1 .f32) (v918 : BitVec 32) (c8_i32_697 : BitVec 32) (v919 : BitVec 1) {Q : (Σ' (v935 : FVec F S1024x1 .f32) (v946 : BitVec 32) (v948 : BitVec 32) (v949 : BitVec 32), BitVec 1) → sProp 𝕄} :
    iprop(ctx m ρ K
      ∗ owesE c o22
      ∗ yL m ρ c 0 1
      ∗ yL m ρ c 1 1
      ∗ rcvT (.a 0 2) c)
      ⊢ iprop((∀ r1 : BitVec 32, ∀ r2 : BitVec 32, ∀ r3 : BitVec 32, ∀ r4 : BitVec 1, (owesE c o22
            ∗ yL m ρ c 0 1
            ∗ yL m ρ c 1 1
            ∗ semVal (dCell true (.a 0 2) c) 0
            ∗ yL m ρ c 0 5
            ∗ sPay m ρ (.a 0 3) c)
          -∗ Q ⟨k0_pay10 v917 (col m ρ c (pos c + 1)), r1, r2, r3, r4⟩)
        -∗ run c (k0_part29 xM hx gM hg oM ho pM hp yM hy cc0_scratch2 cc0_scratch3 cc0_scratch4 cc0_scratch5 cc0_scratch6 cc0_scratch7 cc0_scratch8 c v8 v34 v62 v65 v917 v918 c8_i32_697 v919) Q) := by
  rw [k0_part29_eq_skeleton]; unfold k0_part29_skel
  simp only [semSignalWord, semWaitWord, Prog.lift, Prog.bind_op, Prog.bind_ret, Prog.pure_eq_ret]
  iintro ⟨#HC, HO, HyLc01, HyLc11, HrcvTa02c⟩ Hk
  iapply (ld_col m ρ c 1 (pos c + 1) (off_1 _) (off12_eq c 0)) $$ [HyLc01 HyLc11]
  · isplitl [HyLc01]; · iexact HyLc01
    iexact HyLc11
  iintro ⟨HyLc01, HyLc11⟩
  icases HrcvTa02c with ⟨Hpos, Hcr⟩
  iapply (wp_got m ρ K c true (.a 0 2) (by decide) o22 (by decide) rfl (yWin_credit _ _)) $$ [HO Hpos Hcr]
  · isplitr; · iexact HC
    isplitl [HO]; · iexact HO
    isplitl [Hpos]; · iexact Hpos
    iexact Hcr
  iintro ⟨Hpay, HsemValdCelltruea02c0, HO⟩
  ihave Hpay := (got_a m ρ c 0 2).1 $$ Hpay
  icases Hpay with ⟨HyLc05, Hpay⟩
  ihave HsPaya03c := (Entails.of_eq (sPay_a m ρ c 0 2 3 rfl).symm) $$ Hpay
  iapply (run_ret c)
  iapply Hk
  isplitl [HO]; · iexact HO
  isplitl [HyLc01]; · iexact HyLc01
  isplitl [HyLc11]; · iexact HyLc11
  isplitl [HsemValdCelltruea02c0]; · iexact HsemValdCelltruea02c0
  isplitl [HyLc05]; · iexact HyLc05
  iexact HsPaya03c

theorem part30 (v8 : BitVec 32) (v62 : BitVec 32) (v65 : BitVec 32) (v94 : BitVec 32) (v97 : BitVec 32) (v946 : BitVec 32) (v948 : BitVec 32) (v949 : BitVec 32) (v954 : BitVec 1) {Q : (PUnit) → sProp 𝕄} :
    iprop(ctx m ρ K
      ∗ owesE c o22
      ∗ sndT (.a 0 3) c
      ∗ sPay m ρ (.a 0 3) c
      ∗ rAny (F := F) (.a 0 3) (dst c (.a 0 3)))
      ⊢ iprop(((owesE c o23
            ∗ pend (.a 0 3) c)
          -∗ Q ⟨⟩)
        -∗ run c (k0_part30 xM hx gM hg oM ho pM hp yM hy cc0_scratch2 cc0_scratch3 cc0_scratch4 cc0_scratch5 cc0_scratch6 cc0_scratch7 cc0_scratch8 c v8 v62 v65 v94 v97 v946 v948 v949 v954) Q) := by
  rw [k0_part30_eq_skeleton]; unfold k0_part30_skel
  simp only [semSignalWord, semWaitWord, Prog.lift, Prog.bind_op, Prog.bind_ret, Prog.pure_eq_ret]
  iintro ⟨#HC, HO, HsndTa03c, HsPaya03c, HrAnya03a03⟩ Hk
  icases HsndTa03c with ⟨HsndTa03c, Hpos⟩
  iapply (put_a m ρ K c 0 3 (by decide) o23 (dev23_eq c) rfl rfl (off5_eq c 3)) $$ [HO HsndTa03c HsPaya03c HrAnya03a03]
  · isplitr; · iexact HC
    isplitl [HO]; · iexact HO
    isplitl [HsndTa03c]; · iexact HsndTa03c
    isplitl [HsPaya03c]; · iexact HsPaya03c
    iexact HrAnya03a03
  iintro ⟨Hcr, HO⟩
  ihave Hpenda03c : pend (.a 0 3) c $$ [Hpos Hcr]
  · isplitl [Hpos]; · iexact Hpos
    iexact Hcr
  iapply (run_ret c)
  iapply Hk
  isplitl [HO]; · iexact HO
  iexact Hpenda03c

theorem part31 (v8 : BitVec 32) (v34 : BitVec 32) (v94 : BitVec 32) (v97 : BitVec 32) {Q : (PUnit) → sProp 𝕄} :
    iprop(ctx m ρ K
      ∗ owesE c o23
      ∗ rcvT (.b 1 2) c)
      ⊢ iprop(((owesE c o23
            ∗ semVal (dCell true (.b 1 2) c) 0
            ∗ yL m ρ c 1 3
            ∗ sPay m ρ (.b 1 3) c)
          -∗ Q ⟨⟩)
        -∗ run c (k0_part31 xM hx gM hg oM ho pM hp yM hy cc0_scratch2 cc0_scratch3 cc0_scratch4 cc0_scratch5 cc0_scratch6 cc0_scratch7 cc0_scratch8 c v8 v34 v94 v97) Q) := by
  rw [k0_part31_eq_skeleton]; unfold k0_part31_skel
  simp only [semSignalWord, semWaitWord, Prog.lift, Prog.bind_op, Prog.bind_ret, Prog.pure_eq_ret]
  iintro ⟨#HC, HO, HrcvTb12c⟩ Hk
  icases HrcvTb12c with ⟨Hpos, Hcr⟩
  iapply (wp_got m ρ K c true (.b 1 2) (by decide) o23 (by decide) rfl (yWin_credit _ _)) $$ [HO Hpos Hcr]
  · isplitr; · iexact HC
    isplitl [HO]; · iexact HO
    isplitl [Hpos]; · iexact Hpos
    iexact Hcr
  iintro ⟨Hpay, HsemValdCelltrueb12c0, HO⟩
  ihave Hpay := (got_b m ρ c 1 2).1 $$ Hpay
  icases Hpay with ⟨HyLc13, Hpay⟩
  ihave HsPayb13c := (Entails.of_eq (sPay_b m ρ c 1 2 3 rfl).symm) $$ Hpay
  iapply (run_ret c)
  iapply Hk
  isplitl [HO]; · iexact HO
  isplitl [HsemValdCelltrueb12c0]; · iexact HsemValdCelltrueb12c0
  isplitl [HyLc13]; · iexact HyLc13
  iexact HsPayb13c

theorem part32 (v8 : BitVec 32) (v34 : BitVec 32) (v62 : BitVec 32) (v65 : BitVec 32) (v94 : BitVec 32) (v97 : BitVec 32) {Q : (Σ' (v1048 : BitVec 32) (v1049 : BitVec 32) (v1050 : BitVec 1), BitVec 32) → sProp 𝕄} :
    iprop(ctx m ρ K
      ∗ owesE c o23
      ∗ sndT (.b 1 3) c
      ∗ sPay m ρ (.b 1 3) c
      ∗ rAny (F := F) (.b 1 3) (dst c (.b 1 3))
      ∗ rcvT (.a 1 2) c
      ∗ rcvT (.b 0 2) c)
      ⊢ iprop((∀ r0 : BitVec 32, ∀ r1 : BitVec 32, ∀ r2 : BitVec 1, ∀ r3 : BitVec 32, (owesE c o24
            ∗ pend (.b 1 3) c
            ∗ semVal (dCell true (.a 1 2) c) 0
            ∗ yL m ρ c 1 5
            ∗ sPay m ρ (.a 1 3) c
            ∗ semVal (dCell true (.b 0 2) c) 0
            ∗ yL m ρ c 0 3
            ∗ sPay m ρ (.b 0 3) c)
          -∗ Q ⟨r0, r1, r2, r3⟩)
        -∗ run c (k0_part32 xM hx gM hg oM ho pM hp yM hy cc0_scratch2 cc0_scratch3 cc0_scratch4 cc0_scratch5 cc0_scratch6 cc0_scratch7 cc0_scratch8 c v8 v34 v62 v65 v94 v97) Q) := by
  rw [k0_part32_eq_skeleton]; unfold k0_part32_skel
  simp only [semSignalWord, semWaitWord, Prog.lift, Prog.bind_op, Prog.bind_ret, Prog.pure_eq_ret]
  iintro ⟨#HC, HO, HsndTb13c, HsPayb13c, HrAnyb13b13, HrcvTa12c, HrcvTb02c⟩ Hk
  icases HsndTb13c with ⟨HsndTb13c, Hpos⟩
  iapply (put_b m ρ K c 1 3 (by decide) o24 (dev24_eq c) rfl rfl (off8_eq c 3)) $$ [HO HsndTb13c HsPayb13c HrAnyb13b13]
  · isplitr; · iexact HC
    isplitl [HO]; · iexact HO
    isplitl [HsndTb13c]; · iexact HsndTb13c
    isplitl [HsPayb13c]; · iexact HsPayb13c
    iexact HrAnyb13b13
  iintro ⟨Hcr, HO⟩
  ihave Hpendb13c : pend (.b 1 3) c $$ [Hpos Hcr]
  · isplitl [Hpos]; · iexact Hpos
    iexact Hcr
  icases HrcvTa12c with ⟨Hpos, Hcr⟩
  iapply (wp_got m ρ K c true (.a 1 2) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCelltruea12c0, HO⟩
  ihave Hpay := (got_a m ρ c 1 2).1 $$ Hpay
  icases Hpay with ⟨HyLc15, Hpay⟩
  ihave HsPaya13c := (Entails.of_eq (sPay_a m ρ c 1 2 3 rfl).symm) $$ Hpay
  icases HrcvTb02c with ⟨Hpos, Hcr⟩
  iapply (wp_got m ρ K c true (.b 0 2) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCelltrueb02c0, HO⟩
  ihave Hpay := (got_b m ρ c 0 2).1 $$ Hpay
  icases Hpay with ⟨HyLc03, Hpay⟩
  ihave HsPayb03c := (Entails.of_eq (sPay_b m ρ c 0 2 3 rfl).symm) $$ Hpay
  iapply (run_ret c)
  iapply Hk
  isplitl [HO]; · iexact HO
  isplitl [Hpendb13c]; · iexact Hpendb13c
  isplitl [HsemValdCelltruea12c0]; · iexact HsemValdCelltruea12c0
  isplitl [HyLc15]; · iexact HyLc15
  isplitl [HsPaya13c]; · iexact HsPaya13c
  isplitl [HsemValdCelltrueb02c0]; · iexact HsemValdCelltrueb02c0
  isplitl [HyLc03]; · iexact HyLc03
  iexact HsPayb03c

theorem part33 (v34 : BitVec 32) (v935 : FVec F S1024x1 .f32) (v1048 : BitVec 32) (v1049 : BitVec 32) (v1050 : BitVec 1) (c0_i32_800 : BitVec 32) {Q : (Σ' (v1081 : FVec F S1024x1 .f32) (v1084 : BitVec 32) (v1085 : BitVec 32) (v1086 : BitVec 1), BitVec 1) → sProp 𝕄} :
    iprop(yL m ρ c 0 6
      ∗ yL m ρ c 1 6
      ∗ yL m ρ c 0 2
      ∗ yL m ρ c 1 2)
      ⊢ iprop((∀ r1 : BitVec 32, ∀ r2 : BitVec 32, ∀ r3 : BitVec 1, ∀ r4 : BitVec 1, (yL m ρ c 0 6
            ∗ yL m ρ c 1 6
            ∗ yL m ρ c 0 2
            ∗ yL m ρ c 1 2)
          -∗ Q ⟨k0_pay11 v935 (col m ρ c (pos c - 2)) (col m ρ c (pos c + 2)), r1, r2, r3, r4⟩)
        -∗ run c (k0_part33 xM hx gM hg oM ho pM hp yM hy cc0_scratch2 cc0_scratch3 cc0_scratch4 cc0_scratch5 cc0_scratch6 cc0_scratch7 cc0_scratch8 c v34 v935 v1048 v1049 v1050 c0_i32_800) Q) := by
  rw [k0_part33_eq_skeleton]; unfold k0_part33_skel
  simp only [semSignalWord, semWaitWord, Prog.lift, Prog.bind_op, Prog.bind_ret, Prog.pure_eq_ret]
  iintro ⟨HyLc06, HyLc16, HyLc02, HyLc12⟩ Hk
  iapply (ld_col m ρ c 6 (pos c - 2) (off_6 _) (off11_eq c 1)) $$ [HyLc06 HyLc16]
  · isplitl [HyLc06]; · iexact HyLc06
    iexact HyLc16
  iintro ⟨HyLc06, HyLc16⟩
  iapply (ld_col m ρ c 2 (pos c + 2) (off_2 _) (off12_eq c 1)) $$ [HyLc02 HyLc12]
  · isplitl [HyLc02]; · iexact HyLc02
    iexact HyLc12
  iintro ⟨HyLc02, HyLc12⟩
  iapply (run_ret c)
  iapply Hk
  isplitl [HyLc06]; · iexact HyLc06
  isplitl [HyLc16]; · iexact HyLc16
  isplitl [HyLc02]; · iexact HyLc02
  iexact HyLc12

theorem part34 (v8 : BitVec 32) (v34 : BitVec 32) (v62 : BitVec 32) (v65 : BitVec 32) (v1081 : FVec F S1024x1 .f32) (v1084 : BitVec 32) (v1085 : BitVec 32) (v1086 : BitVec 1) (v1089 : BitVec 1) {Q : (FVec F S1024x1 .f32) → sProp 𝕄} :
    iprop(yL m ρ c 0 5
      ∗ yL m ρ c 1 5
      ∗ yL m ρ c 0 3
      ∗ yL m ρ c 1 3)
      ⊢ iprop(((yL m ρ c 0 5
            ∗ yL m ρ c 1 5
            ∗ yL m ρ c 0 3
            ∗ yL m ρ c 1 3)
          -∗ Q (k0_pay12 v1081 (col m ρ c (pos c - 3)) (col m ρ c (pos c + 3))))
        -∗ run c (k0_part34 xM hx gM hg oM ho pM hp yM hy cc0_scratch2 cc0_scratch3 cc0_scratch4 cc0_scratch5 cc0_scratch6 cc0_scratch7 cc0_scratch8 c v8 v34 v62 v65 v1081 v1084 v1085 v1086 v1089) Q) := by
  rw [k0_part34_eq_skeleton]; unfold k0_part34_skel
  simp only [semSignalWord, semWaitWord, Prog.lift, Prog.bind_op, Prog.bind_ret, Prog.pure_eq_ret]
  iintro ⟨HyLc05, HyLc15, HyLc03, HyLc13⟩ Hk
  iapply (ld_col m ρ c 5 (pos c - 3) (off_5 _) (off11_eq c 2)) $$ [HyLc05 HyLc15]
  · isplitl [HyLc05]; · iexact HyLc05
    iexact HyLc15
  iintro ⟨HyLc05, HyLc15⟩
  iapply (ld_col m ρ c 3 (pos c + 3) (off_3 _) (off12_eq c 2)) $$ [HyLc03 HyLc13]
  · isplitl [HyLc03]; · iexact HyLc03
    iexact HyLc13
  iintro ⟨HyLc03, HyLc13⟩
  iapply (run_ret c)
  iapply Hk
  isplitl [HyLc05]; · iexact HyLc05
  isplitl [HyLc15]; · iexact HyLc15
  isplitl [HyLc03]; · iexact HyLc03
  iexact HyLc13

theorem part35 (v34 : BitVec 32) (v94 : BitVec 32) {Q : (Σ' (v1161 : BitVec 32), BitVec 32) → sProp 𝕄} :
    iprop(ctx m ρ K
      ∗ owesE c o24
      ∗ rcvT (.a 0 3) c
      ∗ yL m ρ c 0 0
      ∗ yL m ρ c 0 7
      ∗ yL m ρ c 0 6
      ∗ yL m ρ c 0 5
      ∗ yL m ρ c 0 1
      ∗ yL m ρ c 0 2
      ∗ yL m ρ c 0 3
      ∗ gPts m ρ c
      ∗ iprop(∃ f : S1024x1024.Idx → Elt F .f32, oPts c f))
      ⊢ iprop((∀ r0 : BitVec 32, ∀ r1 : BitVec 32, (owesE c o24
            ∗ semVal (dCell true (.a 0 3) c) 0
            ∗ yR m ρ c 0 4
            ∗ (bigSep Finset.univ fun o : Fin 8 => yL m ρ c 0 o)
            ∗ gPts m ρ c
            ∗ iprop(∃ f : S1024x1024.Idx → Elt F .f32, oPts c (oW 0 f (outTop m ρ c))))
          -∗ Q ⟨r0, r1⟩)
        -∗ run c (k0_part35 xM hx gM hg oM ho pM hp yM hy cc0_scratch2 cc0_scratch3 cc0_scratch4 cc0_scratch5 cc0_scratch6 cc0_scratch7 cc0_scratch8 c v34 v94 (ss m ρ c)) Q) := by
  rw [k0_part35_eq_skeleton]; unfold k0_part35_skel
  simp only [semSignalWord, semWaitWord, Prog.lift, Prog.bind_op, Prog.bind_ret, Prog.pure_eq_ret]
  iintro ⟨#HC, HO, HrcvTa03c, HyLc00, HyLc07, HyLc06, HyLc05, HyLc01, HyLc02, HyLc03, Hg, HipropfS1024x1024IdxEltFf32oPtscf⟩ Hk
  icases HrcvTa03c with ⟨Hpos, Hcr⟩
  iapply (wp_got m ρ K c true (.a 0 3) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCelltruea03c0, HO⟩
  ihave Hpay := (got_a m ρ c 0 3).1 $$ Hpay
  icases Hpay with ⟨HyLc04, HyRc04⟩
  ihave HyLc04 := (yL_of m ρ c 0 (aO 3) 4 (by decide)) $$ HyLc04
  ihave HyRc04 := (yR_of m ρ c 0 (aO 3) 4 (by decide)) $$ HyRc04
  iapply (ld_blk m ρ c 0 4 (pos c + 4) rfl (off13_eq c)) $$ HyLc04
  iintro HyLc04
  ihave Hrow := (row_join m ρ c 0).2 $$ [HyLc00 HyLc07 HyLc06 HyLc05 HyLc04 HyLc01 HyLc02 HyLc03]
  · isplitl [HyLc00]; · iexact HyLc00
    isplitl [HyLc07]; · iexact HyLc07
    isplitl [HyLc06]; · iexact HyLc06
    isplitl [HyLc05]; · iexact HyLc05
    isplitl [HyLc04]; · iexact HyLc04
    isplitl [HyLc01]; · iexact HyLc01
    isplitl [HyLc02]; · iexact HyLc02
    iexact HyLc03
  iapply (ld_row m ρ c 0 rfl) $$ Hrow
  iintro HbigSepunivfunoFin8yLc0o
  iapply (ld_g m ρ c) $$ Hg
  iintro Hg
  icases HipropfS1024x1024IdxEltFf32oPtscf with ⟨%fo, Ho⟩
  iapply (ld_o c) $$ Ho
  iintro %_w Ho
  iapply (st_o c 0 rfl) $$ Ho
  iintro Ho
  ihave HipropfS1024x1024IdxEltFf32oPtscoW0foutTopc : iprop(∃ f : S1024x1024.Idx → Elt F .f32, oPts c (oW 0 f (outTop m ρ c))) $$ [Ho]
  · iexists fo; iexact Ho
  iapply (run_ret c)
  iapply Hk
  isplitl [HO]; · iexact HO
  isplitl [HsemValdCelltruea03c0]; · iexact HsemValdCelltruea03c0
  isplitl [HyRc04]; · iexact HyRc04
  isplitl [HbigSepunivfunoFin8yLc0o]; · iexact HbigSepunivfunoFin8yLc0o
  isplitl [Hg]; · iexact Hg
  iexact HipropfS1024x1024IdxEltFf32oPtscoW0foutTopc

theorem part36 (v8 : BitVec 32) (v34 : BitVec 32) (v97 : BitVec 32) (v1161 : BitVec 32) (c0_i32_867 : BitVec 32) {Q : (Σ' (v1197 : FVec F S512x1024 .f32), FVec F S512x1024 .f32) → sProp 𝕄} :
    iprop(ctx m ρ K
      ∗ owesE c o24
      ∗ rcvT (.b 1 3) c
      ∗ yL m ρ c 1 0
      ∗ yL m ρ c 1 7
      ∗ yL m ρ c 1 6
      ∗ yL m ρ c 1 5
      ∗ yL m ρ c 1 1
      ∗ yL m ρ c 1 2
      ∗ yL m ρ c 1 3
      ∗ gPts m ρ c)
      ⊢ iprop(((owesE c o24
            ∗ semVal (dCell true (.b 1 3) c) 0
            ∗ yR m ρ c 1 4
            ∗ (bigSep Finset.univ fun o : Fin 8 => yL m ρ c 1 o)
            ∗ gPts m ρ c)
          -∗ Q ⟨k0_pay14 (ss m ρ c) (blk m ρ c 1 (pos c + 4)) (row m ρ c 1), k0_pay15 (gstg m ρ c)⟩)
        -∗ run c (k0_part36 xM hx gM hg oM ho pM hp yM hy cc0_scratch2 cc0_scratch3 cc0_scratch4 cc0_scratch5 cc0_scratch6 cc0_scratch7 cc0_scratch8 c v8 v34 v97 (ss m ρ c) v1161 c0_i32_867) Q) := by
  rw [k0_part36_eq_skeleton]; unfold k0_part36_skel
  simp only [semSignalWord, semWaitWord, Prog.lift, Prog.bind_op, Prog.bind_ret, Prog.pure_eq_ret]
  iintro ⟨#HC, HO, HrcvTb13c, HyLc10, HyLc17, HyLc16, HyLc15, HyLc11, HyLc12, HyLc13, Hg⟩ Hk
  icases HrcvTb13c with ⟨Hpos, Hcr⟩
  iapply (wp_got m ρ K c true (.b 1 3) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCelltrueb13c0, HO⟩
  ihave Hpay := (got_b m ρ c 1 3).1 $$ Hpay
  icases Hpay with ⟨HyLc14, HyRc14⟩
  ihave HyLc14 := (yL_of m ρ c 1 (bO 3) 4 (by decide)) $$ HyLc14
  ihave HyRc14 := (yR_of m ρ c 1 (bO 3) 4 (by decide)) $$ HyRc14
  iapply (ld_blk m ρ c 1 4 (pos c + 4) rfl (off14_eq c)) $$ HyLc14
  iintro HyLc14
  ihave Hrow := (row_join m ρ c 1).2 $$ [HyLc10 HyLc17 HyLc16 HyLc15 HyLc14 HyLc11 HyLc12 HyLc13]
  · isplitl [HyLc10]; · iexact HyLc10
    isplitl [HyLc17]; · iexact HyLc17
    isplitl [HyLc16]; · iexact HyLc16
    isplitl [HyLc15]; · iexact HyLc15
    isplitl [HyLc14]; · iexact HyLc14
    isplitl [HyLc11]; · iexact HyLc11
    isplitl [HyLc12]; · iexact HyLc12
    iexact HyLc13
  iapply (ld_row m ρ c 1 rfl) $$ Hrow
  iintro HbigSepunivfunoFin8yLc1o
  iapply (ld_g m ρ c) $$ Hg
  iintro Hg
  iapply (run_ret c)
  iapply Hk
  isplitl [HO]; · iexact HO
  isplitl [HsemValdCelltrueb13c0]; · iexact HsemValdCelltrueb13c0
  isplitl [HyRc14]; · iexact HyRc14
  isplitl [HbigSepunivfunoFin8yLc1o]; · iexact HbigSepunivfunoFin8yLc1o
  iexact Hg

theorem part37  {Q : (PUnit) → sProp 𝕄} :
    iprop(ctx m ρ K
      ∗ owesE c o24
      ∗ iprop(∃ f : S1024x1024.Idx → Elt F .f32, oPts c (oW 0 f (outTop m ρ c)))
      ∗ pend (.p 0 0) c
      ∗ pend (.p 1 0) c
      ∗ pend (.p 0 1) c)
      ⊢ iprop(((owesE c o24
            ∗ oPts c (outAt m ρ c)
            ∗ semVal (dCell false (.p 0 0) c) 0
            ∗ sPay m ρ (.p 0 0) c
            ∗ semVal (dCell false (.p 1 0) c) 0
            ∗ sPay m ρ (.p 1 0) c
            ∗ semVal (dCell false (.p 0 1) c) 0
            ∗ sPay m ρ (.p 0 1) c)
          -∗ Q ⟨⟩)
        -∗ run c (k0_part37 xM hx gM hg oM ho pM hp yM hy cc0_scratch2 cc0_scratch3 cc0_scratch4 cc0_scratch5 cc0_scratch6 cc0_scratch7 cc0_scratch8 c (k0_pay14 (ss m ρ c) (blk m ρ c 1 (pos c + 4)) (row m ρ c 1)) (k0_pay15 (gstg m ρ c))) Q) := by
  rw [k0_part37_eq_skeleton]; unfold k0_part37_skel
  simp only [semSignalWord, semWaitWord, Prog.lift, Prog.bind_op, Prog.bind_ret, Prog.pure_eq_ret]
  iintro ⟨#HC, HO, HipropfS1024x1024IdxEltFf32oPtscoW0foutTopc, Hpendp00c, Hpendp10c, Hpendp01c⟩ Hk
  icases HipropfS1024x1024IdxEltFf32oPtscoW0foutTopc with ⟨%fo, Ho⟩
  iapply (ld_o c) $$ Ho
  iintro %_w Ho
  iapply (st_o c 1 rfl) $$ Ho
  iintro Ho
  ihave HoPtscoutAtc := (show oPts c (oW 1 (oW 0 fo (outTop m ρ c)) (k0_pay16 (k0_pay14 (ss m ρ c) (blk m ρ c 1 (pos c + 4)) (row m ρ c 1)) (k0_pay15 (gstg m ρ c)))) ⊢ oPts c (outAt m ρ c) from Entails.of_eq (congrArg (oPts c) (out_eq m ρ c fo))) $$ Ho
  icases Hpendp00c with ⟨Hpos, Hcr⟩
  iapply (wp_got m ρ K c false (.p 0 0) (by decide) o24 (by decide) rfl (xWin_credit _ _)) $$ [HO Hpos Hcr]
  · isplitr; · iexact HC
    isplitl [HO]; · iexact HO
    isplitl [Hpos]; · iexact Hpos
    iexact Hcr
  iintro ⟨Hpay, HsemValdCellfalsep00c0, HO⟩
  ihave HsPayp00c := (back_s m ρ c (.p 0 0)) $$ Hpay
  icases Hpendp10c with ⟨Hpos, Hcr⟩
  iapply (wp_got m ρ K c false (.p 1 0) (by decide) o24 (by decide) rfl (xWin_credit _ _)) $$ [HO Hpos Hcr]
  · isplitr; · iexact HC
    isplitl [HO]; · iexact HO
    isplitl [Hpos]; · iexact Hpos
    iexact Hcr
  iintro ⟨Hpay, HsemValdCellfalsep10c0, HO⟩
  ihave HsPayp10c := (back_s m ρ c (.p 1 0)) $$ Hpay
  icases Hpendp01c with ⟨Hpos, Hcr⟩
  iapply (wp_got m ρ K c false (.p 0 1) (by decide) o24 (by decide) rfl (pWin_credit _ _)) $$ [HO Hpos Hcr]
  · isplitr; · iexact HC
    isplitl [HO]; · iexact HO
    isplitl [Hpos]; · iexact Hpos
    iexact Hcr
  iintro ⟨Hpay, HsemValdCellfalsep01c0, HO⟩
  ihave HsPayp01c := (back_s m ρ c (.p 0 1)) $$ Hpay
  iapply (run_ret c)
  iapply Hk
  isplitl [HO]; · iexact HO
  isplitl [HoPtscoutAtc]; · iexact HoPtscoutAtc
  isplitl [HsemValdCellfalsep00c0]; · iexact HsemValdCellfalsep00c0
  isplitl [HsPayp00c]; · iexact HsPayp00c
  isplitl [HsemValdCellfalsep10c0]; · iexact HsemValdCellfalsep10c0
  isplitl [HsPayp10c]; · iexact HsPayp10c
  isplitl [HsemValdCellfalsep01c0]; · iexact HsemValdCellfalsep01c0
  iexact HsPayp01c

theorem part38  {Q : (PUnit) → sProp 𝕄} :
    iprop(ctx m ρ K
      ∗ owesE c o24
      ∗ pend (.p 1 1) c
      ∗ pend (.p 0 2) c
      ∗ pend (.p 1 2) c)
      ⊢ iprop(((owesE c o24
            ∗ semVal (dCell false (.p 1 1) c) 0
            ∗ sPay m ρ (.p 1 1) c
            ∗ semVal (dCell false (.p 0 2) c) 0
            ∗ sPay m ρ (.p 0 2) c
            ∗ semVal (dCell false (.p 1 2) c) 0
            ∗ sPay m ρ (.p 1 2) c)
          -∗ Q ⟨⟩)
        -∗ run c (k0_part38 xM hx gM hg oM ho pM hp yM hy cc0_scratch2 cc0_scratch3 cc0_scratch4 cc0_scratch5 cc0_scratch6 cc0_scratch7 cc0_scratch8 c ) Q) := by
  rw [k0_part38_eq_skeleton]; unfold k0_part38_skel
  simp only [semSignalWord, semWaitWord, Prog.lift, Prog.bind_op, Prog.bind_ret, Prog.pure_eq_ret]
  iintro ⟨#HC, HO, Hpendp11c, Hpendp02c, Hpendp12c⟩ Hk
  icases Hpendp11c with ⟨Hpos, Hcr⟩
  iapply (wp_got m ρ K c false (.p 1 1) (by decide) o24 (by decide) rfl (pWin_credit _ _)) $$ [HO Hpos Hcr]
  · isplitr; · iexact HC
    isplitl [HO]; · iexact HO
    isplitl [Hpos]; · iexact Hpos
    iexact Hcr
  iintro ⟨Hpay, HsemValdCellfalsep11c0, HO⟩
  ihave HsPayp11c := (back_s m ρ c (.p 1 1)) $$ Hpay
  icases Hpendp02c with ⟨Hpos, Hcr⟩
  iapply (wp_got m ρ K c false (.p 0 2) (by decide) o24 (by decide) rfl (pWin_credit _ _)) $$ [HO Hpos Hcr]
  · isplitr; · iexact HC
    isplitl [HO]; · iexact HO
    isplitl [Hpos]; · iexact Hpos
    iexact Hcr
  iintro ⟨Hpay, HsemValdCellfalsep02c0, HO⟩
  ihave HsPayp02c := (back_s m ρ c (.p 0 2)) $$ Hpay
  icases Hpendp12c with ⟨Hpos, Hcr⟩
  iapply (wp_got m ρ K c false (.p 1 2) (by decide) o24 (by decide) rfl (pWin_credit _ _)) $$ [HO Hpos Hcr]
  · isplitr; · iexact HC
    isplitl [HO]; · iexact HO
    isplitl [Hpos]; · iexact Hpos
    iexact Hcr
  iintro ⟨Hpay, HsemValdCellfalsep12c0, HO⟩
  ihave HsPayp12c := (back_s m ρ c (.p 1 2)) $$ Hpay
  iapply (run_ret c)
  iapply Hk
  isplitl [HO]; · iexact HO
  isplitl [HsemValdCellfalsep11c0]; · iexact HsemValdCellfalsep11c0
  isplitl [HsPayp11c]; · iexact HsPayp11c
  isplitl [HsemValdCellfalsep02c0]; · iexact HsemValdCellfalsep02c0
  isplitl [HsPayp02c]; · iexact HsPayp02c
  isplitl [HsemValdCellfalsep12c0]; · iexact HsemValdCellfalsep12c0
  iexact HsPayp12c

theorem part39  {Q : (PUnit) → sProp 𝕄} :
    iprop(ctx m ρ K
      ∗ owesE c o24
      ∗ pend (.a 0 0) c
      ∗ pend (.b 0 0) c
      ∗ pend (.b 1 0) c
      ∗ pend (.a 1 0) c
      ∗ pend (.a 0 1) c)
      ⊢ iprop(((owesE c o24
            ∗ semVal (dCell false (.a 0 0) c) 0
            ∗ sPay m ρ (.a 0 0) c
            ∗ semVal (dCell false (.b 0 0) c) 0
            ∗ sPay m ρ (.b 0 0) c
            ∗ semVal (dCell false (.b 1 0) c) 0
            ∗ sPay m ρ (.b 1 0) c
            ∗ semVal (dCell false (.a 1 0) c) 0
            ∗ sPay m ρ (.a 1 0) c
            ∗ semVal (dCell false (.a 0 1) c) 0
            ∗ sPay m ρ (.a 0 1) c)
          -∗ Q ⟨⟩)
        -∗ run c (k0_part39 xM hx gM hg oM ho pM hp yM hy cc0_scratch2 cc0_scratch3 cc0_scratch4 cc0_scratch5 cc0_scratch6 cc0_scratch7 cc0_scratch8 c ) Q) := by
  rw [k0_part39_eq_skeleton]; unfold k0_part39_skel
  simp only [semSignalWord, semWaitWord, Prog.lift, Prog.bind_op, Prog.bind_ret, Prog.pure_eq_ret]
  iintro ⟨#HC, HO, Hpenda00c, Hpendb00c, Hpendb10c, Hpenda10c, Hpenda01c⟩ Hk
  icases Hpenda00c with ⟨Hpos, Hcr⟩
  iapply (wp_got m ρ K c false (.a 0 0) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCellfalsea00c0, HO⟩
  ihave HsPaya00c := (back_s m ρ c (.a 0 0)) $$ Hpay
  icases Hpendb00c with ⟨Hpos, Hcr⟩
  iapply (wp_got m ρ K c false (.b 0 0) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCellfalseb00c0, HO⟩
  ihave HsPayb00c := (back_s m ρ c (.b 0 0)) $$ Hpay
  icases Hpendb10c with ⟨Hpos, Hcr⟩
  iapply (wp_got m ρ K c false (.b 1 0) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCellfalseb10c0, HO⟩
  ihave HsPayb10c := (back_s m ρ c (.b 1 0)) $$ Hpay
  icases Hpenda10c with ⟨Hpos, Hcr⟩
  iapply (wp_got m ρ K c false (.a 1 0) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCellfalsea10c0, HO⟩
  ihave HsPaya10c := (back_s m ρ c (.a 1 0)) $$ Hpay
  icases Hpenda01c with ⟨Hpos, Hcr⟩
  iapply (wp_got m ρ K c false (.a 0 1) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCellfalsea01c0, HO⟩
  ihave HsPaya01c := (back_s m ρ c (.a 0 1)) $$ Hpay
  iapply (run_ret c)
  iapply Hk
  isplitl [HO]; · iexact HO
  isplitl [HsemValdCellfalsea00c0]; · iexact HsemValdCellfalsea00c0
  isplitl [HsPaya00c]; · iexact HsPaya00c
  isplitl [HsemValdCellfalseb00c0]; · iexact HsemValdCellfalseb00c0
  isplitl [HsPayb00c]; · iexact HsPayb00c
  isplitl [HsemValdCellfalseb10c0]; · iexact HsemValdCellfalseb10c0
  isplitl [HsPayb10c]; · iexact HsPayb10c
  isplitl [HsemValdCellfalsea10c0]; · iexact HsemValdCellfalsea10c0
  isplitl [HsPaya10c]; · iexact HsPaya10c
  isplitl [HsemValdCellfalsea01c0]; · iexact HsemValdCellfalsea01c0
  iexact HsPaya01c

theorem part40  {Q : (PUnit) → sProp 𝕄} :
    iprop(ctx m ρ K
      ∗ owesE c o24
      ∗ pend (.b 1 1) c
      ∗ pend (.a 1 1) c
      ∗ pend (.b 0 1) c
      ∗ pend (.a 0 2) c
      ∗ pend (.b 1 2) c)
      ⊢ iprop(((owesE c o24
            ∗ semVal (dCell false (.b 1 1) c) 0
            ∗ sPay m ρ (.b 1 1) c
            ∗ semVal (dCell false (.a 1 1) c) 0
            ∗ sPay m ρ (.a 1 1) c
            ∗ semVal (dCell false (.b 0 1) c) 0
            ∗ sPay m ρ (.b 0 1) c
            ∗ semVal (dCell false (.a 0 2) c) 0
            ∗ sPay m ρ (.a 0 2) c
            ∗ semVal (dCell false (.b 1 2) c) 0
            ∗ sPay m ρ (.b 1 2) c)
          -∗ Q ⟨⟩)
        -∗ run c (k0_part40 xM hx gM hg oM ho pM hp yM hy cc0_scratch2 cc0_scratch3 cc0_scratch4 cc0_scratch5 cc0_scratch6 cc0_scratch7 cc0_scratch8 c ) Q) := by
  rw [k0_part40_eq_skeleton]; unfold k0_part40_skel
  simp only [semSignalWord, semWaitWord, Prog.lift, Prog.bind_op, Prog.bind_ret, Prog.pure_eq_ret]
  iintro ⟨#HC, HO, Hpendb11c, Hpenda11c, Hpendb01c, Hpenda02c, Hpendb12c⟩ Hk
  icases Hpendb11c with ⟨Hpos, Hcr⟩
  iapply (wp_got m ρ K c false (.b 1 1) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCellfalseb11c0, HO⟩
  ihave HsPayb11c := (back_s m ρ c (.b 1 1)) $$ Hpay
  icases Hpenda11c with ⟨Hpos, Hcr⟩
  iapply (wp_got m ρ K c false (.a 1 1) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCellfalsea11c0, HO⟩
  ihave HsPaya11c := (back_s m ρ c (.a 1 1)) $$ Hpay
  icases Hpendb01c with ⟨Hpos, Hcr⟩
  iapply (wp_got m ρ K c false (.b 0 1) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCellfalseb01c0, HO⟩
  ihave HsPayb01c := (back_s m ρ c (.b 0 1)) $$ Hpay
  icases Hpenda02c with ⟨Hpos, Hcr⟩
  iapply (wp_got m ρ K c false (.a 0 2) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCellfalsea02c0, HO⟩
  ihave HsPaya02c := (back_s m ρ c (.a 0 2)) $$ Hpay
  icases Hpendb12c with ⟨Hpos, Hcr⟩
  iapply (wp_got m ρ K c false (.b 1 2) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCellfalseb12c0, HO⟩
  ihave HsPayb12c := (back_s m ρ c (.b 1 2)) $$ Hpay
  iapply (run_ret c)
  iapply Hk
  isplitl [HO]; · iexact HO
  isplitl [HsemValdCellfalseb11c0]; · iexact HsemValdCellfalseb11c0
  isplitl [HsPayb11c]; · iexact HsPayb11c
  isplitl [HsemValdCellfalsea11c0]; · iexact HsemValdCellfalsea11c0
  isplitl [HsPaya11c]; · iexact HsPaya11c
  isplitl [HsemValdCellfalseb01c0]; · iexact HsemValdCellfalseb01c0
  isplitl [HsPayb01c]; · iexact HsPayb01c
  isplitl [HsemValdCellfalsea02c0]; · iexact HsemValdCellfalsea02c0
  isplitl [HsPaya02c]; · iexact HsPaya02c
  isplitl [HsemValdCellfalseb12c0]; · iexact HsemValdCellfalseb12c0
  iexact HsPayb12c

end Cert.Fused
end
-- ==== Proof.Body.lean ====
/-
# The whole body, part by part
-/
module

public import proofs.«01_k».proof.Proof.PartsB

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cx → ℕ) (c : Dev nD)
variable (hx : xM.IsWhole) (hg : gM.IsWhole) (ho : oM.IsWhole) (hp : pM.IsWhole) (hy : yM.IsWhole)

theorem run_bind (c : Dev nD) {α β : Type} {e : Prog (TpuEff nD τ sig (Elt F) Λ₀ .tc) β} {k : β → Prog (TpuEff nD τ sig (Elt F) Λ₀ .tc) α} {Q : α → sProp 𝕄} :
    run c e (fun x => run c (k x) Q) ⊢ run c (e >>= k) Q := by
  show _ ⊢ wp _ _ _ _ _
  rw [wp_bind]

theorem part1 {Q} : iprop(∀ v2 v5 v8 v20 v31 v34 w, Q ⟨c, v2, v5, v8, v20, v31, v34, w⟩) ⊢ run (F := F) c (k0_part1 xM hx gM hg oM ho pM hp yM hy cc0_scratch2 cc0_scratch3 cc0_scratch4 cc0_scratch5 cc0_scratch6 cc0_scratch7 cc0_scratch8) Q := by
  rw [k0_part1_eq_skeleton]; unfold k0_part1_skel
  simp only [Prog.lift, Prog.bind_op, Prog.bind_ret, Prog.pure_eq_ret, wp_deviceId]
  iintro H
  iapply (run_ret c)
  iapply H

theorem part2 (v34 w) {Q} : iprop(∀ v62 v65 v69 v70 v71 v72, Q ⟨v62, v65, v69, v70, v71, v72⟩) ⊢ run (F := F) c (k0_part2 xM hx gM hg oM ho pM hp yM hy cc0_scratch2 cc0_scratch3 cc0_scratch4 cc0_scratch5 cc0_scratch6 cc0_scratch7 cc0_scratch8 v34 w) Q := by
  rw [k0_part2_eq_skeleton]; unfold k0_part2_skel
  simp only [Prog.pure_eq_ret]
  iintro H
  iapply (run_ret c)
  iapply H

theorem ss_eq : k0_pay12 (k0_pay11 (k0_pay10 (k0_pay9 (k0_pay8 (col m ρ c (pos c))) (col m ρ c (pos c - 1))) (col m ρ c (pos c + 1)))
    (col m ρ c (pos c - 2)) (col m ρ c (pos c + 2))) (col m ρ c (pos c - 3)) (col m ρ c (pos c + 3)) = ss m ρ c := rfl

set_option maxHeartbeats 4000000 in
theorem body_run {Q : PUnit → sProp 𝕄} :
    iprop(ctx m ρ K ∗ owesE c o0
      ∗ dutyTok ER (barCell (zl c)) 0 true
      ∗ hand (F := F) pL (zl c)
      ∗ dutyTok ER (barCell (zr c)) 0 false
      ∗ shakeT barS c
      ∗ dutyTok ER (xyCell (cw c)) 0 false
      ∗ hand (F := F) bL (cw c)
      ∗ dutyTok ER (xyCell (ccw c)) 0 true
      ∗ hand (F := F) aL (ccw c)
      ∗ sndT (.p 0 0) c
      ∗ sPay m ρ (.p 0 0) c
      ∗ sndT (.p 1 0) c
      ∗ sPay m ρ (.p 1 0) c
      ∗ rcvT (.p 0 0) c
      ∗ xPts m ρ c Finset.univ fullShare.left
      ∗ sndT (.p 0 1) c
      ∗ rcvT (.p 1 0) c
      ∗ sndT (.p 1 1) c
      ∗ rcvT (.p 0 1) c
      ∗ sndT (.p 0 2) c
      ∗ rcvT (.p 1 1) c
      ∗ sndT (.p 1 2) c
      ∗ shakeT xyS c
      ∗ rcvT (.p 0 2) c
      ∗ iprop(∃ f : S1024x1024.Idx → Elt F .f32, yPts c 0 (pos c) fullShare f)
      ∗ sndT (.a 0 0) c
      ∗ sndT (.b 0 0) c
      ∗ rcvT (.p 1 2) c
      ∗ iprop(∃ f : S1024x1024.Idx → Elt F .f32, yPts c 1 (pos c) fullShare f)
      ∗ sndT (.b 1 0) c
      ∗ sndT (.a 1 0) c
      ∗ rcvT (.a 0 0) c
      ∗ sndT (.a 0 1) c
      ∗ rcvT (.b 1 0) c
      ∗ sndT (.b 1 1) c
      ∗ rcvT (.a 1 0) c
      ∗ sndT (.a 1 1) c
      ∗ rcvT (.b 0 0) c
      ∗ sndT (.b 0 1) c
      ∗ rcvT (.a 0 1) c
      ∗ sndT (.a 0 2) c
      ∗ rcvT (.b 1 1) c
      ∗ sndT (.b 1 2) c
      ∗ rcvT (.a 1 1) c
      ∗ sndT (.a 1 2) c
      ∗ rcvT (.b 0 1) c
      ∗ sndT (.b 0 2) c
      ∗ rcvT (.a 0 2) c
      ∗ sndT (.a 0 3) c
      ∗ rcvT (.b 1 2) c
      ∗ sndT (.b 1 3) c
      ∗ rcvT (.a 1 2) c
      ∗ rcvT (.b 0 2) c
      ∗ rcvT (.a 0 3) c
      ∗ gPts m ρ c
      ∗ iprop(∃ f : S1024x1024.Idx → Elt F .f32, oPts c f)
      ∗ rcvT (.b 1 3) c)
    ⊢ iprop((owesE c []
        ∗ semVal (barCell c) 0
        ∗ semVal (dCell true (.p 0 0) c) 0
        ∗ pPts c 0 0 fullShare.left (PA m ρ c)
        ∗ semVal (dCell true (.p 1 0) c) 0
        ∗ pPts c 1 0 fullShare.left (PA m ρ c)
        ∗ semVal (dCell true (.p 0 1) c) 0
        ∗ pPts c 0 1 fullShare.left (PA m ρ c)
        ∗ semVal (dCell true (.p 1 1) c) 0
        ∗ pPts c 1 1 fullShare.left (PA m ρ c)
        ∗ semVal (xyCell c) 0
        ∗ semVal (dCell true (.p 0 2) c) 0
        ∗ pPts c 0 2 fullShare (PR m ρ c)
        ∗ semVal (dCell true (.p 1 2) c) 0
        ∗ xPts m ρ c Finset.univ fullShare.left
        ∗ pPts c 1 2 fullShare (PR m ρ c)
        ∗ semVal (dCell true (.a 0 0) c) 0
        ∗ semVal (dCell true (.b 1 0) c) 0
        ∗ semVal (dCell true (.a 1 0) c) 0
        ∗ semVal (dCell true (.b 0 0) c) 0
        ∗ semVal (dCell true (.a 0 1) c) 0
        ∗ semVal (dCell true (.b 1 1) c) 0
        ∗ semVal (dCell true (.a 1 1) c) 0
        ∗ semVal (dCell true (.b 0 1) c) 0
        ∗ semVal (dCell true (.a 0 2) c) 0
        ∗ semVal (dCell true (.b 1 2) c) 0
        ∗ semVal (dCell true (.a 1 2) c) 0
        ∗ sPay m ρ (.a 1 3) c
        ∗ semVal (dCell true (.b 0 2) c) 0
        ∗ sPay m ρ (.b 0 3) c
        ∗ semVal (dCell true (.a 0 3) c) 0
        ∗ yR m ρ c 0 4
        ∗ (bigSep Finset.univ fun o : Fin 8 => yL m ρ c 0 o)
        ∗ semVal (dCell true (.b 1 3) c) 0
        ∗ yR m ρ c 1 4
        ∗ (bigSep Finset.univ fun o : Fin 8 => yL m ρ c 1 o)
        ∗ gPts m ρ c
        ∗ oPts c (outAt m ρ c)
        ∗ semVal (dCell false (.p 0 0) c) 0
        ∗ sPay m ρ (.p 0 0) c
        ∗ semVal (dCell false (.p 1 0) c) 0
        ∗ sPay m ρ (.p 1 0) c
        ∗ semVal (dCell false (.p 0 1) c) 0
        ∗ sPay m ρ (.p 0 1) c
        ∗ semVal (dCell false (.p 1 1) c) 0
        ∗ sPay m ρ (.p 1 1) c
        ∗ semVal (dCell false (.p 0 2) c) 0
        ∗ sPay m ρ (.p 0 2) c
        ∗ semVal (dCell false (.p 1 2) c) 0
        ∗ sPay m ρ (.p 1 2) c
        ∗ semVal (dCell false (.a 0 0) c) 0
        ∗ sPay m ρ (.a 0 0) c
        ∗ semVal (dCell false (.b 0 0) c) 0
        ∗ sPay m ρ (.b 0 0) c
        ∗ semVal (dCell false (.b 1 0) c) 0
        ∗ sPay m ρ (.b 1 0) c
        ∗ semVal (dCell false (.a 1 0) c) 0
        ∗ sPay m ρ (.a 1 0) c
        ∗ semVal (dCell false (.a 0 1) c) 0
        ∗ sPay m ρ (.a 0 1) c
        ∗ semVal (dCell false (.b 1 1) c) 0
        ∗ sPay m ρ (.b 1 1) c
        ∗ semVal (dCell false (.a 1 1) c) 0
        ∗ sPay m ρ (.a 1 1) c
        ∗ semVal (dCell false (.b 0 1) c) 0
        ∗ sPay m ρ (.b 0 1) c
        ∗ semVal (dCell false (.a 0 2) c) 0
        ∗ sPay m ρ (.a 0 2) c
        ∗ semVal (dCell false (.b 1 2) c) 0
        ∗ sPay m ρ (.b 1 2) c
        ∗ semVal (dCell false (.a 1 2) c) 0
        ∗ sPay m ρ (.a 1 2) c
        ∗ semVal (dCell false (.b 0 2) c) 0
        ∗ sPay m ρ (.b 0 2) c
        ∗ semVal (dCell false (.a 0 3) c) 0
        ∗ sPay m ρ (.a 0 3) c
        ∗ semVal (dCell false (.b 1 3) c) 0
        ∗ sPay m ρ (.b 1 3) c
        -∗ Q ⟨⟩)
      -∗ run c (cc0_body xM hx gM hg oM ho pM hp yM hy cc0_scratch2 cc0_scratch3 cc0_scratch4 cc0_scratch5 cc0_scratch6 cc0_scratch7 cc0_scratch8) Q) := by
  iintro ⟨#HC, HO, HdutyTokERbarCellzlc0true, HhandpLzlc, HdutyTokERbarCellzrc0false, HshakeTbarSc, HdutyTokERxyCellcwc0false, HhandbLcwc, HdutyTokERxyCellccwc0true, HhandaLccwc, HsndTp00c, HsPayp00c, HsndTp10c, HsPayp10c, HrcvTp00c, Hx, HsndTp01c, HrcvTp10c, HsndTp11c, HrcvTp01c, HsndTp02c, HrcvTp11c, HsndTp12c, HshakeTxySc, HrcvTp02c, HipropfS1024x1024IdxEltFf32yPtsc0poscf, HsndTa00c, HsndTb00c, HrcvTp12c, HipropfS1024x1024IdxEltFf32yPtsc1poscf, HsndTb10c, HsndTa10c, HrcvTa00c, HsndTa01c, HrcvTb10c, HsndTb11c, HrcvTa10c, HsndTa11c, HrcvTb00c, HsndTb01c, HrcvTa01c, HsndTa02c, HrcvTb11c, HsndTb12c, HrcvTa11c, HsndTa12c, HrcvTb01c, HsndTb02c, HrcvTa02c, HsndTa03c, HrcvTb12c, HsndTb13c, HrcvTa12c, HrcvTb02c, HrcvTa03c, Hg, HipropfS1024x1024IdxEltFf32oPtscf, HrcvTb13c⟩ Hk
  rw [cc0_body_eq_skeleton]; unfold cc0_body_skel
  iapply (run_bind c)
  rw [k0_part41_eq_skeleton]; unfold k0_part41_skel
  simp only [Prog.lift, Prog.bind_op, Prog.bind_ret, Prog.pure_eq_ret]
  iapply (run_bind c)
  iapply (part1 c hx hg ho hp hy); iintro %_ %_ %_ %_ %_ %_ %_
  dsimp only
  iapply (run_bind c)
  iapply (part2 c hx hg ho hp hy); iintro %_ %_ %_ %_ %_ %_
  dsimp only
  iapply (run_bind c)
  iapply (part3 m ρ K c hx hg ho hp hy _ _ _ _ _ _ _ _) $$ [HO HdutyTokERbarCellzlc0true HhandpLzlc HdutyTokERbarCellzrc0false]
  · isplitr; · iexact HC
    isplitl [HO]; · iexact HO
    isplitl [HdutyTokERbarCellzlc0true]; · iexact HdutyTokERbarCellzlc0true
    isplitl [HhandpLzlc]; · iexact HhandpLzlc
    iexact HdutyTokERbarCellzrc0false
  iintro %_ %_ HO
  dsimp only
  iapply (run_bind c)
  iapply (part4 m ρ K c hx hg ho hp hy _ _ _ _ _ _ _ _ _ _) $$ [HO HshakeTbarSc HdutyTokERxyCellcwc0false HhandbLcwc HdutyTokERxyCellccwc0true HhandaLccwc HsndTp00c HsPayp00c]
  · isplitr; · iexact HC
    isplitl [HO]; · iexact HO
    isplitl [HshakeTbarSc]; · iexact HshakeTbarSc
    isplitl [HdutyTokERxyCellcwc0false]; · iexact HdutyTokERxyCellcwc0false
    isplitl [HhandbLcwc]; · iexact HhandbLcwc
    isplitl [HdutyTokERxyCellccwc0true]; · iexact HdutyTokERxyCellccwc0true
    isplitl [HhandaLccwc]; · iexact HhandaLccwc
    isplitl [HsndTp00c]; · iexact HsndTp00c
    iexact HsPayp00c
  iintro %_ ⟨HO, HsemValbarCellc0, HrAnyp10p10, HrAnyp01p01, HrAnyp11p11, HrAnyp02p02, HrAnyp12p12, Hpendp00c⟩
  iapply (run_bind c)
  iapply (part5 m ρ K c hx hg ho hp hy _ _ _ _ _) $$ [HO HsndTp10c HsPayp10c HrAnyp10p10]
  · isplitr; · iexact HC
    isplitl [HO]; · iexact HO
    isplitl [HsndTp10c]; · iexact HsndTp10c
    isplitl [HsPayp10c]; · iexact HsPayp10c
    iexact HrAnyp10p10
  iintro %_ %_ ⟨HO, Hpendp10c⟩
  dsimp only
  iapply (run_bind c)
  iapply (part6 m ρ K c hx hg ho hp hy _ _ _ _ _ _) $$ [HO HrcvTp00c Hx]
  · isplitr; · iexact HC
    isplitl [HO]; · iexact HO
    isplitl [HrcvTp00c]; · iexact HrcvTp00c
    iexact Hx
  iintro ⟨HO, HsemValdCelltruep00c0, Hx, HpPtsc00lPAc, HsPayp01c⟩
  iapply (run_bind c)
  iapply (part7 m ρ K c hx hg ho hp hy _ _ _ _ _) $$ [HO HsndTp01c HsPayp01c HrAnyp01p01 HrcvTp10c Hx]
  · isplitr; · iexact HC
    isplitl [HO]; · iexact HO
    isplitl [HsndTp01c]; · iexact HsndTp01c
    isplitl [HsPayp01c]; · iexact HsPayp01c
    isplitl [HrAnyp01p01]; · iexact HrAnyp01p01
    isplitl [HrcvTp10c]; · iexact HrcvTp10c
    iexact Hx
  iintro ⟨HO, Hpendp01c, HsemValdCelltruep10c0, Hx, HpPtsc10lPAc, HsPayp11c⟩
  iapply (run_bind c)
  iapply (part8 m ρ K c hx hg ho hp hy _ _ _ _) $$ [HO HsndTp11c HsPayp11c HrAnyp11p11]
  · isplitr; · iexact HC
    isplitl [HO]; · iexact HO
    isplitl [HsndTp11c]; · iexact HsndTp11c
    isplitl [HsPayp11c]; · iexact HsPayp11c
    iexact HrAnyp11p11
  iintro %_ %_ ⟨HO, Hpendp11c⟩
  dsimp only
  iapply (run_bind c)
  iapply (part9 m ρ K c hx hg ho hp hy _ _ _ _ _ _) $$ [HO HrcvTp01c Hx]
  · isplitr; · iexact HC
    isplitl [HO]; · iexact HO
    isplitl [HrcvTp01c]; · iexact HrcvTp01c
    iexact Hx
  iintro ⟨HO, HsemValdCelltruep01c0, Hx, HpPtsc01lPAc, HsPayp02c⟩
  iapply (run_bind c)
  iapply (part10 m ρ K c hx hg ho hp hy _ _ _ _ _) $$ [HO HsndTp02c HsPayp02c HrAnyp02p02 HrcvTp11c Hx]
  · isplitr; · iexact HC
    isplitl [HO]; · iexact HO
    isplitl [HsndTp02c]; · iexact HsndTp02c
    isplitl [HsPayp02c]; · iexact HsPayp02c
    isplitl [HrAnyp02p02]; · iexact HrAnyp02p02
    isplitl [HrcvTp11c]; · iexact HrcvTp11c
    iexact Hx
  iintro ⟨HO, Hpendp02c, HsemValdCelltruep11c0, Hx, HpPtsc11lPAc, HsPayp12c⟩
  iapply (run_bind c)
  iapply (part11 m ρ K c hx hg ho hp hy _ _ _ _ _) $$ [HO HsndTp12c HsPayp12c HrAnyp12p12 HshakeTxySc HrcvTp02c]
  · isplitr; · iexact HC
    isplitl [HO]; · iexact HO
    isplitl [HsndTp12c]; · iexact HsndTp12c
    isplitl [HsPayp12c]; · iexact HsPayp12c
    isplitl [HrAnyp12p12]; · iexact HrAnyp12p12
    isplitl [HshakeTxySc]; · iexact HshakeTxySc
    iexact HrcvTp02c
  iintro ⟨HO, Hpendp12c, HsemValxyCellc0, HrAnya00a00, HrAnya10a10, HrAnya01a01, HrAnya11a11, HrAnya02a02, HrAnya12a12, HrAnya03a03, HrAnyb00b00, HrAnyb10b10, HrAnyb01b01, HrAnyb11b11, HrAnyb02b02, HrAnyb12b12, HrAnyb13b13, HsemValdCelltruep02c0, HpPtsc02PRc⟩
  iapply (run_bind c)
  iapply (part12 m ρ c hx hg ho hp hy _ _ _) $$ [Hx HpPtsc02PRc HipropfS1024x1024IdxEltFf32yPtsc0poscf]
  · isplitl [Hx]; · iexact Hx
    isplitl [HpPtsc02PRc]; · iexact HpPtsc02PRc
    iexact HipropfS1024x1024IdxEltFf32yPtsc0poscf
  iintro %_ ⟨Hx, HpPtsc02PRc, HyLc00, HsPaya00c, HsPayb00c⟩
  iapply (run_bind c)
  iapply (part13 m ρ K c hx hg ho hp hy _ _ _ _ _) $$ [HO HsndTa00c HsPaya00c HrAnya00a00]
  · isplitr; · iexact HC
    isplitl [HO]; · iexact HO
    isplitl [HsndTa00c]; · iexact HsndTa00c
    isplitl [HsPaya00c]; · iexact HsPaya00c
    iexact HrAnya00a00
  iintro %_ %_ ⟨HO, Hpenda00c⟩
  dsimp only
  iapply (run_bind c)
  iapply (part14 m ρ K c hx hg ho hp hy _ _ _ _ _ _ _ _) $$ [HO HsndTb00c HsPayb00c HrAnyb00b00 HrcvTp12c Hx]
  · isplitr; · iexact HC
    isplitl [HO]; · iexact HO
    isplitl [HsndTb00c]; · iexact HsndTb00c
    isplitl [HsPayb00c]; · iexact HsPayb00c
    isplitl [HrAnyb00b00]; · iexact HrAnyb00b00
    isplitl [HrcvTp12c]; · iexact HrcvTp12c
    iexact Hx
  iintro ⟨HO, Hpendb00c, HsemValdCelltruep12c0, Hx, HpPtsc12PRc⟩
  iapply (run_bind c)
  iapply (part15 m ρ c hx hg ho hp hy _ _ _ _) $$ [HipropfS1024x1024IdxEltFf32yPtsc1poscf]
  · iexact HipropfS1024x1024IdxEltFf32yPtsc1poscf
  iintro ⟨HyLc10, HsPaya10c, HsPayb10c⟩
  iapply (run_bind c)
  iapply (part16 m ρ K c hx hg ho hp hy _ _ _ _) $$ [HO HsndTb10c HsPayb10c HrAnyb10b10]
  · isplitr; · iexact HC
    isplitl [HO]; · iexact HO
    isplitl [HsndTb10c]; · iexact HsndTb10c
    isplitl [HsPayb10c]; · iexact HsPayb10c
    iexact HrAnyb10b10
  iintro ⟨HO, Hpendb10c⟩
  iapply (run_bind c)
  iapply (part17 m ρ K c hx hg ho hp hy _ _ _ _) $$ [HO HsndTa10c HsPaya10c HrAnya10a10 HrcvTa00c]
  · isplitr; · iexact HC
    isplitl [HO]; · iexact HO
    isplitl [HsndTa10c]; · iexact HsndTa10c
    isplitl [HsPaya10c]; · iexact HsPaya10c
    isplitl [HrAnya10a10]; · iexact HrAnya10a10
    iexact HrcvTa00c
  iintro %_ %_ %_ %_ ⟨HO, Hpenda10c, HsemValdCelltruea00c0, HyLc07, HsPaya01c⟩
  dsimp only
  iapply (run_bind c)
  iapply (part18 m ρ K c hx hg ho hp hy _ _ _ _ _ _ _ _ _ _) $$ [HO HsndTa01c HsPaya01c HrAnya01a01 HrcvTb10c]
  · isplitr; · iexact HC
    isplitl [HO]; · iexact HO
    isplitl [HsndTa01c]; · iexact HsndTa01c
    isplitl [HsPaya01c]; · iexact HsPaya01c
    isplitl [HrAnya01a01]; · iexact HrAnya01a01
    iexact HrcvTb10c
  iintro %_ %_ %_ %_ %_ ⟨HO, Hpenda01c, HsemValdCelltrueb10c0, HyLc11, HsPayb11c⟩
  dsimp only
  iapply (run_bind c)
  iapply (part19 m ρ K c hx hg ho hp hy _ _ _ _ _ _ _ _ _ _) $$ [HO HsndTb11c HsPayb11c HrAnyb11b11]
  · isplitr; · iexact HC
    isplitl [HO]; · iexact HO
    isplitl [HsndTb11c]; · iexact HsndTb11c
    isplitl [HsPayb11c]; · iexact HsPayb11c
    iexact HrAnyb11b11
  iintro %_ %_ ⟨HO, Hpendb11c⟩
  dsimp only
  iapply (run_bind c)
  iapply (part20 m ρ K c hx hg ho hp hy _ _ _ _ _ _) $$ [HO HrcvTa10c]
  · isplitr; · iexact HC
    isplitl [HO]; · iexact HO
    iexact HrcvTa10c
  iintro %_ ⟨HO, HsemValdCelltruea10c0, HyLc17, HsPaya11c⟩
  iapply (run_bind c)
  iapply (part21 m ρ K c hx hg ho hp hy _ _ _ _ _) $$ [HO HsndTa11c HsPaya11c HrAnya11a11 HrcvTb00c]
  · isplitr; · iexact HC
    isplitl [HO]; · iexact HO
    isplitl [HsndTa11c]; · iexact HsndTa11c
    isplitl [HsPaya11c]; · iexact HsPaya11c
    isplitl [HrAnya11a11]; · iexact HrAnya11a11
    iexact HrcvTb00c
  iintro %_ %_ %_ ⟨HO, Hpenda11c, HsemValdCelltrueb00c0, HyLc01, HsPayb01c⟩
  dsimp only
  iapply (run_bind c)
  iapply (part22 m ρ K c hx hg ho hp hy _ _ _ _ _ _ _) $$ [HO HsndTb01c HsPayb01c HrAnyb01b01 HyLc00 HyLc10]
  · isplitr; · iexact HC
    isplitl [HO]; · iexact HO
    isplitl [HsndTb01c]; · iexact HsndTb01c
    isplitl [HsPayb01c]; · iexact HsPayb01c
    isplitl [HrAnyb01b01]; · iexact HrAnyb01b01
    isplitl [HyLc00]; · iexact HyLc00
    iexact HyLc10
  iintro ⟨HO, Hpendb01c, HyLc00, HyLc10⟩
  iapply (run_bind c)
  iapply (part23 m ρ K c hx hg ho hp hy _ _ _ _) $$ [HO HrcvTa01c]
  · isplitr; · iexact HC
    isplitl [HO]; · iexact HO
    iexact HrcvTa01c
  iintro ⟨HO, HsemValdCelltruea01c0, HyLc06, HsPaya02c⟩
  iapply (run_bind c)
  iapply (part24 m ρ K c hx hg ho hp hy _ _ _ _ _ _) $$ [HO HsndTa02c HsPaya02c HrAnya02a02 HrcvTb11c]
  · isplitr; · iexact HC
    isplitl [HO]; · iexact HO
    isplitl [HsndTa02c]; · iexact HsndTa02c
    isplitl [HsPaya02c]; · iexact HsPaya02c
    isplitl [HrAnya02a02]; · iexact HrAnya02a02
    iexact HrcvTb11c
  iintro %_ %_ ⟨HO, Hpenda02c, HsemValdCelltrueb11c0, HyLc12, HsPayb12c⟩
  dsimp only
  iapply (run_bind c)
  iapply (part25 m ρ K c hx hg ho hp hy _ _ _ _ _ _ _) $$ [HO HsndTb12c HsPayb12c HrAnyb12b12]
  · isplitr; · iexact HC
    isplitl [HO]; · iexact HO
    isplitl [HsndTb12c]; · iexact HsndTb12c
    isplitl [HsPayb12c]; · iexact HsPayb12c
    iexact HrAnyb12b12
  iintro ⟨HO, Hpendb12c⟩
  iapply (run_bind c)
  iapply (part26 m ρ K c hx hg ho hp hy _ _ _ _) $$ [HO HrcvTa11c]
  · isplitr; · iexact HC
    isplitl [HO]; · iexact HO
    iexact HrcvTa11c
  iintro ⟨HO, HsemValdCelltruea11c0, HyLc16, HsPaya12c⟩
  iapply (run_bind c)
  iapply (part27 m ρ K c hx hg ho hp hy _ _ _ _) $$ [HO HsndTa12c HsPaya12c HrAnya12a12 HrcvTb01c]
  · isplitr; · iexact HC
    isplitl [HO]; · iexact HO
    isplitl [HsndTa12c]; · iexact HsndTa12c
    isplitl [HsPaya12c]; · iexact HsPaya12c
    isplitl [HrAnya12a12]; · iexact HrAnya12a12
    iexact HrcvTb01c
  iintro %_ %_ %_ ⟨HO, Hpenda12c, HsemValdCelltrueb01c0, HyLc02, HsPayb02c⟩
  dsimp only
  iapply (run_bind c)
  iapply (part28 m ρ K c hx hg ho hp hy _ _ _ _ _ _ _ _) $$ [HO HsndTb02c HsPayb02c HrAnyb02b02 HyLc07 HyLc17]
  · isplitr; · iexact HC
    isplitl [HO]; · iexact HO
    isplitl [HsndTb02c]; · iexact HsndTb02c
    isplitl [HsPayb02c]; · iexact HsPayb02c
    isplitl [HrAnyb02b02]; · iexact HrAnyb02b02
    isplitl [HyLc07]; · iexact HyLc07
    iexact HyLc17
  iintro %_ %_ %_ ⟨HO, Hpendb02c, HyLc07, HyLc17⟩
  dsimp only
  iapply (run_bind c)
  iapply (part29 m ρ K c hx hg ho hp hy _ _ _ _ _ _ _ _) $$ [HO HyLc01 HyLc11 HrcvTa02c]
  · isplitr; · iexact HC
    isplitl [HO]; · iexact HO
    isplitl [HyLc01]; · iexact HyLc01
    isplitl [HyLc11]; · iexact HyLc11
    iexact HrcvTa02c
  iintro %_ %_ %_ %_ ⟨HO, HyLc01, HyLc11, HsemValdCelltruea02c0, HyLc05, HsPaya03c⟩
  dsimp only
  iapply (run_bind c)
  iapply (part30 m ρ K c hx hg ho hp hy _ _ _ _ _ _ _ _ _) $$ [HO HsndTa03c HsPaya03c HrAnya03a03]
  · isplitr; · iexact HC
    isplitl [HO]; · iexact HO
    isplitl [HsndTa03c]; · iexact HsndTa03c
    isplitl [HsPaya03c]; · iexact HsPaya03c
    iexact HrAnya03a03
  iintro ⟨HO, Hpenda03c⟩
  iapply (run_bind c)
  iapply (part31 m ρ K c hx hg ho hp hy _ _ _ _) $$ [HO HrcvTb12c]
  · isplitr; · iexact HC
    isplitl [HO]; · iexact HO
    iexact HrcvTb12c
  iintro ⟨HO, HsemValdCelltrueb12c0, HyLc13, HsPayb13c⟩
  iapply (run_bind c)
  iapply (part32 m ρ K c hx hg ho hp hy _ _ _ _ _ _) $$ [HO HsndTb13c HsPayb13c HrAnyb13b13 HrcvTa12c HrcvTb02c]
  · isplitr; · iexact HC
    isplitl [HO]; · iexact HO
    isplitl [HsndTb13c]; · iexact HsndTb13c
    isplitl [HsPayb13c]; · iexact HsPayb13c
    isplitl [HrAnyb13b13]; · iexact HrAnyb13b13
    isplitl [HrcvTa12c]; · iexact HrcvTa12c
    iexact HrcvTb02c
  iintro %_ %_ %_ %_ ⟨HO, Hpendb13c, HsemValdCelltruea12c0, HyLc15, HsPaya13c, HsemValdCelltrueb02c0, HyLc03, HsPayb03c⟩
  dsimp only
  iapply (run_bind c)
  iapply (part33 m ρ c hx hg ho hp hy _ _ _ _ _ _) $$ [HyLc06 HyLc16 HyLc02 HyLc12]
  · isplitl [HyLc06]; · iexact HyLc06
    isplitl [HyLc16]; · iexact HyLc16
    isplitl [HyLc02]; · iexact HyLc02
    iexact HyLc12
  iintro %_ %_ %_ %_ ⟨HyLc06, HyLc16, HyLc02, HyLc12⟩
  dsimp only
  iapply (run_bind c)
  iapply (part34 m ρ c hx hg ho hp hy _ _ _ _ _ _ _ _ _) $$ [HyLc05 HyLc15 HyLc03 HyLc13]
  · isplitl [HyLc05]; · iexact HyLc05
    isplitl [HyLc15]; · iexact HyLc15
    isplitl [HyLc03]; · iexact HyLc03
    iexact HyLc13
  iintro ⟨HyLc05, HyLc15, HyLc03, HyLc13⟩
  rw [ss_eq]
  iapply (run_bind c)
  iapply (part35 m ρ K c hx hg ho hp hy _ _) $$ [HO HrcvTa03c HyLc00 HyLc07 HyLc06 HyLc05 HyLc01 HyLc02 HyLc03 Hg HipropfS1024x1024IdxEltFf32oPtscf]
  · isplitr; · iexact HC
    isplitl [HO]; · iexact HO
    isplitl [HrcvTa03c]; · iexact HrcvTa03c
    isplitl [HyLc00]; · iexact HyLc00
    isplitl [HyLc07]; · iexact HyLc07
    isplitl [HyLc06]; · iexact HyLc06
    isplitl [HyLc05]; · iexact HyLc05
    isplitl [HyLc01]; · iexact HyLc01
    isplitl [HyLc02]; · iexact HyLc02
    isplitl [HyLc03]; · iexact HyLc03
    isplitl [Hg]; · iexact Hg
    iexact HipropfS1024x1024IdxEltFf32oPtscf
  iintro %_ %_ ⟨HO, HsemValdCelltruea03c0, HyRc04, HbigSepunivfunoFin8yLc0o, Hg, HipropfS1024x1024IdxEltFf32oPtscoW0foutTopc⟩
  dsimp only
  iapply (run_bind c)
  iapply (part36 m ρ K c hx hg ho hp hy _ _ _ _ _) $$ [HO HrcvTb13c HyLc10 HyLc17 HyLc16 HyLc15 HyLc11 HyLc12 HyLc13 Hg]
  · isplitr; · iexact HC
    isplitl [HO]; · iexact HO
    isplitl [HrcvTb13c]; · iexact HrcvTb13c
    isplitl [HyLc10]; · iexact HyLc10
    isplitl [HyLc17]; · iexact HyLc17
    isplitl [HyLc16]; · iexact HyLc16
    isplitl [HyLc15]; · iexact HyLc15
    isplitl [HyLc11]; · iexact HyLc11
    isplitl [HyLc12]; · iexact HyLc12
    isplitl [HyLc13]; · iexact HyLc13
    iexact Hg
  iintro ⟨HO, HsemValdCelltrueb13c0, HyRc14, HbigSepunivfunoFin8yLc1o, Hg⟩
  dsimp only
  iapply (run_bind c)
  iapply (part37 m ρ K c hx hg ho hp hy) $$ [HO HipropfS1024x1024IdxEltFf32oPtscoW0foutTopc Hpendp00c Hpendp10c Hpendp01c]
  · isplitr; · iexact HC
    isplitl [HO]; · iexact HO
    isplitl [HipropfS1024x1024IdxEltFf32oPtscoW0foutTopc]; · iexact HipropfS1024x1024IdxEltFf32oPtscoW0foutTopc
    isplitl [Hpendp00c]; · iexact Hpendp00c
    isplitl [Hpendp10c]; · iexact Hpendp10c
    iexact Hpendp01c
  iintro ⟨HO, HoPtscoutAtc, HsemValdCellfalsep00c0, HsPayp00c, HsemValdCellfalsep10c0, HsPayp10c, HsemValdCellfalsep01c0, HsPayp01c⟩
  iapply (run_bind c)
  iapply (part38 m ρ K c hx hg ho hp hy) $$ [HO Hpendp11c Hpendp02c Hpendp12c]
  · isplitr; · iexact HC
    isplitl [HO]; · iexact HO
    isplitl [Hpendp11c]; · iexact Hpendp11c
    isplitl [Hpendp02c]; · iexact Hpendp02c
    iexact Hpendp12c
  iintro ⟨HO, HsemValdCellfalsep11c0, HsPayp11c, HsemValdCellfalsep02c0, HsPayp02c, HsemValdCellfalsep12c0, HsPayp12c⟩
  iapply (run_bind c)
  iapply (part39 m ρ K c hx hg ho hp hy) $$ [HO Hpenda00c Hpendb00c Hpendb10c Hpenda10c Hpenda01c]
  · isplitr; · iexact HC
    isplitl [HO]; · iexact HO
    isplitl [Hpenda00c]; · iexact Hpenda00c
    isplitl [Hpendb00c]; · iexact Hpendb00c
    isplitl [Hpendb10c]; · iexact Hpendb10c
    isplitl [Hpenda10c]; · iexact Hpenda10c
    iexact Hpenda01c
  iintro ⟨HO, HsemValdCellfalsea00c0, HsPaya00c, HsemValdCellfalseb00c0, HsPayb00c, HsemValdCellfalseb10c0, HsPayb10c, HsemValdCellfalsea10c0, HsPaya10c, HsemValdCellfalsea01c0, HsPaya01c⟩
  iapply (run_bind c)
  iapply (part40 m ρ K c hx hg ho hp hy) $$ [HO Hpendb11c Hpenda11c Hpendb01c Hpenda02c Hpendb12c]
  · isplitr; · iexact HC
    isplitl [HO]; · iexact HO
    isplitl [Hpendb11c]; · iexact Hpendb11c
    isplitl [Hpenda11c]; · iexact Hpenda11c
    isplitl [Hpendb01c]; · iexact Hpendb01c
    isplitl [Hpenda02c]; · iexact Hpenda02c
    iexact Hpendb12c
  iintro ⟨HO, HsemValdCellfalseb11c0, HsPayb11c, HsemValdCellfalsea11c0, HsPaya11c, HsemValdCellfalseb01c0, HsPayb01c, HsemValdCellfalsea02c0, HsPaya02c, HsemValdCellfalseb12c0, HsPayb12c⟩
  icases Hpenda12c with ⟨Hpos, Hcr⟩
  iapply (wp_got m ρ K c false (.a 1 2) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCellfalsea12c0, HO⟩
  ihave HsPaya12c := (back_s m ρ c (.a 1 2)) $$ Hpay
  icases Hpendb02c with ⟨Hpos, Hcr⟩
  iapply (wp_got m ρ K c false (.b 0 2) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCellfalseb02c0, HO⟩
  ihave HsPayb02c := (back_s m ρ c (.b 0 2)) $$ Hpay
  iapply (run_ret c)
  icases Hpenda03c with ⟨Hpos, Hcr⟩
  iapply (wp_got m ρ K c false (.a 0 3) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCellfalsea03c0, HO⟩
  ihave HsPaya03c := (back_s m ρ c (.a 0 3)) $$ Hpay
  icases Hpendb13c with ⟨Hpos, Hcr⟩
  iapply (wp_got m ρ K c false (.b 1 3) (by decide) o24 (by decide) rfl (yWin_credit _ _)) $$ [HO Hpos Hcr]
  · isplitr; · iexact HC
    isplitl [HO]; · iexact HO
    isplitl [Hpos]; · iexact Hpos
    iexact Hcr
  iintro ⟨Hpay, HsemValdCellfalseb13c0, HO⟩
  ihave HsPayb13c := (back_s m ρ c (.b 1 3)) $$ Hpay
  iapply (run_ret c)
  iapply Hk
  isplitl [HO]; · iexact HO
  isplitl [HsemValbarCellc0]; · iexact HsemValbarCellc0
  isplitl [HsemValdCelltruep00c0]; · iexact HsemValdCelltruep00c0
  isplitl [HpPtsc00lPAc]; · iexact HpPtsc00lPAc
  isplitl [HsemValdCelltruep10c0]; · iexact HsemValdCelltruep10c0
  isplitl [HpPtsc10lPAc]; · iexact HpPtsc10lPAc
  isplitl [HsemValdCelltruep01c0]; · iexact HsemValdCelltruep01c0
  isplitl [HpPtsc01lPAc]; · iexact HpPtsc01lPAc
  isplitl [HsemValdCelltruep11c0]; · iexact HsemValdCelltruep11c0
  isplitl [HpPtsc11lPAc]; · iexact HpPtsc11lPAc
  isplitl [HsemValxyCellc0]; · iexact HsemValxyCellc0
  isplitl [HsemValdCelltruep02c0]; · iexact HsemValdCelltruep02c0
  isplitl [HpPtsc02PRc]; · iexact HpPtsc02PRc
  isplitl [HsemValdCelltruep12c0]; · iexact HsemValdCelltruep12c0
  isplitl [Hx]; · iexact Hx
  isplitl [HpPtsc12PRc]; · iexact HpPtsc12PRc
  isplitl [HsemValdCelltruea00c0]; · iexact HsemValdCelltruea00c0
  isplitl [HsemValdCelltrueb10c0]; · iexact HsemValdCelltrueb10c0
  isplitl [HsemValdCelltruea10c0]; · iexact HsemValdCelltruea10c0
  isplitl [HsemValdCelltrueb00c0]; · iexact HsemValdCelltrueb00c0
  isplitl [HsemValdCelltruea01c0]; · iexact HsemValdCelltruea01c0
  isplitl [HsemValdCelltrueb11c0]; · iexact HsemValdCelltrueb11c0
  isplitl [HsemValdCelltruea11c0]; · iexact HsemValdCelltruea11c0
  isplitl [HsemValdCelltrueb01c0]; · iexact HsemValdCelltrueb01c0
  isplitl [HsemValdCelltruea02c0]; · iexact HsemValdCelltruea02c0
  isplitl [HsemValdCelltrueb12c0]; · iexact HsemValdCelltrueb12c0
  isplitl [HsemValdCelltruea12c0]; · iexact HsemValdCelltruea12c0
  isplitl [HsPaya13c]; · iexact HsPaya13c
  isplitl [HsemValdCelltrueb02c0]; · iexact HsemValdCelltrueb02c0
  isplitl [HsPayb03c]; · iexact HsPayb03c
  isplitl [HsemValdCelltruea03c0]; · iexact HsemValdCelltruea03c0
  isplitl [HyRc04]; · iexact HyRc04
  isplitl [HbigSepunivfunoFin8yLc0o]; · iexact HbigSepunivfunoFin8yLc0o
  isplitl [HsemValdCelltrueb13c0]; · iexact HsemValdCelltrueb13c0
  isplitl [HyRc14]; · iexact HyRc14
  isplitl [HbigSepunivfunoFin8yLc1o]; · iexact HbigSepunivfunoFin8yLc1o
  isplitl [Hg]; · iexact Hg
  isplitl [HoPtscoutAtc]; · iexact HoPtscoutAtc
  isplitl [HsemValdCellfalsep00c0]; · iexact HsemValdCellfalsep00c0
  isplitl [HsPayp00c]; · iexact HsPayp00c
  isplitl [HsemValdCellfalsep10c0]; · iexact HsemValdCellfalsep10c0
  isplitl [HsPayp10c]; · iexact HsPayp10c
  isplitl [HsemValdCellfalsep01c0]; · iexact HsemValdCellfalsep01c0
  isplitl [HsPayp01c]; · iexact HsPayp01c
  isplitl [HsemValdCellfalsep11c0]; · iexact HsemValdCellfalsep11c0
  isplitl [HsPayp11c]; · iexact HsPayp11c
  isplitl [HsemValdCellfalsep02c0]; · iexact HsemValdCellfalsep02c0
  isplitl [HsPayp02c]; · iexact HsPayp02c
  isplitl [HsemValdCellfalsep12c0]; · iexact HsemValdCellfalsep12c0
  isplitl [HsPayp12c]; · iexact HsPayp12c
  isplitl [HsemValdCellfalsea00c0]; · iexact HsemValdCellfalsea00c0
  isplitl [HsPaya00c]; · iexact HsPaya00c
  isplitl [HsemValdCellfalseb00c0]; · iexact HsemValdCellfalseb00c0
  isplitl [HsPayb00c]; · iexact HsPayb00c
  isplitl [HsemValdCellfalseb10c0]; · iexact HsemValdCellfalseb10c0
  isplitl [HsPayb10c]; · iexact HsPayb10c
  isplitl [HsemValdCellfalsea10c0]; · iexact HsemValdCellfalsea10c0
  isplitl [HsPaya10c]; · iexact HsPaya10c
  isplitl [HsemValdCellfalsea01c0]; · iexact HsemValdCellfalsea01c0
  isplitl [HsPaya01c]; · iexact HsPaya01c
  isplitl [HsemValdCellfalseb11c0]; · iexact HsemValdCellfalseb11c0
  isplitl [HsPayb11c]; · iexact HsPayb11c
  isplitl [HsemValdCellfalsea11c0]; · iexact HsemValdCellfalsea11c0
  isplitl [HsPaya11c]; · iexact HsPaya11c
  isplitl [HsemValdCellfalseb01c0]; · iexact HsemValdCellfalseb01c0
  isplitl [HsPayb01c]; · iexact HsPayb01c
  isplitl [HsemValdCellfalsea02c0]; · iexact HsemValdCellfalsea02c0
  isplitl [HsPaya02c]; · iexact HsPaya02c
  isplitl [HsemValdCellfalseb12c0]; · iexact HsemValdCellfalseb12c0
  isplitl [HsPayb12c]; · iexact HsPayb12c
  isplitl [HsemValdCellfalsea12c0]; · iexact HsemValdCellfalsea12c0
  isplitl [HsPaya12c]; · iexact HsPaya12c
  isplitl [HsemValdCellfalseb02c0]; · iexact HsemValdCellfalseb02c0
  isplitl [HsPayb02c]; · iexact HsPayb02c
  isplitl [HsemValdCellfalsea03c0]; · iexact HsemValdCellfalsea03c0
  isplitl [HsPaya03c]; · iexact HsPaya03c
  isplitl [HsemValdCellfalseb13c0]; · iexact HsemValdCellfalseb13c0
  iexact HsPayb13c

end Cert.Fused
end
-- ==== Proof.Regroup.lean ====
/-
# A device's whole buffers, in and out of the blocks they are handed over as

The body's run speaks of blocks, of tokens and of counters one by one. Here they are gathered: whole buffers, and families
over the transfers and over the cells.
-/
module

public import proofs.«01_k».proof.Proof.Body

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over the cells -/

theorem bigSep_tr (Φ : Tr → sProp 𝕄) : bigSep Finset.univ Φ = iprop(Φ (.p 0 0) ∗ Φ (.p 1 0) ∗ Φ (.p 0 1) ∗ Φ (.p 1 1) ∗ Φ (.p 0 2) ∗ Φ (.p 1 2) ∗ Φ (.a 0 0) ∗ Φ (.a 1 0) ∗ Φ (.a 0 1) ∗ Φ (.a 1 1) ∗ Φ (.a 0 2) ∗ Φ (.a 1 2) ∗ Φ (.a 0 3) ∗ Φ (.b 0 0) ∗ Φ (.b 1 0) ∗ Φ (.b 0 1) ∗ Φ (.b 1 1) ∗ Φ (.b 0 2) ∗ Φ (.b 1 2) ∗ Φ (.b 1 3) ∗ Φ (.a 1 3) ∗ Φ (.b 0 3)) :=
  bigSep_univ_eq_bigSepL trs (by decide) trs_nodup Φ
theorem bigSep_live (Φ : Tr → sProp 𝕄) : bigSep Finset.univ Φ ⊢ iprop(Φ (.p 0 0) ∗ Φ (.p 1 0) ∗ Φ (.p 0 1) ∗ Φ (.p 1 1) ∗ Φ (.p 0 2) ∗ Φ (.p 1 2) ∗ Φ (.a 0 0) ∗ Φ (.a 1 0) ∗ Φ (.a 0 1) ∗ Φ (.a 1 1) ∗ Φ (.a 0 2) ∗ Φ (.a 1 2) ∗ Φ (.a 0 3) ∗ Φ (.b 0 0) ∗ Φ (.b 1 0) ∗ Φ (.b 0 1) ∗ Φ (.b 1 1) ∗ Φ (.b 0 2) ∗ Φ (.b 1 2) ∗ Φ (.b 1 3)) := by
  rw [bigSep_tr]
  iintro ⟨Hp00, Hp10, Hp01, Hp11, Hp02, Hp12, Ha00, Ha10, Ha01, Ha11, Ha02, Ha12, Ha03, Hb00, Hb10, Hb01, Hb11, Hb02, Hb12, Hb13, -, -⟩
  isplitl [Hp00]; · iexact Hp00
  isplitl [Hp10]; · iexact Hp10
  isplitl [Hp01]; · iexact Hp01
  isplitl [Hp11]; · iexact Hp11
  isplitl [Hp02]; · iexact Hp02
  isplitl [Hp12]; · iexact Hp12
  isplitl [Ha00]; · iexact Ha00
  isplitl [Ha10]; · iexact Ha10
  isplitl [Ha01]; · iexact Ha01
  isplitl [Ha11]; · iexact Ha11
  isplitl [Ha02]; · iexact Ha02
  isplitl [Ha12]; · iexact Ha12
  isplitl [Ha03]; · iexact Ha03
  isplitl [Hb00]; · iexact Hb00
  isplitl [Hb10]; · iexact Hb10
  isplitl [Hb01]; · iexact Hb01
  isplitl [Hb11]; · iexact Hb11
  isplitl [Hb02]; · iexact Hb02
  isplitl [Hb12]; · iexact Hb12
  iexact Hb13
theorem bigSep_bool (Φ : Bool → sProp 𝕄) : bigSep Finset.univ Φ = iprop(Φ false ∗ Φ true) :=
  bigSep_univ_eq_bigSepL [false, true] (by decide) (by decide) Φ
theorem bigSep_sem (Φ : Sem sig → sProp 𝕄) : bigSep Finset.univ Φ = iprop(Φ barS ∗ Φ xyS) :=
  bigSep_univ_eq_bigSepL [barS, xyS] (by decide) (by decide) Φ
/-- A family over a device's cells: the two handshakes, then each transfer's two sides. -/
theorem bigSep_cx (Φ : Cx → sProp 𝕄) : bigSep Finset.univ Φ
    = iprop((Φ (.inl barS) ∗ Φ (.inl xyS)) ∗ (bigSep Finset.univ fun k => Φ (.inr (false, k))) ∗ (bigSep Finset.univ fun k => Φ (.inr (true, k)))) := by
  rw [BI.bigSep_univ_sum, bigSep_sem, bigSep_univ_prod, bigSep_bool]; rfl

/-! ## The first phase's buffer -/

variable (c : Dev nD)

theorem pSet_disj (x y : Fin 2 × Fin 3) (h : x ≠ y) : Disjoint (pSet x.1 x.2) (pSet y.1 y.2) := by
  refine Finset.disjoint_left.mpr fun i hi hi' => h ?_
  rw [mem_pSet] at hi hi'
  exact Prod.ext (Fin.ext (hi.2.symm.trans hi'.2)) (Fin.ext (hi.1.symm.trans hi'.1))
theorem pSet_cover [DecidableEq (Idx (pLoc c))] : (Finset.univ.biUnion fun x : Fin 2 × Fin 3 => (pSet x.1 x.2 : Finset (Idx (pLoc c)))) = Finset.univ := by
  ext i
  refine ⟨fun _ => Finset.mem_univ _, fun _ => Finset.mem_biUnion.mpr ?_⟩
  have h0 : (i 0).val < 3 := (i 0).isLt
  have h1 : (i 1).val < 1024 := (i 1).isLt
  exact ⟨(⟨(i 1).val / 512, by omega⟩, ⟨(i 0).val, h0⟩), Finset.mem_univ _, mem_pSet.mpr ⟨rfl, rfl⟩⟩
theorem bigSep_slots (Φ : Fin 2 × Fin 3 → sProp 𝕄) : bigSep Finset.univ Φ = iprop(Φ (0, 0) ∗ Φ (1, 0) ∗ Φ (0, 1) ∗ Φ (1, 1) ∗ Φ (0, 2) ∗ Φ (1, 2)) :=
  bigSep_univ_eq_bigSepL [(0, 0), (1, 0), (0, 1), (1, 1), (0, 2), (1, 2)] (by decide) (by decide) Φ
theorem p_blocks (f : S3x1024x128.Idx → Elt F .f32) :
    (pLoc c ↦{fullShare} f : sProp 𝕄) = bigSep Finset.univ fun x : Fin 2 × Fin 3 => pPts c x.1 x.2 fullShare f := by
  unfold pPts
  have h := (pointsTo_biUnion (ℓ := pLoc c) (q := fullShare) (f := f) Finset.univ (fun x : Fin 2 × Fin 3 => (pSet x.1 x.2 : Finset (Idx (pLoc c))))
    (fun x _ y _ h => pSet_disj x y h) : (_ : sProp 𝕄) = _)
  rw [pSet_cover] at h
  exact h
theorem p_join (f₀ : S3x1024x128.Idx → Elt F .f32) : (bigSep Finset.univ fun x : Fin 2 × Fin 3 => iprop(∃ f, pPts c x.1 x.2 fullShare f) : sProp 𝕄)
    ⊢ iprop(∃ f : S3x1024x128.Idx → Elt F .f32, pLoc c ↦{fullShare} f) := by
  haveI hn : Nonempty (S3x1024x128.Idx → Elt F .f32) := ⟨f₀⟩
  refine (BI.bigSep_exists_pi (Y := fun _ => S3x1024x128.Idx → Elt F .f32) Finset.univ (fun (x : Fin 2 × Fin 3) f => (pPts c x.1 x.2 fullShare f : sProp 𝕄))).trans ?_
  iintro ⟨%f, H⟩
  have h := (pointsTo_biUnion_join (ℓ := pLoc c) (q := fullShare) Finset.univ (fun x : Fin 2 × Fin 3 => (pSet x.1 x.2 : Finset (Idx (pLoc c)))) f f₀
    (fun x _ y _ h => pSet_disj x y h) : (_ : sProp 𝕄) ⊢ _)
  rw [pSet_cover] at h
  ihave H' := h $$ [H]
  · unfold pPts; iexact H
  icases H' with ⟨%g, -, H'⟩
  iexists g; iexact H'

/-- Handing the whole buffer to the device below. -/
theorem p_hand : (iprop(∃ f : S3x1024x128.Idx → Elt F .f32, pLoc c ↦{fullShare} f) : sProp 𝕄) ⊢ hand (F := F) pL (zl c) := by
  show _ ⊢ bigSepL pL fun k => rAny (F := F) k (dst (zl c) k)
  have e : (bigSepL pL fun k => rAny (F := F) k (dst (zl c) k)) = (bigSep Finset.univ fun x : Fin 2 × Fin 3 => rAny (F := F) (.p x.1 x.2) c : sProp 𝕄) := by
    rw [bigSep_slots]
    show iprop(rAny (F := F) (.p 0 0) (zr (zl c)) ∗ rAny (F := F) (.p 1 0) (zr (zl c)) ∗ rAny (F := F) (.p 0 1) (zr (zl c)) ∗ rAny (F := F) (.p 1 1) (zr (zl c))
      ∗ rAny (F := F) (.p 0 2) (zr (zl c)) ∗ rAny (F := F) (.p 1 2) (zr (zl c))) = _
    rw [zr_zl]
  rw [e]
  iintro ⟨%f, H⟩
  ihave H := (Entails.of_eq (p_blocks c f)) $$ H
  have h : (bigSep Finset.univ fun x : Fin 2 × Fin 3 => pPts c x.1 x.2 fullShare f : sProp 𝕄) ⊢ bigSep Finset.univ fun x : Fin 2 × Fin 3 => rAny (F := F) (.p x.1 x.2) c :=
    bigSep_mono fun x _ => by
      show _ ⊢ iprop(∃ f, pPts c x.1 x.2 fullShare f)
      iintro H; iexists f; iexact H
  iapply h; iexact H

/-! ## The gathered rows -/

theorem bigSep_places (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem rowSet_disj : Disjoint (rowSet 0) (rowSet 1) := by
  refine Finset.disjoint_left.mpr fun i hi hi' => ?_
  have h := (Finset.mem_filter.mp hi).2
  rw [(Finset.mem_filter.mp hi').2] at h
  exact absurd h (by decide)
theorem rowSet_cover [DecidableEq (Idx (yLoc c))] : ((rowSet 0 ∪ rowSet 1 : Finset S1024x1024.Idx) : Finset (Idx (yLoc c))) = Finset.univ := by
  ext i
  refine ⟨fun _ => Finset.mem_univ _, fun _ => ?_⟩
  have h1 : (i 0).val < 1024 := (i 0).isLt
  show i ∈ (rowSet 0 ∪ rowSet 1 : Finset S1024x1024.Idx)
  rw [Finset.mem_union]
  rcases Nat.lt_or_ge (i 0).val 512 with h | h
  · exact .inl (Finset.mem_filter.mpr ⟨Finset.mem_univ _, by show (i 0).val / 512 = 0; omega⟩)
  · exact .inr (Finset.mem_filter.mpr ⟨Finset.mem_univ _, by show (i 0).val / 512 = 1; omega⟩)
theorem y_rows (f : S1024x1024.Idx → Elt F .f32) :
    (yLoc c ↦{fullShare} f : sProp 𝕄) ⊣⊢ iprop((bigSep Finset.univ fun o : Fin 8 => yPts c 0 (pos c + o) fullShare f) ∗ (bigSep Finset.univ fun o : Fin 8 => yPts c 1 (pos c + o) fullShare f)) := by
  rw [rows_eq, rows_eq]
  have h := (pointsTo_union (ℓ := yLoc c) (q := fullShare) (f := f) (I := rowSet 0) (J := rowSet 1) rowSet_disj : (_ : sProp 𝕄) ⊣⊢ _)
  rw [rowSet_cover] at h
  exact h

/-- The own blocks, and what the two ring neighbours are handed. -/
theorem y_hand : (iprop(∃ f : S1024x1024.Idx → Elt F .f32, yLoc c ↦{fullShare} f) : sProp 𝕄)
    ⊢ iprop((∃ f : S1024x1024.Idx → Elt F .f32, yPts c 0 (pos c) fullShare f) ∗ (∃ f : S1024x1024.Idx → Elt F .f32, yPts c 1 (pos c) fullShare f)
        ∗ hand (F := F) bL (cw c) ∗ hand (F := F) aL (ccw c)) := by
  have ha (t : Fin 2) (h : Fin 4) (f : S1024x1024.Idx → Elt F .f32) : (yPts c t (pos c + aO h) fullShare f : sProp 𝕄) ⊢ rAny (F := F) (.a t h) (cw (ccw c)) := by
    rw [cw_ccw, ← aq_off]
    show _ ⊢ iprop(∃ f, yPts c t (aq (pos c + 7) h) fullShare f)
    iintro H; iexists f; iexact H
  have hb (t : Fin 2) (h : Fin 4) (f : S1024x1024.Idx → Elt F .f32) : (yPts c t (pos c + bO h) fullShare f : sProp 𝕄) ⊢ rAny (F := F) (.b t h) (ccw (cw c)) := by
    rw [ccw_cw, ← bq_off]
    show _ ⊢ iprop(∃ f, yPts c t (bq (pos c + 1) h) fullShare f)
    iintro H; iexists f; iexact H
  have h0 (t : Fin 2) (f : S1024x1024.Idx → Elt F .f32) : (yPts c t (pos c + 0) fullShare f : sProp 𝕄) ⊢ iprop(∃ f : S1024x1024.Idx → Elt F .f32, yPts c t (pos c) fullShare f) := by
    rw [show pos c + 0 = pos c from by generalize pos c = p; revert p; decide]
    iintro H; iexists f; iexact H
  iintro ⟨%f, H⟩
  ihave H := (y_rows c f).1 $$ H
  rw [bigSep_places, bigSep_places]
  icases H with ⟨⟨P0, P1, P2, P3, P4, P5, P6, P7⟩, Q0, Q1, Q2, Q3, Q4, Q5, Q6, Q7⟩
  isplitl [P0]; · iapply (h0 0 f); iexact P0
  isplitl [Q0]; · iapply (h0 1 f); iexact Q0
  isplitl [P1 P2 P3 Q1 Q2 Q3 Q4]
  · iapply (hand_b (cw c)).2
    isplitl [P1]; · iapply (hb 0 0 f); iexact P1
    isplitl [Q1]; · iapply (hb 1 0 f); iexact Q1
    isplitl [P2]; · iapply (hb 0 1 f); iexact P2
    isplitl [Q2]; · iapply (hb 1 1 f); iexact Q2
    isplitl [P3]; · iapply (hb 0 2 f); iexact P3
    isplitl [Q3]; · iapply (hb 1 2 f); iexact Q3
    iapply (hb 1 3 f); iexact Q4
  · iapply (hand_a (ccw c)).2
    isplitl [P7]; · iapply (ha 0 0 f); iexact P7
    isplitl [Q7]; · iapply (ha 1 0 f); iexact Q7
    isplitl [P6]; · iapply (ha 0 1 f); iexact P6
    isplitl [Q6]; · iapply (ha 1 1 f); iexact Q6
    isplitl [P5]; · iapply (ha 0 2 f); iexact P5
    isplitl [Q5]; · iapply (ha 1 2 f); iexact Q5
    iapply (ha 0 3 f); iexact P4

/-- The blocks lent round the ring and the parts kept make up the buffer again. -/
theorem y_back : iprop((sPay m ρ (.a 0 0) c ∗ sPay m ρ (.b 0 0) c ∗ sPay m ρ (.b 0 1) c ∗ sPay m ρ (.b 0 2) c ∗ sPay m ρ (.b 0 3) c ∗ yR m ρ c 0 4
        ∗ sPay m ρ (.a 0 3) c ∗ sPay m ρ (.a 0 2) c ∗ sPay m ρ (.a 0 1) c)
      ∗ (sPay m ρ (.a 1 0) c ∗ sPay m ρ (.b 1 0) c ∗ sPay m ρ (.b 1 1) c ∗ sPay m ρ (.b 1 2) c ∗ sPay m ρ (.b 1 3) c ∗ yR m ρ c 1 4
        ∗ sPay m ρ (.a 1 3) c ∗ sPay m ρ (.a 1 2) c ∗ sPay m ρ (.a 1 1) c)
      ∗ (bigSep Finset.univ fun o : Fin 8 => yL m ρ c 0 o) ∗ (bigSep Finset.univ fun o : Fin 8 => yL m ρ c 1 o))
    ⊢ iprop(∃ f : S1024x1024.Idx → Elt F .f32, yLoc c ↦{fullShare} f) := by
  have hr (t : Fin 2) : iprop(sPay m ρ (.a t 0) c ∗ sPay m ρ (.b t 0) c ∗ sPay m ρ (.b t 1) c ∗ sPay m ρ (.b t 2) c ∗ sPay m ρ (.b t 3) c ∗ yR m ρ c t 4
        ∗ sPay m ρ (.a t 3) c ∗ sPay m ρ (.a t 2) c ∗ sPay m ρ (.a t 1) c) ⊢ (bigSep Finset.univ fun o : Fin 8 => yR m ρ c t o) := by
    rw [bigSep_places, sPay_b m ρ c t 0 1 rfl, sPay_b m ρ c t 1 2 rfl, sPay_b m ρ c t 2 3 rfl, sPay_a m ρ c t 0 1 rfl, sPay_a m ρ c t 1 2 rfl, sPay_a m ρ c t 2 3 rfl]
    iintro ⟨H0, H0', H1, H2, H3, H4, H5, H6, H7⟩
    isplitl [H0 H0']
    · iapply (own_lent m ρ c t).2
      isplitl [H0] <;> iassumption
    isplitl [H1]; · iexact H1
    isplitl [H2]; · iexact H2
    isplitl [H3]; · iexact H3
    isplitl [H4]; · iexact H4
    isplitl [H5]; · iexact H5
    isplitl [H6]; · iexact H6
    iexact H7
  have hj (t : Fin 2) : iprop((bigSep Finset.univ fun o : Fin 8 => yL m ρ c t o) ∗ (bigSep Finset.univ fun o : Fin 8 => yR m ρ c t o))
      ⊢ (bigSep Finset.univ fun o : Fin 8 => yPts c t (pos c + o) fullShare (Y m ρ c)) := by
    rw [← bigSep_sep']
    exact bigSep_mono fun o _ => (pointsTo_share (PosShare.mem_left_op_right _)).2
  iintro ⟨H0, H1, HL0, HL1⟩
  ihave H0 := (hr 0) $$ H0
  ihave H1 := (hr 1) $$ H1
  ihave H0 := (hj 0) $$ [HL0 H0]
  · isplitl [HL0] <;> iassumption
  ihave H1 := (hj 1) $$ [HL1 H1]
  · isplitl [HL1] <;> iassumption
  iexists (Y m ρ c)
  iapply (y_rows c (Y m ρ c)).2
  isplitl [H0] <;> iassumption

/-- The slots and the shares lent of them make up the first phase's buffer again. -/
theorem p_back : iprop((pPts c 0 0 fullShare.left (PA m ρ c) ∗ sPay m ρ (.p 0 1) c) ∗ (pPts c 1 0 fullShare.left (PA m ρ c) ∗ sPay m ρ (.p 1 1) c)
      ∗ (pPts c 0 1 fullShare.left (PA m ρ c) ∗ sPay m ρ (.p 0 2) c) ∗ (pPts c 1 1 fullShare.left (PA m ρ c) ∗ sPay m ρ (.p 1 2) c)
      ∗ pPts c 0 2 fullShare (PR m ρ c) ∗ pPts c 1 2 fullShare (PR m ρ c))
    ⊢ iprop(∃ f : S3x1024x128.Idx → Elt F .f32, pLoc c ↦{fullShare} f) := by
  refine BIBase.Entails.trans ?_ (p_join c (PR m ρ c))
  rw [bigSep_slots]
  iintro ⟨H00, H10, H01, H11, H02, H12⟩
  isplitl [H00]; · iexists (PA m ρ c); iapply (split_p m ρ c 0 0 1 rfl).2; iexact H00
  isplitl [H10]; · iexists (PA m ρ c); iapply (split_p m ρ c 1 0 1 rfl).2; iexact H10
  isplitl [H01]; · iexists (PA m ρ c); iapply (split_p m ρ c 0 1 2 rfl).2; iexact H01
  isplitl [H11]; · iexists (PA m ρ c); iapply (split_p m ρ c 1 1 2 rfl).2; iexact H11
  isplitl [H02]; · iexists (PR m ρ c); iexact H02
  iexists (PR m ρ c); iexact H12

/-! ## The partial sums -/

/-- The elements of no block that is lent. -/
def xRest : Finset S1x4096x1024.Idx := (Finset.univ \ xSet (zf c + 3) 0 (pos c)) \ xSet (zf c + 3) 1 (pos c)
theorem x_split : (xLoc c ↦{fullShare} xstg m ρ c : sProp 𝕄)
    ⊣⊢ iprop(xPts m ρ c Finset.univ fullShare.left ∗ sPay m ρ (.p 0 0) c ∗ sPay m ρ (.p 1 0) c ∗ xPts m ρ c (xRest c) fullShare.right) := by
  show _ ⊣⊢ iprop(xPts m ρ c Finset.univ fullShare.left ∗ xPts m ρ c (xSet (zf c + 3) 0 (pos c)) fullShare.right
    ∗ xPts m ρ c (xSet (zf c + 3) 1 (pos c)) fullShare.right ∗ xPts m ρ c (xRest c) fullShare.right)
  have hd : xSet (zf c + 3) 1 (pos c) ⊆ Finset.univ \ xSet (zf c + 3) 0 (pos c) := by
    intro i hi
    refine Finset.mem_sdiff.mpr ⟨Finset.mem_univ _, fun hi' => ?_⟩
    have h := (mem_xSet.mp hi).1
    rw [(mem_xSet.mp hi').1] at h
    have : 2 * (zf c + 3).val + 0 = 2 * (zf c + 3).val + 1 := h
    omega
  unfold xPts xRest
  have h1 := (pointsTo_share (ℓ := xLoc c) (I := Finset.univ) (f := xstg m ρ c) (PosShare.mem_left_op_right fullShare) : (_ : sProp 𝕄) ⊣⊢ _)
  have h2 := (pointsTo_split_subset (ℓ := xLoc c) (q := fullShare.right) (f := xstg m ρ c) (Finset.subset_univ (xSet (zf c + 3) 0 (pos c))) : (_ : sProp 𝕄) ⊣⊢ _)
  have h3 := (pointsTo_split_subset (ℓ := xLoc c) (q := fullShare.right) (f := xstg m ρ c) hd : (_ : sProp 𝕄) ⊣⊢ _)
  constructor
  · iintro H
    ihave H := h1.1 $$ H
    icases H with ⟨HL, HR⟩
    isplitl [HL]; · iexact HL
    ihave HR := h2.1 $$ HR
    icases HR with ⟨H0, HR⟩
    isplitl [H0]; · iexact H0
    iapply h3.1; iexact HR
  · iintro ⟨HL, H0, HR⟩
    iapply h1.2
    isplitl [HL]; · iexact HL
    iapply h2.2
    isplitl [H0]; · iexact H0
    iapply h3.2; iexact HR

/-! ## The body, from whole buffers to whole buffers -/

/-- The tokens of the payments a device makes, its places in its own cells, and its credits. -/
def payToks : sProp 𝕄 :=
  iprop(dutyTok ER (barCell (zl c)) 0 true ∗ dutyTok ER (barCell (zr c)) 0 false ∗ dutyTok ER (xyCell (cw c)) 0 false ∗ dutyTok ER (xyCell (ccw c)) 0 true
    ∗ bigSep Finset.univ fun k : Tr => sendT k c)
def places : sProp 𝕄 := bigSep Finset.univ fun x : Cx => atPos ER (kcell (c, x)) 0 ∅ 0
def credits : sProp 𝕄 :=
  iprop(cred (tallyAt (barCell c) () 2) ∗ cred (tallyAt (xyCell c) () 2) ∗ credT true (.p 0 0) c ∗ credT true (.p 1 0) c ∗ credT true (.p 0 1) c ∗ credT true (.p 1 1) c ∗ credT true (.p 0 2) c ∗ credT true (.p 1 2) c ∗ credT true (.a 0 0) c ∗ credT true (.a 1 0) c ∗ credT true (.a 0 1) c ∗ credT true (.a 1 1) c ∗ credT true (.a 0 2) c ∗ credT true (.a 1 2) c ∗ credT true (.a 0 3) c ∗ credT true (.b 0 0) c ∗ credT true (.b 1 0) c ∗ credT true (.b 0 1) c ∗ credT true (.b 1 1) c ∗ credT true (.b 0 2) c ∗ credT true (.b 1 2) c ∗ credT true (.b 1 3) c)
def pAny : sProp 𝕄 := iprop(∃ f : S3x1024x128.Idx → Elt F .f32, pLoc c ↦{fullShare} f)
def yAny : sProp 𝕄 := iprop(∃ f : S1024x1024.Idx → Elt F .f32, yLoc c ↦{fullShare} f)
def oAny : sProp 𝕄 := iprop(∃ f : S1024x1024.Idx → Elt F .f32, oPts c f)
def xAll : sProp 𝕄 := xLoc c ↦{fullShare} xstg m ρ c
def sems0 : sProp 𝕄 := bigSep Finset.univ fun x : Cx => semVal (kcell (c, x)) 0

variable (K : Dev nD × Cx → ℕ)
variable (hx : xM.IsWhole) (hg : gM.IsWhole) (ho : oM.IsWhole) (hp : pM.IsWhole) (hy : yM.IsWhole)

set_option maxHeartbeats 2000000 in
theorem body_whole {Q : PUnit → sProp 𝕄} :
    iprop(ctx m ρ K ∗ owesE c o0 ∗ payToks c ∗ places c ∗ credits c ∗ pAny c ∗ yAny c ∗ xAll m ρ c ∗ gPts m ρ c ∗ oAny c)
      ⊢ iprop(((owesE c [] ∗ sems0 c ∗ pAny c ∗ yAny c ∗ xAll m ρ c ∗ gPts m ρ c ∗ oPts c (outAt m ρ c)) -∗ Q ⟨⟩)
        -∗ run c (cc0_body xM hx gM hg oM ho pM hp yM hy cc0_scratch2 cc0_scratch3 cc0_scratch4 cc0_scratch5 cc0_scratch6 cc0_scratch7 cc0_scratch8) Q) := by
  unfold payToks places credits pAny yAny oAny xAll sems0
  rw [bigSep_cx (fun x : Cx => (atPos ER (kcell (c, x)) 0 ∅ 0 : sProp 𝕄)), bigSep_tr, bigSep_tr, bigSep_tr]
  iintro ⟨#HC, HO, ⟨T1, T2, T3, T4, Sp00, Sp10, Sp01, Sp11, Sp02, Sp12, Sa00, Sa10, Sa01, Sa11, Sa02, Sa12, Sa03, Sb00, Sb10, Sb01, Sb11, Sb02, Sb12, Sb13, Sa13, Sb03⟩, ⟨⟨AB, AX⟩, ⟨Fp00, Fp10, Fp01, Fp11, Fp02, Fp12, Fa00, Fa10, Fa01, Fa11, Fa02, Fa12, Fa03, Fb00, Fb10, Fb01, Fb11, Fb02, Fb12, Fb13, Fa13, Fb03⟩, Rp00, Rp10, Rp01, Rp11, Rp02, Rp12, Ra00, Ra10, Ra01, Ra11, Ra02, Ra12, Ra03, Rb00, Rb10, Rb01, Rb11, Rb02, Rb12, Rb13, Ra13, Rb03⟩, ⟨CB, CX, Cp00, Cp10, Cp01, Cp11, Cp02, Cp12, Ca00, Ca10, Ca01, Ca11, Ca02, Ca12, Ca03, Cb00, Cb10, Cb01, Cb11, Cb02, Cb12, Cb13⟩, HP, HY, HX, HG, HOu⟩ Hk
  ihave HP := (p_hand c) $$ HP
  ihave HY := (y_hand c) $$ HY
  icases HY with ⟨Y0, Y1, HYb, HYa⟩
  ihave HX := (x_split m ρ c).1 $$ HX
  icases HX with ⟨XL, X0, X1, XR⟩
  imod (close_dead m ρ K c false (.a 1 3) (by decide)) $$ [Fa13] with Fa13
  · isplitr; · iexact HC
    unfold posT; iexact Fa13
  imod (close_dead m ρ K c true (.a 1 3) (by decide)) $$ [Ra13] with Ra13
  · isplitr; · iexact HC
    unfold posT; iexact Ra13
  imod (close_dead m ρ K c false (.b 0 3) (by decide)) $$ [Fb03] with Fb03
  · isplitr; · iexact HC
    unfold posT; iexact Fb03
  imod (close_dead m ρ K c true (.b 0 3) (by decide)) $$ [Rb03] with Rb03
  · isplitr; · iexact HC
    unfold posT; iexact Rb03
  iapply (body_run m ρ K c hx hg ho hp hy) $$ [HO T1 HP T2 AB CB T3 HYb T4 HYa Sp00 Fp00 X0 Sp10 Fp10 X1 Rp00 Cp00 XL Sp01 Fp01 Rp10 Cp10 Sp11 Fp11 Rp01 Cp01 Sp02 Fp02 Rp11 Cp11 Sp12 Fp12 AX CX Rp02 Cp02 Y0 Sa00 Fa00 Sb00 Fb00 Rp12 Cp12 Y1 Sb10 Fb10 Sa10 Fa10 Ra00 Ca00 Sa01 Fa01 Rb10 Cb10 Sb11 Fb11 Ra10 Ca10 Sa11 Fa11 Rb00 Cb00 Sb01 Fb01 Ra01 Ca01 Sa02 Fa02 Rb11 Cb11 Sb12 Fb12 Ra11 Ca11 Sa12 Fa12 Rb01 Cb01 Sb02 Fb02 Ra02 Ca02 Sa03 Fa03 Rb12 Cb12 Sb13 Fb13 Ra12 Ca12 Rb02 Cb02 Ra03 Ca03 HG HOu Rb13 Cb13]
  · isplitr; · iexact HC
    isplitl [HO]; · iexact HO
    isplitl [T1]; · iexact T1
    isplitl [HP]; · iexact HP
    isplitl [T2]; · iexact T2
    isplitl [AB CB]
    · unfold shakeT; isplitl [AB]; · iexact AB
      iexact CB
    isplitl [T3]; · iexact T3
    isplitl [HYb]; · iexact HYb
    isplitl [T4]; · iexact T4
    isplitl [HYa]; · iexact HYa
    isplitl [Sp00 Fp00]
    · isplitl [Sp00]; · iexact Sp00
      unfold posT; iexact Fp00
    isplitl [X0]; · iexact X0
    isplitl [Sp10 Fp10]
    · isplitl [Sp10]; · iexact Sp10
      unfold posT; iexact Fp10
    isplitl [X1]; · iexact X1
    isplitl [Rp00 Cp00]
    · isplitl [Rp00]; · unfold posT; iexact Rp00
      iexact Cp00
    isplitl [XL]; · iexact XL
    isplitl [Sp01 Fp01]
    · isplitl [Sp01]; · iexact Sp01
      unfold posT; iexact Fp01
    isplitl [Rp10 Cp10]
    · isplitl [Rp10]; · unfold posT; iexact Rp10
      iexact Cp10
    isplitl [Sp11 Fp11]
    · isplitl [Sp11]; · iexact Sp11
      unfold posT; iexact Fp11
    isplitl [Rp01 Cp01]
    · isplitl [Rp01]; · unfold posT; iexact Rp01
      iexact Cp01
    isplitl [Sp02 Fp02]
    · isplitl [Sp02]; · iexact Sp02
      unfold posT; iexact Fp02
    isplitl [Rp11 Cp11]
    · isplitl [Rp11]; · unfold posT; iexact Rp11
      iexact Cp11
    isplitl [Sp12 Fp12]
    · isplitl [Sp12]; · iexact Sp12
      unfold posT; iexact Fp12
    isplitl [AX CX]
    · unfold shakeT; isplitl [AX]; · iexact AX
      iexact CX
    isplitl [Rp02 Cp02]
    · isplitl [Rp02]; · unfold posT; iexact Rp02
      iexact Cp02
    isplitl [Y0]; · iexact Y0
    isplitl [Sa00 Fa00]
    · isplitl [Sa00]; · iexact Sa00
      unfold posT; iexact Fa00
    isplitl [Sb00 Fb00]
    · isplitl [Sb00]; · iexact Sb00
      unfold posT; iexact Fb00
    isplitl [Rp12 Cp12]
    · isplitl [Rp12]; · unfold posT; iexact Rp12
      iexact Cp12
    isplitl [Y1]; · iexact Y1
    isplitl [Sb10 Fb10]
    · isplitl [Sb10]; · iexact Sb10
      unfold posT; iexact Fb10
    isplitl [Sa10 Fa10]
    · isplitl [Sa10]; · iexact Sa10
      unfold posT; iexact Fa10
    isplitl [Ra00 Ca00]
    · isplitl [Ra00]; · unfold posT; iexact Ra00
      iexact Ca00
    isplitl [Sa01 Fa01]
    · isplitl [Sa01]; · iexact Sa01
      unfold posT; iexact Fa01
    isplitl [Rb10 Cb10]
    · isplitl [Rb10]; · unfold posT; iexact Rb10
      iexact Cb10
    isplitl [Sb11 Fb11]
    · isplitl [Sb11]; · iexact Sb11
      unfold posT; iexact Fb11
    isplitl [Ra10 Ca10]
    · isplitl [Ra10]; · unfold posT; iexact Ra10
      iexact Ca10
    isplitl [Sa11 Fa11]
    · isplitl [Sa11]; · iexact Sa11
      unfold posT; iexact Fa11
    isplitl [Rb00 Cb00]
    · isplitl [Rb00]; · unfold posT; iexact Rb00
      iexact Cb00
    isplitl [Sb01 Fb01]
    · isplitl [Sb01]; · iexact Sb01
      unfold posT; iexact Fb01
    isplitl [Ra01 Ca01]
    · isplitl [Ra01]; · unfold posT; iexact Ra01
      iexact Ca01
    isplitl [Sa02 Fa02]
    · isplitl [Sa02]; · iexact Sa02
      unfold posT; iexact Fa02
    isplitl [Rb11 Cb11]
    · isplitl [Rb11]; · unfold posT; iexact Rb11
      iexact Cb11
    isplitl [Sb12 Fb12]
    · isplitl [Sb12]; · iexact Sb12
      unfold posT; iexact Fb12
    isplitl [Ra11 Ca11]
    · isplitl [Ra11]; · unfold posT; iexact Ra11
      iexact Ca11
    isplitl [Sa12 Fa12]
    · isplitl [Sa12]; · iexact Sa12
      unfold posT; iexact Fa12
    isplitl [Rb01 Cb01]
    · isplitl [Rb01]; · unfold posT; iexact Rb01
      iexact Cb01
    isplitl [Sb02 Fb02]
    · isplitl [Sb02]; · iexact Sb02
      unfold posT; iexact Fb02
    isplitl [Ra02 Ca02]
    · isplitl [Ra02]; · unfold posT; iexact Ra02
      iexact Ca02
    isplitl [Sa03 Fa03]
    · isplitl [Sa03]; · iexact Sa03
      unfold posT; iexact Fa03
    isplitl [Rb12 Cb12]
    · isplitl [Rb12]; · unfold posT; iexact Rb12
      iexact Cb12
    isplitl [Sb13 Fb13]
    · isplitl [Sb13]; · iexact Sb13
      unfold posT; iexact Fb13
    isplitl [Ra12 Ca12]
    · isplitl [Ra12]; · unfold posT; iexact Ra12
      iexact Ca12
    isplitl [Rb02 Cb02]
    · isplitl [Rb02]; · unfold posT; iexact Rb02
      iexact Cb02
    isplitl [Ra03 Ca03]
    · isplitl [Ra03]; · unfold posT; iexact Ra03
      iexact Ca03
    isplitl [HG]; · iexact HG
    isplitl [HOu]; · iexact HOu
    isplitl [Rb13]; · unfold posT; iexact Rb13
    iexact Cb13
  iintro ⟨HO, AB, Rp00, P00, Rp10, P10, Rp01, P01, Rp11, P11, AX, Rp02, P02, Rp12, XL, P12, Ra00, Rb10, Ra10, Rb00, Ra01, Rb11, Ra11, Rb01, Ra02, Rb12, Ra12, Za13, Rb02, Zb03, Ra03, Y04, YL0, Rb13, Y14, YL1, HG, HOu, Fp00, Zp00, Fp10, Zp10, Fp01, Zp01, Fp11, Zp11, Fp02, Zp02, Fp12, Zp12, Fa00, Za00, Fb00, Zb00, Fb10, Zb10, Fa10, Za10, Fa01, Za01, Fb11, Zb11, Fa11, Za11, Fb01, Zb01, Fa02, Za02, Fb12, Zb12, Fa12, Za12, Fb02, Zb02, Fa03, Za03, Fb13, Zb13⟩
  iapply Hk
  isplitl [HO]; · iexact HO
  isplitl [AB AX Fp00 Fp10 Fp01 Fp11 Fp02 Fp12 Fa00 Fa10 Fa01 Fa11 Fa02 Fa12 Fa03 Fb00 Fb10 Fb01 Fb11 Fb02 Fb12 Fb13 Fa13 Fb03 Rp00 Rp10 Rp01 Rp11 Rp02 Rp12 Ra00 Ra10 Ra01 Ra11 Ra02 Ra12 Ra03 Rb00 Rb10 Rb01 Rb11 Rb02 Rb12 Rb13 Ra13 Rb03]
  · rw [bigSep_cx, bigSep_tr, bigSep_tr]
    isplitl [AB AX]
    · isplitl [AB]; · iexact AB
      iexact AX
    isplitl [Fp00 Fp10 Fp01 Fp11 Fp02 Fp12 Fa00 Fa10 Fa01 Fa11 Fa02 Fa12 Fa03 Fb00 Fb10 Fb01 Fb11 Fb02 Fb12 Fb13 Fa13 Fb03]
    · isplitl [Fp00]; · iexact Fp00
      isplitl [Fp10]; · iexact Fp10
      isplitl [Fp01]; · iexact Fp01
      isplitl [Fp11]; · iexact Fp11
      isplitl [Fp02]; · iexact Fp02
      isplitl [Fp12]; · iexact Fp12
      isplitl [Fa00]; · iexact Fa00
      isplitl [Fa10]; · iexact Fa10
      isplitl [Fa01]; · iexact Fa01
      isplitl [Fa11]; · iexact Fa11
      isplitl [Fa02]; · iexact Fa02
      isplitl [Fa12]; · iexact Fa12
      isplitl [Fa03]; · iexact Fa03
      isplitl [Fb00]; · iexact Fb00
      isplitl [Fb10]; · iexact Fb10
      isplitl [Fb01]; · iexact Fb01
      isplitl [Fb11]; · iexact Fb11
      isplitl [Fb02]; · iexact Fb02
      isplitl [Fb12]; · iexact Fb12
      isplitl [Fb13]; · iexact Fb13
      isplitl [Fa13]; · iexact Fa13
      iexact Fb03
    isplitl [Rp00]; · iexact Rp00
    isplitl [Rp10]; · iexact Rp10
    isplitl [Rp01]; · iexact Rp01
    isplitl [Rp11]; · iexact Rp11
    isplitl [Rp02]; · iexact Rp02
    isplitl [Rp12]; · iexact Rp12
    isplitl [Ra00]; · iexact Ra00
    isplitl [Ra10]; · iexact Ra10
    isplitl [Ra01]; · iexact Ra01
    isplitl [Ra11]; · iexact Ra11
    isplitl [Ra02]; · iexact Ra02
    isplitl [Ra12]; · iexact Ra12
    isplitl [Ra03]; · iexact Ra03
    isplitl [Rb00]; · iexact Rb00
    isplitl [Rb10]; · iexact Rb10
    isplitl [Rb01]; · iexact Rb01
    isplitl [Rb11]; · iexact Rb11
    isplitl [Rb02]; · iexact Rb02
    isplitl [Rb12]; · iexact Rb12
    isplitl [Rb13]; · iexact Rb13
    isplitl [Ra13]; · iexact Ra13
    iexact Rb03
  isplitl [P00 Zp01 P10 Zp11 P01 Zp02 P11 Zp12 P02 P12]
  · iapply (p_back m ρ c)
    isplitl [P00 Zp01]
    · isplitl [P00]; · iexact P00
      iexact Zp01
    isplitl [P10 Zp11]
    · isplitl [P10]; · iexact P10
      iexact Zp11
    isplitl [P01 Zp02]
    · isplitl [P01]; · iexact P01
      iexact Zp02
    isplitl [P11 Zp12]
    · isplitl [P11]; · iexact P11
      iexact Zp12
    isplitl [P02]; · iexact P02
    iexact P12
  isplitl [Za00 Zb00 Zb01 Zb02 Zb03 Y04 Za03 Za02 Za01 Za10 Zb10 Zb11 Zb12 Zb13 Y14 Za13 Za12 Za11 YL0 YL1]
  · iapply (y_back m ρ c)
    isplitl [Za00 Zb00 Zb01 Zb02 Zb03 Y04 Za03 Za02 Za01]
    · isplitl [Za00]; · iexact Za00
      isplitl [Zb00]; · iexact Zb00
      isplitl [Zb01]; · iexact Zb01
      isplitl [Zb02]; · iexact Zb02
      isplitl [Zb03]; · iexact Zb03
      isplitl [Y04]; · iexact Y04
      isplitl [Za03]; · iexact Za03
      isplitl [Za02]; · iexact Za02
      iexact Za01
    isplitl [Za10 Zb10 Zb11 Zb12 Zb13 Y14 Za13 Za12 Za11]
    · isplitl [Za10]; · iexact Za10
      isplitl [Zb10]; · iexact Zb10
      isplitl [Zb11]; · iexact Zb11
      isplitl [Zb12]; · iexact Zb12
      isplitl [Zb13]; · iexact Zb13
      isplitl [Y14]; · iexact Y14
      isplitl [Za13]; · iexact Za13
      isplitl [Za12]; · iexact Za12
      iexact Za11
    isplitl [YL0]; · iexact YL0
    iexact YL1
  isplitl [XL Zp00 Zp10 XR]
  · iapply (x_split m ρ c).2
    isplitl [XL]; · iexact XL
    isplitl [Zp00]; · iexact Zp00
    isplitl [Zp10]; · iexact Zp10
    iexact XR
  isplitl [HG]; · iexact HG
  iexact HOu

end Cert.Fused
end
-- ==== Proof.Launch.lean ====
/-
# The launch

What the launch gives every device, dealt so that each holds the tokens of the payments it makes; the credit the launch
books; and the run of the whole mesh.
-/
module

public import proofs.«01_k».proof.Proof.Regroup
public import proofs.«01_k».proof.Proof.Gen.KernelIdeal.Points
public import Idealize.ShloMosaic.Lib.Pipeline.CollectiveSegs

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

local notation "sems" => Pipeline.ownSems0 (Ix := Unit) (Name := ℕ) (U := UU) (Lvl := ℕ) (Val := Elt F) (τ := τ)

/-! ## The cells -/

theorem csem_inj : Function.Injective csem := by
  rintro (s | ⟨d, k⟩) (s' | ⟨d', k'⟩) h
  · exact congrArg Sum.inl (SemLoc.reg.inj h)
  · exact absurd h (by intro h; cases h)
  · exact absurd h (by intro h; cases h)
  · obtain ⟨rfl, rfl⟩ := dS_inj (SemLoc.dma.inj h); rfl
theorem kcell_inj : Function.Injective kcell := by
  rintro ⟨c, x⟩ ⟨c', x'⟩ h
  have h1 : c = c' := congrArg (fun g : GSem nD τ sig => g.1.1) h
  have h2 : x = x' := csem_inj (congrArg Prod.snd h)
  rw [h1, h2]

/-- The kernel's own semaphores: the second handshake's and every transfer's two. -/
abbrev osem : Unit ⊕ (Bool × Tr) → SemLoc sig := fun | .inl _ => .reg xyS | .inr (d, k) => .dma (dS d k)
theorem dS_isScoped : ∀ (d : Bool) (k : Tr), (SemLoc.dma (dS d k) : SemLoc sig).isScoped .tc = true := by decide +kernel
theorem dec_stage : ∀ (w : Fin 3) (s : Fin (spec0 w).nbuf), dec ((spec0 w).sem s) = none := by decide +kernel
theorem ownSemFacts : Pipeline.OwnSemFacts cfg0.spec osem where
  isScoped := by
    rintro (_ | ⟨d, k⟩)
    · exact (by decide : (SemLoc.reg xyS : SemLoc sig).isScoped .tc = true)
    · exact dS_isScoped d k
  inj := by
    rintro (_ | ⟨d, k⟩) (_ | ⟨d', k'⟩) h
    · rfl
    · exact absurd h (by intro h; cases h)
    · exact absurd h (by intro h; cases h)
    · obtain ⟨rfl, rfl⟩ := dS_inj (SemLoc.dma.inj h); rfl
  disj := by
    rintro (_ | ⟨d, k⟩) w s h
    · exact absurd h (by intro h; cases h)
    · have e : dS d k = (spec0 w).sem s := SemLoc.dma.inj h
      have := dec_stage w s
      rw [← e, dec_dS] at this
      exact absurd this (by intro h; cases h)

theorem unscopedSems0_eq (c : Dev nD) : (unscopedSems0 c : sProp 𝕄) = semVal (barCell c) 0 := by
  unfold unscopedSems0; rw [bigSep_eq_bigSepL_of_eq [SemLoc.reg barS] (by decide +kernel) (by decide)]; rfl
theorem ownSems0_eq (c : Dev nD) : (sems osem c : sProp 𝕄)
    = iprop(semVal (xyCell c) 0 ∗ (bigSep Finset.univ fun k => semVal (dCell false k c) 0) ∗ (bigSep Finset.univ fun k => semVal (dCell true k c) 0)) := by
  unfold Pipeline.ownSems0
  rw [BI.bigSep_univ_sum, bigSep_univ_prod, bigSep_bool, bigSep_univ_eq_bigSepL [()] (by decide) (by decide)]; rfl
theorem sems0_eq (c : Dev nD) : (iprop(sems osem c ∗ unscopedSems0 c) : sProp 𝕄) ⊣⊢ sems0 c := by
  unfold sems0
  rw [ownSems0_eq, unscopedSems0_eq, bigSep_cx]
  constructor
  · iintro ⟨⟨HX, HD⟩, HB⟩
    isplitl [HX HB]
    · isplitl [HB] <;> iassumption
    iexact HD
  · iintro ⟨⟨HB, HX⟩, HD⟩
    isplitl [HX HD]
    · isplitl [HX] <;> iassumption
    iexact HB

/-! ## What is minted -/

def allCells : Finset (GSem nD τ sig) := Finset.univ.map ⟨kcell, kcell_inj⟩
/-- Two tokens a cell, of which a transfer's cell uses one. -/
abbrev tokOf (x : Dev nD × (Cx × Bool)) : GSem nD τ sig × ℕ × Bool := (kcell (x.1, x.2.1), 0, x.2.2)
theorem tokOf_inj : Function.Injective tokOf := by
  rintro ⟨c, x, b⟩ ⟨c', x', b'⟩ h
  have h1 := kcell_inj (congrArg Prod.fst h)
  have h2 : b = b' := congrArg (fun y : GSem nD τ sig × ℕ × Bool => y.2.2) h
  have h3 : c = c' := congrArg Prod.fst h1
  have h4 : x = x' := congrArg Prod.snd h1
  rw [h2, h3, h4]
def allToks : Finset (GSem nD τ sig × ℕ × Bool) := Finset.univ.map ⟨tokOf, tokOf_inj⟩

def u₀ : UU := (initOf (Pipeline.cells cfgs cellOf_inj) (Pipeline.launchToks cfgs cellOf_inj), initOf allCells allToks)

/-- The tokens of a device's own cells. -/
def toks (c : Dev nD) : sProp 𝕄 :=
  iprop(dutyTok ER (barCell c) 0 false ∗ dutyTok ER (barCell c) 0 true ∗ dutyTok ER (xyCell c) 0 false ∗ dutyTok ER (xyCell c) 0 true
    ∗ (bigSep Finset.univ fun k : Tr => dutyTok ER (dCell false k c) 0 false) ∗ (bigSep Finset.univ fun k : Tr => dutyTok ER (dCell true k c) 0 false))
theorem toks_intro (c : Dev nD) : (bigSep Finset.univ fun x : Cx × Bool => dutyTok ER (kcell (c, x.1)) 0 x.2 : sProp 𝕄) ⊢ toks c := by
  rw [bigSep_univ_prod, bigSep_cx, bigSep_bool, bigSep_bool]
  have h (d : Bool) : (bigSep Finset.univ fun k : Tr => bigSep Finset.univ fun b : Bool => dutyTok ER (kcell (c, .inr (d, k))) 0 b : sProp 𝕄)
      ⊢ bigSep Finset.univ fun k : Tr => dutyTok ER (dCell d k c) 0 false :=
    bigSep_mono fun k _ => by
      rw [bigSep_bool]
      show iprop(dutyTok ER (dCell d k c) 0 false ∗ dutyTok ER (dCell d k c) 0 true) ⊢ _
      iintro ⟨H, -⟩
      iexact H
  unfold toks
  iintro ⟨⟨⟨H1, H2⟩, H3, H4⟩, H5, H6⟩
  isplitl [H1]; · iexact H1
  isplitl [H2]; · iexact H2
  isplitl [H3]; · iexact H3
  isplitl [H4]; · iexact H4
  isplitl [H5]; · iapply (h false); iexact H5
  iapply (h true); iexact H6

/-- What the launch's element deals a device, and what the first step of the whole mesh makes of it. -/
def G (c : Dev nD) : sProp 𝕄 :=
  iprop((bigSep Finset.univ fun x : Cx => roundState ER (Rd m ρ) (kcell (c, x)) 0)
    ∗ (bigSep Finset.univ fun x : Cx => iprop(atPos ER (kcell (c, x)) 0 ∅ 0 ∗ reached ER (kcell (c, x)) 0)) ∗ toks c)
def known (K : Dev nD × Cx → ℕ) : sProp 𝕄 :=
  iprop((bigSep Finset.univ fun x : Dev nD × Cx => cellInv ER (Rd m ρ) (K x) (kcell x)) ∗ (bigSep Finset.univ fun x : Dev nD × Cx => reached ER (kcell x) 0))
instance known_persistent (K : Dev nD × Cx → ℕ) : BI.Persistent (known m ρ K) := by unfold known; infer_instance
def G' (c : Dev nD) : sProp 𝕄 := iprop(∃ K, known m ρ K ∗ places c ∗ payToks c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun x : Cx => Φ (kcell (c, x)) := by
    unfold allCells; rw [BI.bigSep_map, bigSep_univ_prod]; rfl
  have hT : bigSep allToks (fun x => (dutyTok ER x.1 x.2.1 x.2.2 : sProp 𝕄)) ⊢ bigSep Finset.univ fun c : Dev nD => toks c := by
    unfold allToks; rw [BI.bigSep_map, bigSep_univ_prod]
    exact bigSep_mono fun c _ => toks_intro c
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The mesh's first step: invariants allocated, tokens dealt -/

theorem core_alloc (c : Dev nD) :
    iprop(sems osem c ∗ unscopedSems0 c ∗ G m ρ c)
      ⊢ |={Set.univ}=> iprop((bigSep Finset.univ fun x : Cx => iprop(∃ κ : ℕ, cellInv ER (Rd m ρ) κ (kcell (c, x))))
          ∗ (bigSep Finset.univ fun x : Cx => iprop(atPos ER (kcell (c, x)) 0 ∅ 0 ∗ reached ER (kcell (c, x)) 0)) ∗ toks c) := by
  have hI : (iprop((bigSep Finset.univ fun x : Cx => semVal (kcell (c, x)) 0) ∗ bigSep Finset.univ fun x : Cx => roundState ER (Rd m ρ) (kcell (c, x)) 0) : sProp 𝕄)
      ⊢ |={Set.univ}=> bigSep Finset.univ fun x : Cx => iprop(∃ κ : ℕ, cellInv ER (Rd m ρ) κ (kcell (c, x))) := by
    rw [← bigSep_sep']
    exact (bigSep_mono fun x _ => (Rounds.body_intro ER (Rd m ρ) (kcell (c, x))).trans inv_alloc).trans (bigSep_fupd _ _)
  unfold G
  iintro ⟨Hos, Hus, Hst, Hat, Htok⟩
  ihave Hv := (sems0_eq (F := F) c).1 $$ [Hos Hus]
  · isplitl [Hos] <;> iassumption
  unfold sems0
  imod hI $$ [Hv Hst] with Hinv
  · isplitl [Hv] <;> iassumption
  imodintro
  isplitl [Hinv]; · iexact Hinv
  isplitl [Hat]; · iexact Hat
  iexact Htok

/-- Where a transfer lands, as a permutation of the devices. -/
def dstE : Tr → (Dev nD ≃ Dev nD)
  | .p _ _ => zEquiv
  | .a _ _ => ringEquiv
  | .b _ _ => ringEquiv.symm
theorem dstE_eq (k : Tr) (c : Dev nD) : dstE k c = dst c k := by cases k <;> rfl

/-- The two ways of counting over devices and transfers. -/
theorem bigSep_swap (Φ : Dev nD → Tr → sProp 𝕄) : (bigSep Finset.univ fun c => bigSep Finset.univ fun k => Φ c k) = bigSep Finset.univ fun k => bigSep Finset.univ fun c => Φ c k := by
  rw [← bigSep_univ_prod (fun x : Dev nD × Tr => Φ x.1 x.2), bigSep_univ_equiv (Equiv.prodComm Tr (Dev nD)), ← bigSep_univ_prod (fun x : Tr × Dev nD => Φ x.2 x.1)]
  rfl

theorem toks_around : (bigSep Finset.univ fun c : Dev nD => (toks c : sProp 𝕄)) ⊢ bigSep Finset.univ fun c : Dev nD => payToks c := by
  have hd : (bigSep Finset.univ fun c : Dev nD => bigSep Finset.univ fun k : Tr => dutyTok ER (dCell true k c) 0 false : sProp 𝕄)
      = bigSep Finset.univ fun c : Dev nD => bigSep Finset.univ fun k : Tr => dutyTok ER (dCell true k (dst c k)) 0 false := by
    rw [bigSep_swap, bigSep_swap fun c k => (dutyTok ER (dCell true k (dst c k)) 0 false : sProp 𝕄)]
    refine bigSep_congr fun k _ => ?_
    rw [bigSep_univ_equiv (dstE k)]
    exact bigSep_congr fun c _ => by rw [dstE_eq]
  unfold toks payToks sendT
  simp only [bigSep_sep']
  rw [hd, bigSep_univ_equiv zEquiv (fun c : Dev nD => (dutyTok ER (barCell c) 0 false : sProp 𝕄)),
    bigSep_univ_equiv zEquiv.symm (fun c : Dev nD => (dutyTok ER (barCell c) 0 true : sProp 𝕄)),
    bigSep_univ_equiv ringEquiv (fun c : Dev nD => (dutyTok ER (xyCell c) 0 false : sProp 𝕄)),
    bigSep_univ_equiv ringEquiv.symm (fun c : Dev nD => (dutyTok ER (xyCell c) 0 true : sProp 𝕄))]
  iintro ⟨H1, H2, H3, H4, H5, H6⟩
  isplitl [H2]; · iexact H2
  isplitl [H1]; · iexact H1
  isplitl [H3]; · iexact H3
  isplitl [H4]; · iexact H4
  isplitl [H5]; · iexact H5
  iexact H6

theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal :
    (bigSep Finset.univ fun c : Dev nD => iprop((bigSep Finset.univ fun x : Cx => iprop(∃ κ : ℕ, cellInv ER (Rd m ρ) κ (kcell (c, x))))
          ∗ (bigSep Finset.univ fun x : Cx => iprop(atPos ER (kcell (c, x)) 0 ∅ 0 ∗ reached ER (kcell (c, x)) 0)) ∗ toks c) : sProp 𝕄)
      ⊢ bigSep Finset.univ (G' m ρ) := by
  simp only [bigSep_sep']
  rw [← bigSep_univ_prod (fun x : Dev nD × Cx => iprop(∃ κ : ℕ, cellInv ER (Rd m ρ) κ (kcell x))),
    ← bigSep_univ_prod (fun x : Dev nD × Cx => (reached ER (kcell x) 0 : sProp 𝕄))]
  iintro ⟨HI, ⟨Hat, #HR⟩, Htok⟩
  ihave HK := (BI.bigSep_exists_pi Finset.univ (fun (x : Dev nD × Cx) (κ : ℕ) => (cellInv ER (Rd m ρ) κ (kcell x) : sProp 𝕄))) $$ HI
  icases HK with ⟨%K, #HI⟩
  ihave Htk := (toks_around (F := F)) $$ Htok
  have hg (c : Dev nD) : iprop(known m ρ K ∗ places c ∗ payToks c) ⊢ G' m ρ c := by
    unfold G'
    iintro H
    iexists K; iexact H
  iapply (bigSep_knowing (R := known m ρ K) fun c _ => hg c)
  isplitr
  · unfold known; isplitl; · iexact HI
    iexact HR
  · rw [bigSep_sep']
    isplitl [Hat]; · unfold places; iexact Hat
    iexact Htk

theorem glob : (bigSep Finset.univ fun c => iprop(sems osem c ∗ unscopedSems0 c ∗ G m ρ c) : sProp 𝕄) ⊢ |={Set.univ}=> bigSep Finset.univ (G' m ρ) :=
  ((bigSep_mono fun c _ => core_alloc m ρ c).trans (bigSep_fupd _ _)).trans (BI.fupd_mono (deal m ρ))

/-! ## The credit the launch books -/

/-- Which device a payment goes to, as a permutation, and on which semaphore. -/
def Ob.to : Ob → (Dev nD ≃ Dev nD)
  | .bar false => zEquiv.symm
  | .bar true => zEquiv
  | .xy true => ringEquiv
  | .xy false => ringEquiv.symm
  | .tr k => dstE k
def Ob.sem : Ob → SemLoc sig
  | .bar _ => .reg barS
  | .xy _ => .reg xyS
  | .tr k => .dma (dS true k)
theorem Ob.cell_eq (o : Ob) (c : Dev nD) : o.cell c = ((o.to c : Thread nD τ), o.sem) := by
  rcases o with (_ | _) | (_ | _) | k
  · rfl
  · rfl
  · rfl
  · rfl
  · show dCell true k (dst c k) = dCell true k (dstE k c); rw [dstE_eq]

/-- What the whole mesh owes one cell is one payment of each kind that goes to its semaphore. -/
theorem owed_sum (l : List Ob) (c : Dev nD) (sm : SemLoc sig) (n : ℕ) (hn : ∀ o, Ob.sem o = sm → o.amt = n) :
    (∑ d : Dev nD, owed d l ((c : Thread nD τ), sm) ()) = l.countP (fun o => decide (o.sem = sm)) * n := by
  induction l with
  | nil => exact (Finset.sum_eq_zero fun d _ => rfl).trans (Nat.zero_mul n).symm
  | cons o l ih =>
    have h1 (d : Dev nD) : owed d (o :: l) ((c : Thread nD τ), sm) () = owed d l ((c : Thread nD τ), sm) () + (if d = o.to.symm c then (if o.sem = sm then n else 0) else 0) := by
      show (owed d l + tallyAt (o.cell d) () o.amt) _ () = _
      rw [Pi.add_apply, Finsupp.add_apply, tallyAt_apply, Ob.cell_eq]
      refine congrArg (owed d l ((c : Thread nD τ), sm) () + ·) ?_
      by_cases hs : o.sem = sm
      · rw [if_pos hs, hn o hs]
        by_cases hd : d = o.to.symm c
        · rw [if_pos hd, if_pos ⟨by rw [hd, Equiv.apply_symm_apply, hs], rfl⟩]
        · rw [if_neg hd, if_neg]
          rintro ⟨h, -⟩
          have h' : c = o.to d := congrArg (fun g : GSem nD τ sig => g.1.1) h
          exact hd (by rw [h', Equiv.symm_apply_apply])
      · rw [if_neg hs, ite_self, if_neg]
        rintro ⟨h, -⟩
        exact hs (congrArg Prod.snd h).symm
    rw [Finset.sum_congr rfl fun d _ => h1 d, Finset.sum_add_distrib, ih, Finset.sum_ite_eq' Finset.univ (o.to.symm c), if_pos (Finset.mem_univ _), List.countP_cons]
    by_cases hs : o.sem = sm
    · rw [if_pos hs, if_pos (decide_eq_true hs), Nat.add_mul, Nat.one_mul]
    · rw [if_neg hs, if_neg (fun h => hs (of_decide_eq_true h)), Nat.add_zero, Nat.add_zero]

abbrev O₀ (c : Dev nD) : CellTallies nD τ sig Unit := owed c o0

theorem credit_of (c : Dev nD) (sm : SemLoc sig) (n k : ℕ) (hn : ∀ o, Ob.sem o = sm → o.amt = n) (hk : o0.countP (fun o => decide (o.sem = sm)) * n = k) :
    tallyOn ((c : Thread nD τ), sm) (launchCredit (Pipeline.owing O₀) 0 ((c : Thread nD τ), sm)) = (tallyAt ((c : Thread nD τ), sm) () k : CellTallies nD τ sig Unit) := by
  unfold tallyAt; refine congrArg _ (Finsupp.ext fun u => ?_); cases u
  rw [Pipeline.launchCredit_owing, Finsupp.single_eq_same, owed_sum o0 c sm n hn, hk]
theorem amt_reg (s : Sem sig) : ∀ o, Ob.sem o = .reg s → o.amt = 1 := by
  rintro (_ | _ | k) h
  · rfl
  · rfl
  · exact absurd h (by intro h; cases h)
theorem amt_dma (q : DmaSem sig) : ∀ o, Ob.sem o = .dma q → o.amt = N := by
  rintro (_ | _ | k) h
  · exact absurd h (by intro h; cases h)
  · exact absurd h (by intro h; cases h)
  · rfl
theorem count_bar : o0.countP (fun o => decide (o.sem = .reg barS)) = 2 := by decide +kernel
theorem count_xy : o0.countP (fun o => decide (o.sem = .reg xyS)) = 2 := by decide +kernel
theorem count_live : ∀ k ∈ lives, o0.countP (fun o => decide (o.sem = .dma (dS true k))) = 1 := by decide +kernel

theorem creds (c : Dev nD) : (Pipeline.launchCred O₀ c : sProp 𝕄) ⊢ credits c := by
  have hT (k : Tr) (hk : live k) : (cred (tallyOn (dCell true k c) (launchCredit (Pipeline.owing O₀) 0 (dCell true k c))) : sProp 𝕄) ⊢ credT true k c := by
    rw [show tallyOn (dCell true k c) (launchCredit (Pipeline.owing O₀) 0 (dCell true k c)) = (tallyAt (dCell true k c) () N : CellTallies nD τ sig Unit) from
      credit_of c _ N N (amt_dma _) (by rw [count_live k hk, Nat.one_mul])]
    exact BI.Entails.refl _
  unfold Pipeline.launchCred
  refine (BI.bigSep_subset (Finset.subset_univ (Finset.univ.map ⟨csem, csem_inj⟩))).trans ?_
  rw [BI.bigSep_map, bigSep_cx]
  show iprop((cred (tallyOn (barCell c) (launchCredit (Pipeline.owing O₀) 0 (barCell c))) ∗ cred (tallyOn (xyCell c) (launchCredit (Pipeline.owing O₀) 0 (xyCell c))))
      ∗ (bigSep Finset.univ fun k : Tr => cred (tallyOn (dCell false k c) (launchCredit (Pipeline.owing O₀) 0 (dCell false k c))))
      ∗ (bigSep Finset.univ fun k : Tr => cred (tallyOn (dCell true k c) (launchCredit (Pipeline.owing O₀) 0 (dCell true k c))))) ⊢ _
  iintro ⟨⟨HB, HX⟩, -, HT⟩
  ihave HT := (bigSep_live _) $$ HT
  icases HT with ⟨Hp00, Hp10, Hp01, Hp11, Hp02, Hp12, Ha00, Ha10, Ha01, Ha11, Ha02, Ha12, Ha03, Hb00, Hb10, Hb01, Hb11, Hb02, Hb12, Hb13⟩
  unfold credits
  isplitl [HB]
  · iapply (Entails.of_eq (congrArg cred (credit_of c (.reg barS) 1 2 (amt_reg _) (by rw [count_bar]))))
    iexact HB
  isplitl [HX]
  · iapply (Entails.of_eq (congrArg cred (credit_of c (.reg xyS) 1 2 (amt_reg _) (by rw [count_xy]))))
    iexact HX
  isplitl [Hp00]; · iapply (hT (.p 0 0) (by decide)); iexact Hp00
  isplitl [Hp10]; · iapply (hT (.p 1 0) (by decide)); iexact Hp10
  isplitl [Hp01]; · iapply (hT (.p 0 1) (by decide)); iexact Hp01
  isplitl [Hp11]; · iapply (hT (.p 1 1) (by decide)); iexact Hp11
  isplitl [Hp02]; · iapply (hT (.p 0 2) (by decide)); iexact Hp02
  isplitl [Hp12]; · iapply (hT (.p 1 2) (by decide)); iexact Hp12
  isplitl [Ha00]; · iapply (hT (.a 0 0) (by decide)); iexact Ha00
  isplitl [Ha10]; · iapply (hT (.a 1 0) (by decide)); iexact Ha10
  isplitl [Ha01]; · iapply (hT (.a 0 1) (by decide)); iexact Ha01
  isplitl [Ha11]; · iapply (hT (.a 1 1) (by decide)); iexact Ha11
  isplitl [Ha02]; · iapply (hT (.a 0 2) (by decide)); iexact Ha02
  isplitl [Ha12]; · iapply (hT (.a 1 2) (by decide)); iexact Ha12
  isplitl [Ha03]; · iapply (hT (.a 0 3) (by decide)); iexact Ha03
  isplitl [Hb00]; · iapply (hT (.b 0 0) (by decide)); iexact Hb00
  isplitl [Hb10]; · iapply (hT (.b 1 0) (by decide)); iexact Hb10
  isplitl [Hb01]; · iapply (hT (.b 0 1) (by decide)); iexact Hb01
  isplitl [Hb11]; · iapply (hT (.b 1 1) (by decide)); iexact Hb11
  isplitl [Hb02]; · iapply (hT (.b 0 2) (by decide)); iexact Hb02
  isplitl [Hb12]; · iapply (hT (.b 1 2) (by decide)); iexact Hb12
  iapply (hT (.b 1 3) (by decide)); iexact Hb13

/-! ## The pipeline's proof data, and the body at its one point -/

/-- What a device's body starts from. -/
def start (c : Dev nD) : sProp 𝕄 := iprop(∃ K, ctx m ρ K ∗ payToks c ∗ places c ∗ credits c)
def Φ₀ (c : Dev nD) : sProp 𝕄 := iprop(start m ρ c ∗ pAny c ∗ yAny c)
def Φ₁ (c : Dev nD) : sProp 𝕄 := iprop(sems0 c ∗ pAny c ∗ yAny c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => owed c o0
    | ⟨_ + 1, _⟩ => owed c []

theorem share_eq (c : Dev nD) (w : Fin cfg0.W) : (dats m ρ 0 c).share w = fullShare := by unfold Dat.share; split <;> rfl

theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (xstg m ρ c) ∗ stg c cc0_stg1_0 (gstg m ρ c) ∗ stg c cc0_stg2_0 (outAt m ρ c))

theorem sound_body (c : Dev nD) (hx : xM.IsWhole) (hg : gM.IsWhole) (ho : oM.IsWhole) (hp : pM.IsWhole) (hy : yM.IsWhole) :
    bodyPre m ρ c ⊢ run c (cc0_body xM hx gM hg oM ho pM hp yM hy cc0_scratch2 cc0_scratch3 cc0_scratch4 cc0_scratch5 cc0_scratch6 cc0_scratch7 cc0_scratch8) (fun _ => bodyPost m ρ c) := by
  unfold bodyPre Φ₀ start
  iintro ⟨⟨⟨%K, HC, HT, HL, HR⟩, HP, HY⟩, HO, ⟨%d0, %g0, %hg0, HX⟩, ⟨%d1, %g1, %hg1, HG⟩, ⟨%d2, %g2, %hg2, HOu⟩⟩
  have hx0 : g0 = xstg m ρ c := by rw [hg0]; unfold Dat.before; rw [if_pos (fetch0_0 t0_0)]; rfl
  have hx1 : g1 = gstg m ρ c := by rw [hg1]; unfold Dat.before; rw [if_pos (fetch0_1 t0_0)]; rfl
  subst hx0 hx1
  unfold Dat.owesAt Pipeline.owesWithin
  icases HO with ⟨%W, %hW, HO⟩
  iapply (body_whole m ρ c K hx hg ho hp hy (Q := fun _ => bodyPost m ρ c)) $$ [HC HT HL HR HP HY HO HX HG HOu]
  · isplitl [HC]; · iexact HC
    isplitl [HO]; · unfold owesE; iexists W; iexact HO
    isplitl [HT]; · iexact HT
    isplitl [HL]; · iexact HL
    isplitl [HR]; · iexact HR
    isplitl [HP]; · iexact HP
    isplitl [HY]; · iexact HY
    isplitl [HX]; · unfold xAll; iexact HX
    isplitl [HG]; · unfold gPts; iexact HG
    unfold oAny oPts; iexists g2; iexact HOu
  unfold bodyPost Φ₁ owesE xAll gPts oPts
  iintro ⟨⟨%W', HO⟩, HS, HP, HY, HX, HG, HOu⟩
  isplitl [HS HP HY]
  · isplitl [HS]; · iexact HS
    isplitl [HP] <;> iassumption
  isplitl [HO]
  · unfold Dat.owesAt Pipeline.owesWithin
    iexists W'
    isplitr; · ipureintro; exact fun _ _ => Or.inl trivial
    iexact HO
  isplitl [HX]
  · iexists _; isplitr; · (ipureintro; rfl)
    iexact HX
  isplitl [HG]
  · iexists _; isplitr; · (ipureintro; rfl)
    iexact HG
  iexists _; isplitr; · (ipureintro; rfl)
  iexact HOu

theorem body_obligation (c : Dev nD) : BodyObligation (dats (F := F) m ρ 0 c) (defs₀ (F := F)) 𝒱₀ () Set.univ := fun t => by
  rw [fin_N0 t]
  rw [bigSep_W0, bigSep_W0]
  simp only [owns_eq]
  exact sound_body m ρ c (Memref.isWhole_whole _) (Memref.isWhole_whole _) (Memref.isWhole_whole _) (Memref.isWhole_whole _) (Memref.isWhole_whole _)

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' known
  iintro ⟨-, Hlev, Hcr, -, ⟨%K, ⟨HI, HR⟩, Hat, Htok⟩⟩
  ihave Hc := (creds (F := F) c) $$ Hcr
  imodintro
  unfold start ctx
  isplitl
  · iexists K
    isplitl [HI HR Hlev]
    · isplitl [HI]; · iexact HI
      isplitl [HR] <;> iassumption
    isplitl [Htok]; · iexact Htok
    isplitl [Hat] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ pAny yAny
  iintro ⟨Hs, -, HP, HY⟩
  isplitl [Hs]; · iexact Hs
  isplitl [HP] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ pAny yAny
  iintro ⟨HS, HP, HY⟩
  ihave HS := (sems0_eq (F := F) c).2 $$ HS
  icases HS with ⟨HO, HU⟩
  isplitl [HU]; · iexact HU
  isplitl [HO]; · iexact HO
  isplitl [HP] <;> iassumption

theorem waits (c : Dev nD) : (levAts L lv : sProp 𝕄) ⊢ Pipeline.cellsWaits cfgs (dats m ρ) () 0 c :=
  Pipeline.cellsWaits_intro cfgs (dats m ρ) () 0 c fun w s t => by
    have h0 : lv ((c : Thread nD τ), .dma ((spec0 w).sem s)) () = 0 := by
      show (match dec ((spec0 w).sem s) with | some (d, k) => dlev d k | none => 0) = 0
      rw [dec_stage]
    have hl : ∀ o ∈ o0, 0 < o.lev := by decide
    rcases t with ⟨_ | _, ht⟩
    · exact mayWait c _ o0 (fun o ho => by rw [show lv ((c : Thread nD τ), _) () = 0 from h0]; exact hl o ho)
    · exact mayWait c _ [] (fun o ho => absurd ho List.not_mem_nil)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every weakly fair execution of the program on the mesh terminates; every final state
    has each device's result at the computed contents, its arguments unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held; the result holds the computed rows. -/
theorem final_x (c : Dev nD) : finalA m ρ c (0 : Fin 3) = (s₀ m ρ).mem (win0_0.arr.view.loc (c : Thread nD τ)) :=
  (dats (F := F) m ρ 0 c).arrAt_in (0 : Fin 3) rfl _
theorem final_g (c : Dev nD) : finalA m ρ c (1 : Fin 3) = (s₀ m ρ).mem (win0_1.arr.view.loc (c : Thread nD τ)) :=
  (dats (F := F) m ρ 0 c).arrAt_in (1 : Fin 3) rfl _

end Cert.Fused
end
-- ==== Proof.Scalars.lean ====
/-
# The scalar algebra

What the value claim asks of the extended reals: the three constants, the two ways of dividing by the root of the mean
square, and three ways of ordering a sum.
-/
module

public import proofs.«01_k».proof.Defs
public import Idealize.ShloMosaic.PureOps.Ideal.Laws

@[expose] public section

noncomputable section

namespace Cert.Fused

open Idealize.ShloMosaic

/-! ### The constants -/

theorem lit_width : Ideal.ofBits .f32 0x44800000#32 = ((1024 : ℝ) : EReal) := by
  simp [Ideal.ofBits, Ideal.ieee]; rw [← EReal.coe_mul]; norm_num
theorem lit_inv_width : Ideal.ofBits .f32 0x3A800000#32 = ((1 / 1024 : ℝ) : EReal) := by
  simp [Ideal.ofBits, Ideal.ieee]; rw [← EReal.coe_mul]; norm_num
theorem lit_eps : ∃ e : ℝ, 0 < e ∧ Ideal.ofBits .f32 0x358637BD#32 = (e : EReal) :=
  ⟨8796093 * ((2 : ℝ) ^ 43)⁻¹, by positivity, by simp [Ideal.ofBits, Ideal.ieee]⟩

/-! ### The normalization -/

/-- A square is never negative, at the infinities neither. -/
theorem square_nonneg (y : EReal) : 0 ≤ y * y := by
  rcases le_total 0 y with h | h
  · exact mul_nonneg h h
  · have := mul_nonneg (EReal.neg_nonneg.2 h) (EReal.neg_nonneg.2 h); rwa [neg_mul_neg] at this

/-- Times the inverse root of the scaled sum, or divided by the root of the divided sum: the same, for a sum of squares.
    An infinite sum makes both zero. -/
theorem normalize_eq (y s : EReal) (hs : 0 ≤ s) :
    y * Ideal.rsqrt (s * Ideal.ofBits .f32 0x3A800000#32 + Ideal.ofBits .f32 0x358637BD#32)
      = Ideal.div y (Ideal.sqrt (Ideal.div s (Ideal.ofBits .f32 0x44800000#32) + Ideal.ofBits .f32 0x358637BD#32)) := by
  obtain ⟨e, he, h⟩ := lit_eps
  rw [lit_inv_width, lit_width, h, Ideal.div_coe (by norm_num)]
  induction s with
  | bot => exact absurd hs (by simp)
  | top =>
    rw [EReal.top_mul_coe_of_pos (by norm_num), EReal.top_add_coe, Ideal.rsqrt_top, Ideal.sqrt_top, Ideal.div, if_neg (by simp)]
    simp
  | coe s =>
    have hs : 0 ≤ s := by exact_mod_cast hs
    have hv : 0 < s * (1 / 1024) + e := by positivity
    rw [← EReal.coe_mul, ← EReal.coe_add, Ideal.rsqrt_coe, Ideal.sqrt_coe, if_neg hv.not_gt, if_neg hv.ne', if_neg hv.not_gt,
      Ideal.div_coe (Real.sqrt_pos.2 hv).ne', one_div (Real.sqrt _)]

/-! ### Sums in another order -/

theorem sum_line (f : Fin 4 → EReal) (z : Fin 4) : f (z + 1) + f (z + 2) + f (z + 3) + f z = ∑ k, f k := by
  rw [← Equiv.sum_comp (Equiv.addLeft z) f, Fin.sum_univ_four]
  show _ = f (z + 0) + f (z + 1) + f (z + 2) + f (z + 3)
  rw [add_zero z]
  ac_rfl

theorem sum_ring (f : Fin 8 → EReal) (p : Fin 8) :
    f p + f (p - 1) + f (p + 1) + f (p - 2) + f (p + 2) + f (p - 3) + f (p + 3) + f (p + 4) = ∑ q, f q := by
  rw [← Equiv.sum_comp (Equiv.addLeft p) f, Fin.sum_univ_eight]
  show _ = f (p + 0) + f (p + 1) + f (p + 2) + f (p + 3) + f (p + 4) + f (p + 5) + f (p + 6) + f (p + 7)
  have e : p - 1 = p + 7 ∧ p - 2 = p + 6 ∧ p - 3 = p + 5 := by revert p; decide
  rw [e.1, e.2.1, e.2.2, add_zero p]
  ac_rfl

/-- The columns slice by slice. -/
theorem sum_columns (f : Fin 1024 → EReal) :
    ∑ q : Fin 8, ∑ k : Fin 128, f ⟨128 * q.val + k.val, by have := q.isLt; have := k.isLt; omega⟩ = ∑ j, f j := by
  rw [← Fintype.sum_prod_type', ← Equiv.sum_comp (finProdFinEquiv (m := 8) (n := 128)) f]
  refine Finset.sum_congr rfl fun p _ => congrArg f (Fin.ext ?_)
  show _ = p.2.val + 128 * p.1.val
  exact Nat.add_comm _ _

end Cert.Fused

end
-- ==== Proof.Reference.lean ====
/-
# The reference at an element

Every element of the reference's result: the sum over the line, divided by the root of its row's mean square, times the
weight of its column.
-/
module

public import proofs.«01_k».proof.Proof.Scalars
public import proofs.«01_k».proof.Proof.Gen.ReferenceIdeal.Run
public import Idealize.ShloMosaic.Lib.Pointwise

@[expose] public section

noncomputable section

namespace Cert.Fused

open Cert.ReferenceIdeal Cert.ReferenceIdeal.Gen
open Idealize.ShloMosaic
open Idealize.SL.Sem

/-- The sum over the line of element `(r, j)` of all the rows. -/
def total (P : (⟨3, ![4, 4096, 1024]⟩ : Shape).Idx → EReal) (r : Fin 4096) (j : Fin 1024) : EReal := ∑ k : Fin 4, P (ix3 k r j)

/-- One element normalized: `y` of a row with values `v`, weighed by `g`. -/
def normed (v : Fin 1024 → EReal) (y g : EReal) : EReal :=
  Ideal.div y (Ideal.sqrt (Ideal.div (∑ k, v k * v k) (Ideal.ofBits .f32 0x44800000#32) + Ideal.ofBits .f32 0x358637BD#32)) * g

/-- The reference's result of the partial sums `P` and the weights `g`. -/
def refOut (P : S4x4096x1024.Idx → EReal) (g : S1024.Idx → EReal) : S4096x1024.Idx → EReal := fun i =>
  normed (total P (i 0)) (total P (i 0) (i 1)) (g (ix1 (i 1)))

theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.ReferenceIdeal.Value.run (F := Ideal) m ρ)
  funext i
  generalize m ((c.tc : Thread nD τ).loc main_arg0) = P
  generalize m ((c.tc : Thread nD τ).loc main_arg1) = g
  pointwise [refOut, normed, total]

end Cert.Fused

end
-- ==== Proof.Equation.lean ====
/-
# The result is the reference's

In exact arithmetic: the rows a device gathers are the sums over the line of all the partial sums, the eight slices' sums
of squares make the whole row's, and the two normalizations are one.
-/
module

public import proofs.«01_k».proof.Proof.Launch
public import proofs.«01_k».proof.Proof.Reference
public import Idealize.ShloMosaic.Lib.Pointwise
public import Idealize.ShloMosaic.Lib.Pipeline.Value

@[expose] public section

set_option maxRecDepth 20000

noncomputable section

namespace Cert.Fused

open Cert.KernelIdeal Cert.KernelIdeal.Gen
open Idealize.ShloMosaic
open Idealize.ShloMosaic.TcCoe

section Arrays

variable {F : FTy → Type} [FloatOps F]
variable (m : (ℓ : Loc nD τ sig) → Buf (Elt F) ℓ) (ρ : Dev nD → PrngReg)

/-! ### The windows are the whole arrays -/

theorem xstg_eq (c : Dev nD) : xstg m ρ c = m ((c : Thread nD τ).loc main_arg0) := by
  funext i
  show m ((c : Thread nD τ).loc main_arg0) ((win0_0.rect t0_0).emb i) = _
  refine congrArg _ (funext fun a => Fin.ext ?_)
  rw [Rect.emb_apply]
  show 0 * _ + 1 * (i a).val = _
  rw [Nat.zero_mul, Nat.zero_add, Nat.one_mul]
theorem gstg_eq (c : Dev nD) : gstg m ρ c = m ((c : Thread nD τ).loc main_arg1) := by
  funext i
  show m ((c : Thread nD τ).loc main_arg1) ((win0_1.rect t0_0).emb i) = _
  refine congrArg _ (funext fun a => Fin.ext ?_)
  rw [Rect.emb_apply]
  show 0 * _ + 1 * (i a).val = _
  rw [Nat.zero_mul, Nat.zero_add, Nat.one_mul]

theorem out_emb (t : Fin cfg0.N) (i : S1024x1024.Idx) : ((cfg0.win (2 : Fin 3)).blk t).view.emb i = i := by
  show (win0_2.rect t).emb i = i
  refine funext fun a => Fin.ext ?_
  rw [Rect.emb_apply]
  show 0 * _ + 1 * (i a).val = _
  rw [Nat.zero_mul, Nat.zero_add, Nat.one_mul]

theorem final_out (c : Dev nD) : finalA m ρ c (2 : Fin 3) = outAt m ρ c :=
  (dats m ρ 0 c).arrAt_eq_of_cover (2 : Fin 3) (outAt m ρ c)
    (fun t _ => by
      have ha : (dats m ρ 0 c).after (2 : Fin 3) t = outAt m ρ c := by dsimp only [dats]
      unfold Pipeline.Dat.flushed
      rw [ha]
      funext i
      exact (congrArg (outAt m ρ c) (out_emb t i)).symm)
    fun i => ⟨t0_0, flush0_2 _, out_emb t0_0 i ▸ View.emb_mem_set _ _⟩

end Arrays

/-! ### The payloads at an element -/

section Payloads

theorem pay8_apply (v : Vec Ideal S1024x128 .f32) (r : Fin 1024) (l : Fin 1) : k0_pay8 v (ix2 r l) = ∑ k : Fin 128, v (ix2 r k) * v (ix2 r k) := by
  pointwise [k0_pay8]
theorem pay9_apply (s : FVec Ideal S1024x1 .f32) (v : Vec Ideal S1024x128 .f32) (r : Fin 1024) (l : Fin 1) :
    k0_pay9 s v (ix2 r l) = s (ix2 r l) + ∑ k : Fin 128, v (ix2 r k) * v (ix2 r k) := by
  pointwise [k0_pay9]
theorem pay10_apply (s : FVec Ideal S1024x1 .f32) (v : Vec Ideal S1024x128 .f32) (r : Fin 1024) (l : Fin 1) :
    k0_pay10 s v (ix2 r l) = s (ix2 r l) + ∑ k : Fin 128, v (ix2 r k) * v (ix2 r k) := by
  pointwise [k0_pay10]
theorem pay11_apply (s : FVec Ideal S1024x1 .f32) (v w : Vec Ideal S1024x128 .f32) (r : Fin 1024) (l : Fin 1) :
    k0_pay11 s v w (ix2 r l) = s (ix2 r l) + (∑ k : Fin 128, v (ix2 r k) * v (ix2 r k)) + ∑ k : Fin 128, w (ix2 r k) * w (ix2 r k) := by
  pointwise [k0_pay11]
theorem pay12_apply (s : FVec Ideal S1024x1 .f32) (v w : Vec Ideal S1024x128 .f32) (r : Fin 1024) (l : Fin 1) :
    k0_pay12 s v w (ix2 r l) = s (ix2 r l) + (∑ k : Fin 128, v (ix2 r k) * v (ix2 r k)) + ∑ k : Fin 128, w (ix2 r k) * w (ix2 r k) := by
  pointwise [k0_pay12]
theorem pay13_apply (s : FVec Ideal S1024x1 .f32) (b : Vec Ideal S512x128 .f32) (y : Vec Ideal S512x1024 .f32) (g : Vec Ideal S1024 .f32)
    (r : Fin 512) (j : Fin 1024) :
    k0_pay13 s b y g (ix2 r j) = y (ix2 r j) * Ideal.rsqrt ((s (ix2 ⟨r.val, by omega⟩ 0) + ∑ k : Fin 128, b (ix2 r k) * b (ix2 r k))
      * Ideal.ofBits .f32 0x3A800000#32 + Ideal.ofBits .f32 0x358637BD#32) * g (ix1 j) := by
  pointwise [k0_pay13]
theorem pay16_apply (s : FVec Ideal S1024x1 .f32) (b : Vec Ideal S512x128 .f32) (y : Vec Ideal S512x1024 .f32) (g : Vec Ideal S1024 .f32)
    (r : Fin 512) (j : Fin 1024) :
    k0_pay16 (k0_pay14 s b y) (k0_pay15 g) (ix2 r j) = y (ix2 r j) * Ideal.rsqrt ((s (ix2 ⟨512 + r.val, by omega⟩ 0) + ∑ k : Fin 128, b (ix2 r k) * b (ix2 r k))
      * Ideal.ofBits .f32 0x3A800000#32 + Ideal.ofBits .f32 0x358637BD#32) * g (ix1 j) := by
  pointwise [k0_pay16, k0_pay14, k0_pay15]

end Payloads

section Values

variable (m : (ℓ : Loc nD τ sig) → Buf (Elt Ideal) ℓ) (ρ : Dev nD → PrngReg)

/-- Row `r` of the rows a device ends with, among all the rows. -/
def rowOf (c : Dev nD) (r : Fin 1024) : Fin 4096 := ⟨1024 * (zf c).val + r.val, by have := (zf c).isLt; have := r.isLt; omega⟩

/-- Every device starts with the partial sums of its z coordinate. -/
def Dealt (P : (⟨3, ![4, 4096, 1024]⟩ : Shape).Idx → EReal) : Prop :=
  ∀ (c : Dev nD) (r : Fin 4096) (j : Fin 1024), xstg m ρ c (ix3 0 r j) = P (ix3 (zf c) r j)

variable {m ρ} {P : (⟨3, ![4, 4096, 1024]⟩ : Shape).Idx → EReal} (hP : Dealt m ρ P)
include hP

theorem xv_dealt (c : Dev nD) (z : Fin 4) (r : Fin 1024) (j : Fin 128) :
    xv m ρ c z r j = P (ix3 (zf c) ⟨1024 * z.val + r.val, by have := z.isLt; have := r.isLt; omega⟩
      ⟨128 * (pos c).val + j.val, by have := (pos c).isLt; have := j.isLt; omega⟩) := hP c _ _

/-- The slice after the first phase: the four partial sums of its line, the neighbour's first. -/
theorem fin_total (c : Dev nD) (r : Fin 1024) (j : Fin 128) :
    fin m ρ c r j = total P (rowOf c r) ⟨128 * (pos c).val + j.val, by have := (pos c).isLt; have := j.isLt; omega⟩ := by
  have e : ∀ z : Fin 4, z + 3 + 3 + 3 = z + 1 ∧ z + 3 + 3 = z + 2 ∧ z + 1 + 3 = z ∧ z + 2 + 2 = z ∧ z + 3 + 1 = z ∧ z + 2 + 3 = z + 1 := by decide
  unfold total rowOf
  rw [← sum_line _ (zf c)]
  unfold fin
  simp only [rv, xv_dealt hP, Ideal.addf_def, zf_zl, pos_zl, if_true, if_neg (Nat.one_ne_zero), e]

theorem Y_total (c : Dev nD) (r j : Fin 1024) : Y m ρ c (ix2 r j) = total P (rowOf c r) j := by
  have hj := j.isLt
  have hq : j.val / 128 < 8 := by omega
  show fin m ρ (dv (zf c) ⟨j.val / 128, hq⟩) r ⟨j.val % 128, _⟩ = _
  rw [fin_total hP]
  unfold rowOf
  simp only [zf_dv, pos_dv, Nat.div_add_mod]

/-- The squares of one slice of a row. -/
def sliceSq (v : Fin 1024 → EReal) (q : Fin 8) : EReal :=
  ∑ k : Fin 128, v ⟨128 * q.val + k.val, by have := q.isLt; have := k.isLt; omega⟩ * v ⟨128 * q.val + k.val, by have := q.isLt; have := k.isLt; omega⟩

omit hP in
theorem sliceSq_sum (v : Fin 1024 → EReal) : ∑ q, sliceSq v q = ∑ j, v j * v j := sum_columns fun j => v j * v j

theorem col_sq (c : Dev nD) (q : Fin 8) (r : Fin 1024) :
    ∑ k : Fin 128, col m ρ c q (ix2 r k) * col m ρ c q (ix2 r k) = sliceSq (total P (rowOf c r)) q :=
  Finset.sum_congr rfl fun k _ => congrArg (fun y : EReal => y * y) (Y_total hP c r _)
theorem blk_sq (c : Dev nD) (t : Fin 2) (q : Fin 8) (r : Fin 512) :
    ∑ k : Fin 128, blk m ρ c t q (ix2 r k) * blk m ρ c t q (ix2 r k)
      = sliceSq (total P (rowOf c ⟨512 * t.val + r.val, by have := t.isLt; have := r.isLt; omega⟩)) q :=
  Finset.sum_congr rfl fun k _ => congrArg (fun y : EReal => y * y) (Y_total hP c _ _)

/-- The seven slices summed as they arrive, and the last one: the whole row's sum of squares. -/
theorem ss_last (c : Dev nD) (r : Fin 1024) :
    ss m ρ c (ix2 r 0) + sliceSq (total P (rowOf c r)) (pos c + 4) = ∑ j, total P (rowOf c r) j * total P (rowOf c r) j := by
  unfold ss
  rw [pay12_apply, pay11_apply, pay10_apply, pay9_apply, pay8_apply]
  simp only [col_sq hP]
  rw [sum_ring, sliceSq_sum]

theorem top_apply (c : Dev nD) (r : Fin 512) (j : Fin 1024) :
    outTop m ρ c (ix2 r j) = normed (total P (rowOf c ⟨r.val, by omega⟩)) (total P (rowOf c ⟨r.val, by omega⟩) j) (gstg m ρ c (ix1 j)) := by
  have e : (⟨512 * (0 : Fin 2).val + r.val, by have := r.isLt; omega⟩ : Fin 1024) = ⟨r.val, by omega⟩ := Fin.ext (Nat.zero_add _)
  have ey : row m ρ c 0 (ix2 r j) = total P (rowOf c ⟨r.val, by omega⟩) j := (Y_total hP c _ j).trans (congrArg (fun x => total P (rowOf c x) j) e)
  unfold outTop normed
  rw [pay13_apply, blk_sq hP, e, ss_last hP, normalize_eq _ _ (Finset.sum_nonneg fun _ _ => square_nonneg _), ey]
theorem bot_apply (c : Dev nD) (r : Fin 512) (j : Fin 1024) :
    outBot m ρ c (ix2 r j) = normed (total P (rowOf c ⟨512 + r.val, by omega⟩)) (total P (rowOf c ⟨512 + r.val, by omega⟩) j) (gstg m ρ c (ix1 j)) := by
  have e : (⟨512 * (1 : Fin 2).val + r.val, by have := r.isLt; show 512 * 1 + _ < _; omega⟩ : Fin 1024) = ⟨512 + r.val, by omega⟩ := rfl
  have ey : row m ρ c 1 (ix2 r j) = total P (rowOf c ⟨512 + r.val, by omega⟩) j := Y_total hP c _ j
  unfold outBot normed
  rw [pay16_apply, blk_sq hP, e, ss_last hP, normalize_eq _ _ (Finset.sum_nonneg fun _ _ => square_nonneg _), ey]

/-- A device's result at an element. -/
theorem out_apply (c : Dev nD) (r j : Fin 1024) :
    outAt m ρ c (ix2 r j) = normed (total P (rowOf c r)) (total P (rowOf c r) j) (gstg m ρ c (ix1 j)) := by
  have hr := r.isLt
  show (if r.val < 512 then outTop m ρ c else outBot m ρ c) (ix2 ⟨r.val % 512, _⟩ j) = _
  split
  · next h =>
    refine (top_apply hP c _ j).trans ?_
    have e : (⟨r.val % 512, by omega⟩ : Fin 1024) = r := Fin.ext (Nat.mod_eq_of_lt h)
    show normed (total P (rowOf c ⟨r.val % 512, _⟩)) (total P (rowOf c ⟨r.val % 512, _⟩) j) _ = _
    rw [e]
  · next h =>
    refine (bot_apply hP c _ j).trans ?_
    have e : (⟨512 + r.val % 512, by omega⟩ : Fin 1024) = r := Fin.ext (by show 512 + r.val % 512 = r.val; omega)
    show normed (total P (rowOf c ⟨512 + r.val % 512, _⟩)) (total P (rowOf c ⟨512 + r.val % 512, _⟩) j) _ = _
    rw [e]

end Values

end Cert.Fused

end
-- ==== Proof.lean ====
/-
The five claims: the kernel runs and leaves its arguments and its counters as they were, at the chip's floats and in exact
arithmetic; so does the reference; the kernel's exact text is the kernel's own; and in exact arithmetic every device's
result is its part of the reference's.
-/
module

public import proofs.«01_k».proof.Defs
public import proofs.«01_k».proof.Proof.Gen.Kernel
public import proofs.«01_k».proof.Proof.Equation
public import proofs.«01_k».proof.Proof.Gen.ReferenceIdeal
public import proofs.«01_k».proof.Proof.Gen.ReferenceIdeal.Run
public import Idealize.ShloMosaic.Lib.Quiescent
public import Idealize.ShloMosaic.Lib.Layout

@[expose] public section

set_option maxRecDepth 20000

noncomputable section

namespace Cert.Proof

open Idealize.ShloMosaic Idealize.SL.Sem

/-! ### The exact text is the kernel's own -/

theorem main_eq : Cert.Kernel.main (F := Bits) = Cert.KernelIdeal.main (F := Bits) := rfl

theorem bodies_eq : Cert.Kernel.defs₀ (F := Bits) = Cert.KernelIdeal.defs₀ (F := Bits) := by
  unfold Cert.Kernel.defs₀ Cert.KernelIdeal.defs₀
  refine congrArg (Defs.onTc (Λ := Cert.KernelIdeal.Λ₀)) ?_
  funext l x
  match l, x with
  | 0, (t, s) => rfl

theorem defs_eq : Cert.Kernel.defs (F := Bits) = Cert.KernelIdeal.defs (F := Bits) :=
  congrArg (Pipeline.defs (Cert.KernelIdeal.pcfgs (F := Bits))) bodies_eq

/-! ### The frames -/

theorem frame_kernel : Cert.quiescent_Kernel := fun m ρ _ => by
  rw [main_eq, defs_eq]
  exact (θ_run (Cert.KernelIdeal.defs (F := Bits)) _ _).mono
    (fun _ h => ⟨fun c => ⟨(h.1 c 0).trans (Cert.Fused.final_x m ρ c), (h.1 c 1).trans (Cert.Fused.final_g m ρ c)⟩, h.2⟩)
    (Cert.Fused.run_main (F := Bits) m ρ)

theorem frame_kernelIdeal : Cert.quiescent_KernelIdeal := fun m ρ _ =>
  (θ_run (Cert.KernelIdeal.defs (F := Ideal)) _ _).mono
    (fun _ h => ⟨fun c => ⟨(h.1 c 0).trans (Cert.Fused.final_x m ρ c), (h.1 c 1).trans (Cert.Fused.final_g m ρ c)⟩, h.2⟩)
    (Cert.Fused.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ### The value -/

/-- The z axis is the last of the mesh. -/
theorem mesh_z (c : Fin 32) : Layout.meshLin [2, 4, 4] c.val [2] = c.val % 4 := by revert c; decide +kernel

/-- Cut along the z axis, a block's row is `rowOf`, and a block's leading coordinate the device's z. -/
theorem dealt_of_block {m : (ℓ : Loc Cert.KernelIdeal.nD Cert.KernelIdeal.τ Cert.KernelIdeal.sig) → Buf (Elt Ideal) ℓ}
    (ρ : Dev Cert.KernelIdeal.nD → PrngReg) {P : (⟨3, ![4, 4096, 1024]⟩ : Shape).Idx → EReal}
    (h : ∀ c : Dev Cert.KernelIdeal.nD, m ((c.tc : Thread Cert.KernelIdeal.nD Cert.KernelIdeal.τ).loc Cert.KernelIdeal.main_arg0)
      = Layout.blockN ⟨3, ![1, 4096, 1024]⟩ ⟨3, ![4, 4096, 1024]⟩ (Layout.meshBlock [2, 4, 4] ![[2], [], []] c) P) :
    Cert.Fused.Dealt m ρ P := fun c r j => by
  rw [Cert.Fused.xstg_eq, h c, Layout.blockN_apply]
  refine congrArg P (funext fun a => Fin.ext ?_)
  rw [Layout.TilesN.idx_val, Layout.meshBlock_val]
  fin_cases a
  · show Layout.meshLin [2, 4, 4] c.val [2] * 1 + 0 = c.val % 4
    rw [mesh_z]; omega
  · show 0 * 4096 + r.val = r.val
    omega
  · show 0 * 1024 + j.val = j.val
    omega

theorem out_block {m : (ℓ : Loc Cert.KernelIdeal.nD Cert.KernelIdeal.τ Cert.KernelIdeal.sig) → Buf (Elt Ideal) ℓ}
    {ρ : Dev Cert.KernelIdeal.nD → PrngReg} {P : (⟨3, ![4, 4096, 1024]⟩ : Shape).Idx → EReal} {g : (⟨1, ![1024]⟩ : Shape).Idx → EReal}
    (hP : Cert.Fused.Dealt m ρ P) (c : Dev Cert.KernelIdeal.nD)
    (hg : m ((c.tc : Thread Cert.KernelIdeal.nD Cert.KernelIdeal.τ).loc Cert.KernelIdeal.main_arg1) = g) :
    Cert.Fused.outAt m ρ c = Layout.blockN ⟨2, ![1024, 1024]⟩ ⟨2, ![4096, 1024]⟩ (Layout.meshBlock [2, 4, 4] ![[2], []] c) (Cert.Fused.refOut P g) := by
  funext i
  obtain ⟨r, j, rfl⟩ : ∃ r j : Fin 1024, i = ix2 r j := ⟨i 0, i 1, funext fun a => by fin_cases a <;> rfl⟩
  rw [Cert.Fused.out_apply hP, Cert.Fused.gstg_eq, hg, Layout.blockN_apply]
  unfold Cert.Fused.refOut
  have h0 : ∀ h : Layout.TilesN ⟨2, ![1024, 1024]⟩ ⟨2, ![4096, 1024]⟩ _, h.idx (Layout.meshBlock [2, 4, 4] ![[2], []] c) (ix2 r j) 0 = Cert.Fused.rowOf c r := fun h =>
    Fin.ext (by
      rw [Layout.TilesN.idx_val, Layout.meshBlock_val]
      show Layout.meshLin [2, 4, 4] c.val [2] * 1024 + r.val = 1024 * (c.val % 4) + r.val
      rw [mesh_z]; omega)
  have h1 : ∀ h : Layout.TilesN ⟨2, ![1024, 1024]⟩ ⟨2, ![4096, 1024]⟩ _, h.idx (Layout.meshBlock [2, 4, 4] ![[2], []] c) (ix2 r j) 1 = j := fun h =>
    Fin.ext (by
      rw [Layout.TilesN.idx_val, Layout.meshBlock_val]
      show 0 * 1024 + j.val = j.val
      omega)
  rw [h0, h1]

theorem algebraic : Cert.algebraic_KernelIdeal_ReferenceIdeal := fun m ρ m' ρ' _ h =>
  ⟨Cert.Fused.refOut _ _,
    (θ_run (Cert.KernelIdeal.defs (F := Ideal)) _ _).mono
      (fun _ q c => ⟨(q.1 c 2).trans ((Cert.Fused.final_out m ρ c).trans (out_block (dealt_of_block ρ fun c => (h c).1) c (h c).2)),
        (q.1 c 0).trans (Cert.Fused.final_x m ρ c), (q.1 c 1).trans (Cert.Fused.final_g m ρ c)⟩)
      (Cert.Fused.run_main (F := Ideal) m ρ),
    (θ_run Cert.ReferenceIdeal.defs _ _).mono (fun _ q => q 0) (Cert.Fused.run_reference m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
